-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_ExpertUp [hPre_tables_up : Cert.Pre_tables_up.Facts] (m : (ℓ : Loc Cert.ExpertUp.nD Cert.ExpertUp.τ Cert.ExpertUp.sig) → Buf (Elt Bits) ℓ) : Prop :=
  ∀ c : Dev Cert.ExpertUp.nD,
    (Cert.Pre_tables_up.fn (F := Bits) (m ((c.tc : Thread Cert.ExpertUp.nD Cert.ExpertUp.τ).loc Cert.ExpertUp.main_arg0)) (m ((c.tc : Thread Cert.ExpertUp.nD Cert.ExpertUp.τ).loc Cert.ExpertUp.main_arg1)) (m ((c.tc : Thread Cert.ExpertUp.nD Cert.ExpertUp.τ).loc Cert.ExpertUp.main_arg2)) (m ((c.tc : Thread Cert.ExpertUp.nD Cert.ExpertUp.τ).loc Cert.ExpertUp.main_arg3))) = (fun _ => 1#1)

def Pre_ExpertUpIdeal [hPre_tables_up : Cert.Pre_tables_up.Facts] (m : (ℓ : Loc Cert.ExpertUpIdeal.nD Cert.ExpertUpIdeal.τ Cert.ExpertUpIdeal.sig) → Buf (Elt Ideal) ℓ) : Prop :=
  ∀ c : Dev Cert.ExpertUpIdeal.nD,
    (Cert.Pre_tables_up.fn (F := Ideal) (m ((c.tc : Thread Cert.ExpertUpIdeal.nD Cert.ExpertUpIdeal.τ).loc Cert.ExpertUpIdeal.main_arg0)) (m ((c.tc : Thread Cert.ExpertUpIdeal.nD Cert.ExpertUpIdeal.τ).loc Cert.ExpertUpIdeal.main_arg1)) (m ((c.tc : Thread Cert.ExpertUpIdeal.nD Cert.ExpertUpIdeal.τ).loc Cert.ExpertUpIdeal.main_arg2)) (m ((c.tc : Thread Cert.ExpertUpIdeal.nD Cert.ExpertUpIdeal.τ).loc Cert.ExpertUpIdeal.main_arg3))) = (fun _ => 1#1)

def Pre_ExpertUpRefIdeal (m : (ℓ : Loc Cert.ExpertUpRefIdeal.nD Cert.ExpertUpRefIdeal.τ Cert.ExpertUpRefIdeal.sig) → Buf (Elt Ideal) ℓ) : Prop :=
  True

def Pre_ExpertUpRefIdeal_tables_up [hPre_tables_up : Cert.Pre_tables_up.Facts] (m : (ℓ : Loc Cert.ExpertUpRefIdeal.nD Cert.ExpertUpRefIdeal.τ Cert.ExpertUpRefIdeal.sig) → Buf (Elt Ideal) ℓ) : Prop :=
  ∀ c : Dev Cert.ExpertUpRefIdeal.nD,
    (Cert.Pre_tables_up.fn (F := Ideal) (m ((c.tc : Thread Cert.ExpertUpRefIdeal.nD Cert.ExpertUpRefIdeal.τ).loc Cert.ExpertUpRefIdeal.main_arg0)) (m ((c.tc : Thread Cert.ExpertUpRefIdeal.nD Cert.ExpertUpRefIdeal.τ).loc Cert.ExpertUpRefIdeal.main_arg1)) (m ((c.tc : Thread Cert.ExpertUpRefIdeal.nD Cert.ExpertUpRefIdeal.τ).loc Cert.ExpertUpRefIdeal.main_arg2)) (m ((c.tc : Thread Cert.ExpertUpRefIdeal.nD Cert.ExpertUpRefIdeal.τ).loc Cert.ExpertUpRefIdeal.main_arg3))) = (fun _ => 1#1)

def Pre_ExpertDown [hPre_tables_down : Cert.Pre_tables_down.Facts] (m : (ℓ : Loc Cert.ExpertDown.nD Cert.ExpertDown.τ Cert.ExpertDown.sig) → Buf (Elt Bits) ℓ) : Prop :=
  ∀ c : Dev Cert.ExpertDown.nD,
    (Cert.Pre_tables_down.fn (F := Bits) (m ((c.tc : Thread Cert.ExpertDown.nD Cert.ExpertDown.τ).loc Cert.ExpertDown.main_arg0)) (m ((c.tc : Thread Cert.ExpertDown.nD Cert.ExpertDown.τ).loc Cert.ExpertDown.main_arg1)) (m ((c.tc : Thread Cert.ExpertDown.nD Cert.ExpertDown.τ).loc Cert.ExpertDown.main_arg2)) (m ((c.tc : Thread Cert.ExpertDown.nD Cert.ExpertDown.τ).loc Cert.ExpertDown.main_arg3))) = (fun _ => 1#1)

def Pre_ExpertDownIdeal [hPre_tables_down : Cert.Pre_tables_down.Facts] (m : (ℓ : Loc Cert.ExpertDownIdeal.nD Cert.ExpertDownIdeal.τ Cert.ExpertDownIdeal.sig) → Buf (Elt Ideal) ℓ) : Prop :=
  ∀ c : Dev Cert.ExpertDownIdeal.nD,
    (Cert.Pre_tables_down.fn (F := Ideal) (m ((c.tc : Thread Cert.ExpertDownIdeal.nD Cert.ExpertDownIdeal.τ).loc Cert.ExpertDownIdeal.main_arg0)) (m ((c.tc : Thread Cert.ExpertDownIdeal.nD Cert.ExpertDownIdeal.τ).loc Cert.ExpertDownIdeal.main_arg1)) (m ((c.tc : Thread Cert.ExpertDownIdeal.nD Cert.ExpertDownIdeal.τ).loc Cert.ExpertDownIdeal.main_arg2)) (m ((c.tc : Thread Cert.ExpertDownIdeal.nD Cert.ExpertDownIdeal.τ).loc Cert.ExpertDownIdeal.main_arg3))) = (fun _ => 1#1)

def Pre_ExpertDownRefIdeal (m : (ℓ : Loc Cert.ExpertDownRefIdeal.nD Cert.ExpertDownRefIdeal.τ Cert.ExpertDownRefIdeal.sig) → Buf (Elt Ideal) ℓ) : Prop :=
  True

def Pre_ExpertDownRefIdeal_tables_down [hPre_tables_down : Cert.Pre_tables_down.Facts] (m : (ℓ : Loc Cert.ExpertDownRefIdeal.nD Cert.ExpertDownRefIdeal.τ Cert.ExpertDownRefIdeal.sig) → Buf (Elt Ideal) ℓ) : Prop :=
  ∀ c : Dev Cert.ExpertDownRefIdeal.nD,
    (Cert.Pre_tables_down.fn (F := Ideal) (m ((c.tc : Thread Cert.ExpertDownRefIdeal.nD Cert.ExpertDownRefIdeal.τ).loc Cert.ExpertDownRefIdeal.main_arg0)) (m ((c.tc : Thread Cert.ExpertDownRefIdeal.nD Cert.ExpertDownRefIdeal.τ).loc Cert.ExpertDownRefIdeal.main_arg1)) (m ((c.tc : Thread Cert.ExpertDownRefIdeal.nD Cert.ExpertDownRefIdeal.τ).loc Cert.ExpertDownRefIdeal.main_arg2)) (m ((c.tc : Thread Cert.ExpertDownRefIdeal.nD Cert.ExpertDownRefIdeal.τ).loc Cert.ExpertDownRefIdeal.main_arg3))) = (fun _ => 1#1)

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInRefIdeal (m : (ℓ : Loc Cert.GdnInRefIdeal.nD Cert.GdnInRefIdeal.τ Cert.GdnInRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutRefIdeal (m : (ℓ : Loc Cert.GdnOutRefIdeal.nD Cert.GdnOutRefIdeal.τ Cert.GdnOutRefIdeal.sig) → Buf (Elt Ideal) ℓ) : Prop :=
  True

def Pre_DiffIn (m : (ℓ : Loc Cert.DiffIn.nD Cert.DiffIn.τ Cert.DiffIn.sig) → Buf (Elt Bits) ℓ) : Prop :=
  True

def Pre_DiffInIdeal (m : (ℓ : Loc Cert.DiffInIdeal.nD Cert.DiffInIdeal.τ Cert.DiffInIdeal.sig) → Buf (Elt Ideal) ℓ) : Prop :=
  True

def Pre_DiffInRefIdeal (m : (ℓ : Loc Cert.DiffInRefIdeal.nD Cert.DiffInRefIdeal.τ Cert.DiffInRefIdeal.sig) → Buf (Elt Ideal) ℓ) : Prop :=
  True

def Pre_DiffOut (m : (ℓ : Loc Cert.DiffOut.nD Cert.DiffOut.τ Cert.DiffOut.sig) → Buf (Elt Bits) ℓ) : Prop :=
  True

def Pre_DiffOutIdeal (m : (ℓ : Loc Cert.DiffOutIdeal.nD Cert.DiffOutIdeal.τ Cert.DiffOutIdeal.sig) → Buf (Elt Ideal) ℓ) : Prop :=
  True

def Pre_DiffOutRefIdeal (m : (ℓ : Loc Cert.DiffOutRefIdeal.nD Cert.DiffOutRefIdeal.τ Cert.DiffOutRefIdeal.sig) → Buf (Elt Ideal) ℓ) : Prop :=
  True

def Pre_GdnAb (m : (ℓ : Loc Cert.GdnAb.nD Cert.GdnAb.τ Cert.GdnAb.sig) → Buf (Elt Bits) ℓ) : Prop :=
  True

def Pre_GdnAbIdeal (m : (ℓ : Loc Cert.GdnAbIdeal.nD Cert.GdnAbIdeal.τ Cert.GdnAbIdeal.sig) → Buf (Elt Ideal) ℓ) : Prop :=
  True

def Pre_GdnAbRefIdeal (m : (ℓ : Loc Cert.GdnAbRefIdeal.nD Cert.GdnAbRefIdeal.τ Cert.GdnAbRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_NormGate (m : (ℓ : Loc Cert.NormGate.nD Cert.NormGate.τ Cert.NormGate.sig) → Buf (Elt Bits) ℓ) : Prop :=
  True

def Pre_NormGateIdeal (m : (ℓ : Loc Cert.NormGateIdeal.nD Cert.NormGateIdeal.τ Cert.NormGateIdeal.sig) → Buf (Elt Ideal) ℓ) : Prop :=
  True

def Pre_NormGateRefIdeal (m : (ℓ : Loc Cert.NormGateRefIdeal.nD Cert.NormGateRefIdeal.τ Cert.NormGateRefIdeal.sig) → Buf (Elt Ideal) ℓ) : Prop :=
  True

def Pre_ResLn (m : (ℓ : Loc Cert.ResLn.nD Cert.ResLn.τ Cert.ResLn.sig) → Buf (Elt Bits) ℓ) : Prop :=
  True

def Pre_ResLnIdeal (m : (ℓ : Loc Cert.ResLnIdeal.nD Cert.ResLnIdeal.τ Cert.ResLnIdeal.sig) → Buf (Elt Ideal) ℓ) : Prop :=
  True

def Pre_ResLnRefIdeal (m : (ℓ : Loc Cert.ResLnRefIdeal.nD Cert.ResLnRefIdeal.τ Cert.ResLnRefIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ExpertUp [hExpertUp : Cert.ExpertUp.Facts] [hPre_tables_up : Cert.Pre_tables_up.Facts] : Prop :=
  ∀ (m : (ℓ : Loc Cert.ExpertUp.nD Cert.ExpertUp.τ Cert.ExpertUp.sig) → Buf (Elt Bits) ℓ) (g : Dev Cert.ExpertUp.nD → PrngReg), Pre_ExpertUp m →
    θ_run (Cert.ExpertUp.defs (F := Bits)) (onTc (τ := Cert.ExpertUp.τ) (Cert.ExpertUp.main (F := Bits))) ⟨m, fun _ => 0, g⟩ (fun r => (∀ c : Dev Cert.ExpertUp.nD,
      r.2.mem ((c.tc : Thread Cert.ExpertUp.nD Cert.ExpertUp.τ).loc Cert.ExpertUp.main_arg0) = m ((c.tc : Thread Cert.ExpertUp.nD Cert.ExpertUp.τ).loc Cert.ExpertUp.main_arg0)
      ∧ r.2.mem ((c.tc : Thread Cert.ExpertUp.nD Cert.ExpertUp.τ).loc Cert.ExpertUp.main_arg1) = m ((c.tc : Thread Cert.ExpertUp.nD Cert.ExpertUp.τ).loc Cert.ExpertUp.main_arg1)
      ∧ r.2.mem ((c.tc : Thread Cert.ExpertUp.nD Cert.ExpertUp.τ).loc Cert.ExpertUp.main_arg2) = m ((c.tc : Thread Cert.ExpertUp.nD Cert.ExpertUp.τ).loc Cert.ExpertUp.main_arg2)
      ∧ r.2.mem ((c.tc : Thread Cert.ExpertUp.nD Cert.ExpertUp.τ).loc Cert.ExpertUp.main_arg3) = m ((c.tc : Thread Cert.ExpertUp.nD Cert.ExpertUp.τ).loc Cert.ExpertUp.main_arg3))
      ∧ r.2.sem = fun _ => 0)

def quiescent_ExpertUpIdeal [hExpertUpIdeal : Cert.ExpertUpIdeal.Facts] [hPre_tables_up : Cert.Pre_tables_up.Facts] : Prop :=
  ∀ (m : (ℓ : Loc Cert.ExpertUpIdeal.nD Cert.ExpertUpIdeal.τ Cert.ExpertUpIdeal.sig) → Buf (Elt Ideal) ℓ) (g : Dev Cert.ExpertUpIdeal.nD → PrngReg), Pre_ExpertUpIdeal m →
    θ_run (Cert.ExpertUpIdeal.defs (F := Ideal)) (onTc (τ := Cert.ExpertUpIdeal.τ) (Cert.ExpertUpIdeal.main (F := Ideal))) ⟨m, fun _ => 0, g⟩ (fun r => (∀ c : Dev Cert.ExpertUpIdeal.nD,
      r.2.mem ((c.tc : Thread Cert.ExpertUpIdeal.nD Cert.ExpertUpIdeal.τ).loc Cert.ExpertUpIdeal.main_arg0) = m ((c.tc : Thread Cert.ExpertUpIdeal.nD Cert.ExpertUpIdeal.τ).loc Cert.ExpertUpIdeal.main_arg0)
      ∧ r.2.mem ((c.tc : Thread Cert.ExpertUpIdeal.nD Cert.ExpertUpIdeal.τ).loc Cert.ExpertUpIdeal.main_arg1) = m ((c.tc : Thread Cert.ExpertUpIdeal.nD Cert.ExpertUpIdeal.τ).loc Cert.ExpertUpIdeal.main_arg1)
      ∧ r.2.mem ((c.tc : Thread Cert.ExpertUpIdeal.nD Cert.ExpertUpIdeal.τ).loc Cert.ExpertUpIdeal.main_arg2) = m ((c.tc : Thread Cert.ExpertUpIdeal.nD Cert.ExpertUpIdeal.τ).loc Cert.ExpertUpIdeal.main_arg2)
      ∧ r.2.mem ((c.tc : Thread Cert.ExpertUpIdeal.nD Cert.ExpertUpIdeal.τ).loc Cert.ExpertUpIdeal.main_arg3) = m ((c.tc : Thread Cert.ExpertUpIdeal.nD Cert.ExpertUpIdeal.τ).loc Cert.ExpertUpIdeal.main_arg3))
      ∧ r.2.sem = fun _ => 0)

def quiescent_ExpertUpRefIdeal [hExpertUpRefIdeal : Cert.ExpertUpRefIdeal.Facts] : Prop :=
  ∀ (m : (ℓ : Loc Cert.ExpertUpRefIdeal.nD Cert.ExpertUpRefIdeal.τ Cert.ExpertUpRefIdeal.sig) → Buf (Elt Ideal) ℓ) (g : Dev Cert.ExpertUpRefIdeal.nD → PrngReg), Pre_ExpertUpRefIdeal m →
    θ_run (Cert.ExpertUpRefIdeal.defs (F := Ideal)) (onTc (τ := Cert.ExpertUpRefIdeal.τ) (Cert.ExpertUpRefIdeal.main (F := Ideal))) ⟨m, fun _ => 0, g⟩ (fun r => (∀ c : Dev Cert.ExpertUpRefIdeal.nD,
      r.2.mem ((c.tc : Thread Cert.ExpertUpRefIdeal.nD Cert.ExpertUpRefIdeal.τ).loc Cert.ExpertUpRefIdeal.main_arg0) = m ((c.tc : Thread Cert.ExpertUpRefIdeal.nD Cert.ExpertUpRefIdeal.τ).loc Cert.ExpertUpRefIdeal.main_arg0)
      ∧ r.2.mem ((c.tc : Thread Cert.ExpertUpRefIdeal.nD Cert.ExpertUpRefIdeal.τ).loc Cert.ExpertUpRefIdeal.main_arg1) = m ((c.tc : Thread Cert.ExpertUpRefIdeal.nD Cert.ExpertUpRefIdeal.τ).loc Cert.ExpertUpRefIdeal.main_arg1)
      ∧ r.2.mem ((c.tc : Thread Cert.ExpertUpRefIdeal.nD Cert.ExpertUpRefIdeal.τ).loc Cert.ExpertUpRefIdeal.main_arg2) = m ((c.tc : Thread Cert.ExpertUpRefIdeal.nD Cert.ExpertUpRefIdeal.τ).loc Cert.ExpertUpRefIdeal.main_arg2)
      ∧ r.2.mem ((c.tc : Thread Cert.ExpertUpRefIdeal.nD Cert.ExpertUpRefIdeal.τ).loc Cert.ExpertUpRefIdeal.main_arg3) = m ((c.tc : Thread Cert.ExpertUpRefIdeal.nD Cert.ExpertUpRefIdeal.τ).loc Cert.ExpertUpRefIdeal.main_arg3))
      ∧ r.2.sem = fun _ => 0)

def quiescent_ExpertUpRefIdeal_pre_tables_up [hExpertUpRefIdeal : Cert.ExpertUpRefIdeal.Facts] [hPre_tables_up : Cert.Pre_tables_up.Facts] : Prop :=
  ∀ (m : (ℓ : Loc Cert.ExpertUpRefIdeal.nD Cert.ExpertUpRefIdeal.τ Cert.ExpertUpRefIdeal.sig) → Buf (Elt Ideal) ℓ) (g : Dev Cert.ExpertUpRefIdeal.nD → PrngReg), Pre_ExpertUpRefIdeal_tables_up m →
    θ_run (Cert.ExpertUpRefIdeal.defs (F := Ideal)) (onTc (τ := Cert.ExpertUpRefIdeal.τ) (Cert.ExpertUpRefIdeal.main (F := Ideal))) ⟨m, fun _ => 0, g⟩ (fun r => (∀ c : Dev Cert.ExpertUpRefIdeal.nD,
      r.2.mem ((c.tc : Thread Cert.ExpertUpRefIdeal.nD Cert.ExpertUpRefIdeal.τ).loc Cert.ExpertUpRefIdeal.main_arg0) = m ((c.tc : Thread Cert.ExpertUpRefIdeal.nD Cert.ExpertUpRefIdeal.τ).loc Cert.ExpertUpRefIdeal.main_arg0)
      ∧ r.2.mem ((c.tc : Thread Cert.ExpertUpRefIdeal.nD Cert.ExpertUpRefIdeal.τ).loc Cert.ExpertUpRefIdeal.main_arg1) = m ((c.tc : Thread Cert.ExpertUpRefIdeal.nD Cert.ExpertUpRefIdeal.τ).loc Cert.ExpertUpRefIdeal.main_arg1)
      ∧ r.2.mem ((c.tc : Thread Cert.ExpertUpRefIdeal.nD Cert.ExpertUpRefIdeal.τ).loc Cert.ExpertUpRefIdeal.main_arg2) = m ((c.tc : Thread Cert.ExpertUpRefIdeal.nD Cert.ExpertUpRefIdeal.τ).loc Cert.ExpertUpRefIdeal.main_arg2)
      ∧ r.2.mem ((c.tc : Thread Cert.ExpertUpRefIdeal.nD Cert.ExpertUpRefIdeal.τ).loc Cert.ExpertUpRefIdeal.main_arg3) = m ((c.tc : Thread Cert.ExpertUpRefIdeal.nD Cert.ExpertUpRefIdeal.τ).loc Cert.ExpertUpRefIdeal.main_arg3))
      ∧ r.2.sem = fun _ => 0)

def quiescent_ExpertDown [hExpertDown : Cert.ExpertDown.Facts] [hPre_tables_down : Cert.Pre_tables_down.Facts] : Prop :=
  ∀ (m : (ℓ : Loc Cert.ExpertDown.nD Cert.ExpertDown.τ Cert.ExpertDown.sig) → Buf (Elt Bits) ℓ) (g : Dev Cert.ExpertDown.nD → PrngReg), Pre_ExpertDown m →
    θ_run (Cert.ExpertDown.defs (F := Bits)) (onTc (τ := Cert.ExpertDown.τ) (Cert.ExpertDown.main (F := Bits))) ⟨m, fun _ => 0, g⟩ (fun r => (∀ c : Dev Cert.ExpertDown.nD,
      r.2.mem ((c.tc : Thread Cert.ExpertDown.nD Cert.ExpertDown.τ).loc Cert.ExpertDown.main_arg0) = m ((c.tc : Thread Cert.ExpertDown.nD Cert.ExpertDown.τ).loc Cert.ExpertDown.main_arg0)
      ∧ r.2.mem ((c.tc : Thread Cert.ExpertDown.nD Cert.ExpertDown.τ).loc Cert.ExpertDown.main_arg1) = m ((c.tc : Thread Cert.ExpertDown.nD Cert.ExpertDown.τ).loc Cert.ExpertDown.main_arg1)
      ∧ r.2.mem ((c.tc : Thread Cert.ExpertDown.nD Cert.ExpertDown.τ).loc Cert.ExpertDown.main_arg2) = m ((c.tc : Thread Cert.ExpertDown.nD Cert.ExpertDown.τ).loc Cert.ExpertDown.main_arg2)
      ∧ r.2.mem ((c.tc : Thread Cert.ExpertDown.nD Cert.ExpertDown.τ).loc Cert.ExpertDown.main_arg3) = m ((c.tc : Thread Cert.ExpertDown.nD Cert.ExpertDown.τ).loc Cert.ExpertDown.main_arg3))
      ∧ r.2.sem = fun _ => 0)

def quiescent_ExpertDownIdeal [hExpertDownIdeal : Cert.ExpertDownIdeal.Facts] [hPre_tables_down : Cert.Pre_tables_down.Facts] : Prop :=
  ∀ (m : (ℓ : Loc Cert.ExpertDownIdeal.nD Cert.ExpertDownIdeal.τ Cert.ExpertDownIdeal.sig) → Buf (Elt Ideal) ℓ) (g : Dev Cert.ExpertDownIdeal.nD → PrngReg), Pre_ExpertDownIdeal m →
    θ_run (Cert.ExpertDownIdeal.defs (F := Ideal)) (onTc (τ := Cert.ExpertDownIdeal.τ) (Cert.ExpertDownIdeal.main (F := Ideal))) ⟨m, fun _ => 0, g⟩ (fun r => (∀ c : Dev Cert.ExpertDownIdeal.nD,
      r.2.mem ((c.tc : Thread Cert.ExpertDownIdeal.nD Cert.ExpertDownIdeal.τ).loc Cert.ExpertDownIdeal.main_arg0) = m ((c.tc : Thread Cert.ExpertDownIdeal.nD Cert.ExpertDownIdeal.τ).loc Cert.ExpertDownIdeal.main_arg0)
      ∧ r.2.mem ((c.tc : Thread Cert.ExpertDownIdeal.nD Cert.ExpertDownIdeal.τ).loc Cert.ExpertDownIdeal.main_arg1) = m ((c.tc : Thread Cert.ExpertDownIdeal.nD Cert.ExpertDownIdeal.τ).loc Cert.ExpertDownIdeal.main_arg1)
      ∧ r.2.mem ((c.tc : Thread Cert.ExpertDownIdeal.nD Cert.ExpertDownIdeal.τ).loc Cert.ExpertDownIdeal.main_arg2) = m ((c.tc : Thread Cert.ExpertDownIdeal.nD Cert.ExpertDownIdeal.τ).loc Cert.ExpertDownIdeal.main_arg2)
      ∧ r.2.mem ((c.tc : Thread Cert.ExpertDownIdeal.nD Cert.ExpertDownIdeal.τ).loc Cert.ExpertDownIdeal.main_arg3) = m ((c.tc : Thread Cert.ExpertDownIdeal.nD Cert.ExpertDownIdeal.τ).loc Cert.ExpertDownIdeal.main_arg3))
      ∧ r.2.sem = fun _ => 0)

def quiescent_ExpertDownRefIdeal [hExpertDownRefIdeal : Cert.ExpertDownRefIdeal.Facts] : Prop :=
  ∀ (m : (ℓ : Loc Cert.ExpertDownRefIdeal.nD Cert.ExpertDownRefIdeal.τ Cert.ExpertDownRefIdeal.sig) → Buf (Elt Ideal) ℓ) (g : Dev Cert.ExpertDownRefIdeal.nD → PrngReg), Pre_ExpertDownRefIdeal m →
    θ_run (Cert.ExpertDownRefIdeal.defs (F := Ideal)) (onTc (τ := Cert.ExpertDownRefIdeal.τ) (Cert.ExpertDownRefIdeal.main (F := Ideal))) ⟨m, fun _ => 0, g⟩ (fun r => (∀ c : Dev Cert.ExpertDownRefIdeal.nD,
      r.2.mem ((c.tc : Thread Cert.ExpertDownRefIdeal.nD Cert.ExpertDownRefIdeal.τ).loc Cert.ExpertDownRefIdeal.main_arg0) = m ((c.tc : Thread Cert.ExpertDownRefIdeal.nD Cert.ExpertDownRefIdeal.τ).loc Cert.ExpertDownRefIdeal.main_arg0)
      ∧ r.2.mem ((c.tc : Thread Cert.ExpertDownRefIdeal.nD Cert.ExpertDownRefIdeal.τ).loc Cert.ExpertDownRefIdeal.main_arg1) = m ((c.tc : Thread Cert.ExpertDownRefIdeal.nD Cert.ExpertDownRefIdeal.τ).loc Cert.ExpertDownRefIdeal.main_arg1)
      ∧ r.2.mem ((c.tc : Thread Cert.ExpertDownRefIdeal.nD Cert.ExpertDownRefIdeal.τ).loc Cert.ExpertDownRefIdeal.main_arg2) = m ((c.tc : Thread Cert.ExpertDownRefIdeal.nD Cert.ExpertDownRefIdeal.τ).loc Cert.ExpertDownRefIdeal.main_arg2)
      ∧ r.2.mem ((c.tc : Thread Cert.ExpertDownRefIdeal.nD Cert.ExpertDownRefIdeal.τ).loc Cert.ExpertDownRefIdeal.main_arg3) = m ((c.tc : Thread Cert.ExpertDownRefIdeal.nD Cert.ExpertDownRefIdeal.τ).loc Cert.ExpertDownRefIdeal.main_arg3))
      ∧ r.2.sem = fun _ => 0)

def quiescent_ExpertDownRefIdeal_pre_tables_down [hExpertDownRefIdeal : Cert.ExpertDownRefIdeal.Facts] [hPre_tables_down : Cert.Pre_tables_down.Facts] : Prop :=
  ∀ (m : (ℓ : Loc Cert.ExpertDownRefIdeal.nD Cert.ExpertDownRefIdeal.τ Cert.ExpertDownRefIdeal.sig) → Buf (Elt Ideal) ℓ) (g : Dev Cert.ExpertDownRefIdeal.nD → PrngReg), Pre_ExpertDownRefIdeal_tables_down m →
    θ_run (Cert.ExpertDownRefIdeal.defs (F := Ideal)) (onTc (τ := Cert.ExpertDownRefIdeal.τ) (Cert.ExpertDownRefIdeal.main (F := Ideal))) ⟨m, fun _ => 0, g⟩ (fun r => (∀ c : Dev Cert.ExpertDownRefIdeal.nD,
      r.2.mem ((c.tc : Thread Cert.ExpertDownRefIdeal.nD Cert.ExpertDownRefIdeal.τ).loc Cert.ExpertDownRefIdeal.main_arg0) = m ((c.tc : Thread Cert.ExpertDownRefIdeal.nD Cert.ExpertDownRefIdeal.τ).loc Cert.ExpertDownRefIdeal.main_arg0)
      ∧ r.2.mem ((c.tc : Thread Cert.ExpertDownRefIdeal.nD Cert.ExpertDownRefIdeal.τ).loc Cert.ExpertDownRefIdeal.main_arg1) = m ((c.tc : Thread Cert.ExpertDownRefIdeal.nD Cert.ExpertDownRefIdeal.τ).loc Cert.ExpertDownRefIdeal.main_arg1)
      ∧ r.2.mem ((c.tc : Thread Cert.ExpertDownRefIdeal.nD Cert.ExpertDownRefIdeal.τ).loc Cert.ExpertDownRefIdeal.main_arg2) = m ((c.tc : Thread Cert.ExpertDownRefIdeal.nD Cert.ExpertDownRefIdeal.τ).loc Cert.ExpertDownRefIdeal.main_arg2)
      ∧ r.2.mem ((c.tc : Thread Cert.ExpertDownRefIdeal.nD Cert.ExpertDownRefIdeal.τ).loc Cert.ExpertDownRefIdeal.main_arg3) = m ((c.tc : Thread Cert.ExpertDownRefIdeal.nD Cert.ExpertDownRefIdeal.τ).loc Cert.ExpertDownRefIdeal.main_arg3))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ r.2.sem = fun _ => 0)

def quiescent_GdnInRefIdeal [hGdnInRefIdeal : Cert.GdnInRefIdeal.Facts] : Prop :=
  ∀ (m : (ℓ : Loc Cert.GdnInRefIdeal.nD Cert.GdnInRefIdeal.τ Cert.GdnInRefIdeal.sig) → Buf (Elt Ideal) ℓ) (g : Dev Cert.GdnInRefIdeal.nD → PrngReg), Pre_GdnInRefIdeal m →
    θ_run (Cert.GdnInRefIdeal.defs (F := Ideal)) (onTc (τ := Cert.GdnInRefIdeal.τ) (Cert.GdnInRefIdeal.main (F := Ideal))) ⟨m, fun _ => 0, g⟩ (fun r => (∀ c : Dev Cert.GdnInRefIdeal.nD,
      r.2.mem ((c.tc : Thread Cert.GdnInRefIdeal.nD Cert.GdnInRefIdeal.τ).loc Cert.GdnInRefIdeal.main_arg0) = m ((c.tc : Thread Cert.GdnInRefIdeal.nD Cert.GdnInRefIdeal.τ).loc Cert.GdnInRefIdeal.main_arg0)
      ∧ r.2.mem ((c.tc : Thread Cert.GdnInRefIdeal.nD Cert.GdnInRefIdeal.τ).loc Cert.GdnInRefIdeal.main_arg1) = m ((c.tc : Thread Cert.GdnInRefIdeal.nD Cert.GdnInRefIdeal.τ).loc Cert.GdnInRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1))
      ∧ r.2.sem = fun _ => 0)

def quiescent_GdnOutRefIdeal [hGdnOutRefIdeal : Cert.GdnOutRefIdeal.Facts] : Prop :=
  ∀ (m : (ℓ : Loc Cert.GdnOutRefIdeal.nD Cert.GdnOutRefIdeal.τ Cert.GdnOutRefIdeal.sig) → Buf (Elt Ideal) ℓ) (g : Dev Cert.GdnOutRefIdeal.nD → PrngReg), Pre_GdnOutRefIdeal m →
    θ_run (Cert.GdnOutRefIdeal.defs (F := Ideal)) (onTc (τ := Cert.GdnOutRefIdeal.τ) (Cert.GdnOutRefIdeal.main (F := Ideal))) ⟨m, fun _ => 0, g⟩ (fun r => (∀ c : Dev Cert.GdnOutRefIdeal.nD,
      r.2.mem ((c.tc : Thread Cert.GdnOutRefIdeal.nD Cert.GdnOutRefIdeal.τ).loc Cert.GdnOutRefIdeal.main_arg0) = m ((c.tc : Thread Cert.GdnOutRefIdeal.nD Cert.GdnOutRefIdeal.τ).loc Cert.GdnOutRefIdeal.main_arg0)
      ∧ r.2.mem ((c.tc : Thread Cert.GdnOutRefIdeal.nD Cert.GdnOutRefIdeal.τ).loc Cert.GdnOutRefIdeal.main_arg1) = m ((c.tc : Thread Cert.GdnOutRefIdeal.nD Cert.GdnOutRefIdeal.τ).loc Cert.GdnOutRefIdeal.main_arg1))
      ∧ r.2.sem = fun _ => 0)

def quiescent_DiffIn [hDiffIn : Cert.DiffIn.Facts] : Prop :=
  ∀ (m : (ℓ : Loc Cert.DiffIn.nD Cert.DiffIn.τ Cert.DiffIn.sig) → Buf (Elt Bits) ℓ) (g : Dev Cert.DiffIn.nD → PrngReg), Pre_DiffIn m →
    θ_run (Cert.DiffIn.defs (F := Bits)) (onTc (τ := Cert.DiffIn.τ) (Cert.DiffIn.main (F := Bits))) ⟨m, fun _ => 0, g⟩ (fun r => (∀ c : Dev Cert.DiffIn.nD,
      r.2.mem ((c.tc : Thread Cert.DiffIn.nD Cert.DiffIn.τ).loc Cert.DiffIn.main_arg0) = m ((c.tc : Thread Cert.DiffIn.nD Cert.DiffIn.τ).loc Cert.DiffIn.main_arg0)
      ∧ r.2.mem ((c.tc : Thread Cert.DiffIn.nD Cert.DiffIn.τ).loc Cert.DiffIn.main_arg1) = m ((c.tc : Thread Cert.DiffIn.nD Cert.DiffIn.τ).loc Cert.DiffIn.main_arg1))
      ∧ r.2.sem = fun _ => 0)

def quiescent_DiffInIdeal [hDiffInIdeal : Cert.DiffInIdeal.Facts] : Prop :=
  ∀ (m : (ℓ : Loc Cert.DiffInIdeal.nD Cert.DiffInIdeal.τ Cert.DiffInIdeal.sig) → Buf (Elt Ideal) ℓ) (g : Dev Cert.DiffInIdeal.nD → PrngReg), Pre_DiffInIdeal m →
    θ_run (Cert.DiffInIdeal.defs (F := Ideal)) (onTc (τ := Cert.DiffInIdeal.τ) (Cert.DiffInIdeal.main (F := Ideal))) ⟨m, fun _ => 0, g⟩ (fun r => (∀ c : Dev Cert.DiffInIdeal.nD,
      r.2.mem ((c.tc : Thread Cert.DiffInIdeal.nD Cert.DiffInIdeal.τ).loc Cert.DiffInIdeal.main_arg0) = m ((c.tc : Thread Cert.DiffInIdeal.nD Cert.DiffInIdeal.τ).loc Cert.DiffInIdeal.main_arg0)
      ∧ r.2.mem ((c.tc : Thread Cert.DiffInIdeal.nD Cert.DiffInIdeal.τ).loc Cert.DiffInIdeal.main_arg1) = m ((c.tc : Thread Cert.DiffInIdeal.nD Cert.DiffInIdeal.τ).loc Cert.DiffInIdeal.main_arg1))
      ∧ r.2.sem = fun _ => 0)

def quiescent_DiffInRefIdeal [hDiffInRefIdeal : Cert.DiffInRefIdeal.Facts] : Prop :=
  ∀ (m : (ℓ : Loc Cert.DiffInRefIdeal.nD Cert.DiffInRefIdeal.τ Cert.DiffInRefIdeal.sig) → Buf (Elt Ideal) ℓ) (g : Dev Cert.DiffInRefIdeal.nD → PrngReg), Pre_DiffInRefIdeal m →
    θ_run (Cert.DiffInRefIdeal.defs (F := Ideal)) (onTc (τ := Cert.DiffInRefIdeal.τ) (Cert.DiffInRefIdeal.main (F := Ideal))) ⟨m, fun _ => 0, g⟩ (fun r => (∀ c : Dev Cert.DiffInRefIdeal.nD,
      r.2.mem ((c.tc : Thread Cert.DiffInRefIdeal.nD Cert.DiffInRefIdeal.τ).loc Cert.DiffInRefIdeal.main_arg0) = m ((c.tc : Thread Cert.DiffInRefIdeal.nD Cert.DiffInRefIdeal.τ).loc Cert.DiffInRefIdeal.main_arg0)
      ∧ r.2.mem ((c.tc : Thread Cert.DiffInRefIdeal.nD Cert.DiffInRefIdeal.τ).loc Cert.DiffInRefIdeal.main_arg1) = m ((c.tc : Thread Cert.DiffInRefIdeal.nD Cert.DiffInRefIdeal.τ).loc Cert.DiffInRefIdeal.main_arg1))
      ∧ r.2.sem = fun _ => 0)

def quiescent_DiffOut [hDiffOut : Cert.DiffOut.Facts] : Prop :=
  ∀ (m : (ℓ : Loc Cert.DiffOut.nD Cert.DiffOut.τ Cert.DiffOut.sig) → Buf (Elt Bits) ℓ) (g : Dev Cert.DiffOut.nD → PrngReg), Pre_DiffOut m →
    θ_run (Cert.DiffOut.defs (F := Bits)) (onTc (τ := Cert.DiffOut.τ) (Cert.DiffOut.main (F := Bits))) ⟨m, fun _ => 0, g⟩ (fun r => (∀ c : Dev Cert.DiffOut.nD,
      r.2.mem ((c.tc : Thread Cert.DiffOut.nD Cert.DiffOut.τ).loc Cert.DiffOut.main_arg0) = m ((c.tc : Thread Cert.DiffOut.nD Cert.DiffOut.τ).loc Cert.DiffOut.main_arg0)
      ∧ r.2.mem ((c.tc : Thread Cert.DiffOut.nD Cert.DiffOut.τ).loc Cert.DiffOut.main_arg1) = m ((c.tc : Thread Cert.DiffOut.nD Cert.DiffOut.τ).loc Cert.DiffOut.main_arg1))
      ∧ r.2.sem = fun _ => 0)

def quiescent_DiffOutIdeal [hDiffOutIdeal : Cert.DiffOutIdeal.Facts] : Prop :=
  ∀ (m : (ℓ : Loc Cert.DiffOutIdeal.nD Cert.DiffOutIdeal.τ Cert.DiffOutIdeal.sig) → Buf (Elt Ideal) ℓ) (g : Dev Cert.DiffOutIdeal.nD → PrngReg), Pre_DiffOutIdeal m →
    θ_run (Cert.DiffOutIdeal.defs (F := Ideal)) (onTc (τ := Cert.DiffOutIdeal.τ) (Cert.DiffOutIdeal.main (F := Ideal))) ⟨m, fun _ => 0, g⟩ (fun r => (∀ c : Dev Cert.DiffOutIdeal.nD,
      r.2.mem ((c.tc : Thread Cert.DiffOutIdeal.nD Cert.DiffOutIdeal.τ).loc Cert.DiffOutIdeal.main_arg0) = m ((c.tc : Thread Cert.DiffOutIdeal.nD Cert.DiffOutIdeal.τ).loc Cert.DiffOutIdeal.main_arg0)
      ∧ r.2.mem ((c.tc : Thread Cert.DiffOutIdeal.nD Cert.DiffOutIdeal.τ).loc Cert.DiffOutIdeal.main_arg1) = m ((c.tc : Thread Cert.DiffOutIdeal.nD Cert.DiffOutIdeal.τ).loc Cert.DiffOutIdeal.main_arg1))
      ∧ r.2.sem = fun _ => 0)

def quiescent_DiffOutRefIdeal [hDiffOutRefIdeal : Cert.DiffOutRefIdeal.Facts] : Prop :=
  ∀ (m : (ℓ : Loc Cert.DiffOutRefIdeal.nD Cert.DiffOutRefIdeal.τ Cert.DiffOutRefIdeal.sig) → Buf (Elt Ideal) ℓ) (g : Dev Cert.DiffOutRefIdeal.nD → PrngReg), Pre_DiffOutRefIdeal m →
    θ_run (Cert.DiffOutRefIdeal.defs (F := Ideal)) (onTc (τ := Cert.DiffOutRefIdeal.τ) (Cert.DiffOutRefIdeal.main (F := Ideal))) ⟨m, fun _ => 0, g⟩ (fun r => (∀ c : Dev Cert.DiffOutRefIdeal.nD,
      r.2.mem ((c.tc : Thread Cert.DiffOutRefIdeal.nD Cert.DiffOutRefIdeal.τ).loc Cert.DiffOutRefIdeal.main_arg0) = m ((c.tc : Thread Cert.DiffOutRefIdeal.nD Cert.DiffOutRefIdeal.τ).loc Cert.DiffOutRefIdeal.main_arg0)
      ∧ r.2.mem ((c.tc : Thread Cert.DiffOutRefIdeal.nD Cert.DiffOutRefIdeal.τ).loc Cert.DiffOutRefIdeal.main_arg1) = m ((c.tc : Thread Cert.DiffOutRefIdeal.nD Cert.DiffOutRefIdeal.τ).loc Cert.DiffOutRefIdeal.main_arg1))
      ∧ r.2.sem = fun _ => 0)

def quiescent_GdnAb [hGdnAb : Cert.GdnAb.Facts] : Prop :=
  ∀ (m : (ℓ : Loc Cert.GdnAb.nD Cert.GdnAb.τ Cert.GdnAb.sig) → Buf (Elt Bits) ℓ) (g : Dev Cert.GdnAb.nD → PrngReg), Pre_GdnAb m →
    θ_run (Cert.GdnAb.defs (F := Bits)) (onTc (τ := Cert.GdnAb.τ) (Cert.GdnAb.main (F := Bits))) ⟨m, fun _ => 0, g⟩ (fun r => (∀ c : Dev Cert.GdnAb.nD,
      r.2.mem ((c.tc : Thread Cert.GdnAb.nD Cert.GdnAb.τ).loc Cert.GdnAb.main_arg0) = m ((c.tc : Thread Cert.GdnAb.nD Cert.GdnAb.τ).loc Cert.GdnAb.main_arg0)
      ∧ r.2.mem ((c.tc : Thread Cert.GdnAb.nD Cert.GdnAb.τ).loc Cert.GdnAb.main_arg1) = m ((c.tc : Thread Cert.GdnAb.nD Cert.GdnAb.τ).loc Cert.GdnAb.main_arg1))
      ∧ r.2.sem = fun _ => 0)

def quiescent_GdnAbIdeal [hGdnAbIdeal : Cert.GdnAbIdeal.Facts] : Prop :=
  ∀ (m : (ℓ : Loc Cert.GdnAbIdeal.nD Cert.GdnAbIdeal.τ Cert.GdnAbIdeal.sig) → Buf (Elt Ideal) ℓ) (g : Dev Cert.GdnAbIdeal.nD → PrngReg), Pre_GdnAbIdeal m →
    θ_run (Cert.GdnAbIdeal.defs (F := Ideal)) (onTc (τ := Cert.GdnAbIdeal.τ) (Cert.GdnAbIdeal.main (F := Ideal))) ⟨m, fun _ => 0, g⟩ (fun r => (∀ c : Dev Cert.GdnAbIdeal.nD,
      r.2.mem ((c.tc : Thread Cert.GdnAbIdeal.nD Cert.GdnAbIdeal.τ).loc Cert.GdnAbIdeal.main_arg0) = m ((c.tc : Thread Cert.GdnAbIdeal.nD Cert.GdnAbIdeal.τ).loc Cert.GdnAbIdeal.main_arg0)
      ∧ r.2.mem ((c.tc : Thread Cert.GdnAbIdeal.nD Cert.GdnAbIdeal.τ).loc Cert.GdnAbIdeal.main_arg1) = m ((c.tc : Thread Cert.GdnAbIdeal.nD Cert.GdnAbIdeal.τ).loc Cert.GdnAbIdeal.main_arg1))
      ∧ r.2.sem = fun _ => 0)

def quiescent_GdnAbRefIdeal [hGdnAbRefIdeal : Cert.GdnAbRefIdeal.Facts] : Prop :=
  ∀ (m : (ℓ : Loc Cert.GdnAbRefIdeal.nD Cert.GdnAbRefIdeal.τ Cert.GdnAbRefIdeal.sig) → Buf (Elt Ideal) ℓ) (g : Dev Cert.GdnAbRefIdeal.nD → PrngReg), Pre_GdnAbRefIdeal m →
    θ_run (Cert.GdnAbRefIdeal.defs (F := Ideal)) (onTc (τ := Cert.GdnAbRefIdeal.τ) (Cert.GdnAbRefIdeal.main (F := Ideal))) ⟨m, fun _ => 0, g⟩ (fun r => (∀ c : Dev Cert.GdnAbRefIdeal.nD,
      r.2.mem ((c.tc : Thread Cert.GdnAbRefIdeal.nD Cert.GdnAbRefIdeal.τ).loc Cert.GdnAbRefIdeal.main_arg0) = m ((c.tc : Thread Cert.GdnAbRefIdeal.nD Cert.GdnAbRefIdeal.τ).loc Cert.GdnAbRefIdeal.main_arg0)
      ∧ r.2.mem ((c.tc : Thread Cert.GdnAbRefIdeal.nD Cert.GdnAbRefIdeal.τ).loc Cert.GdnAbRefIdeal.main_arg1) = m ((c.tc : Thread Cert.GdnAbRefIdeal.nD Cert.GdnAbRefIdeal.τ).loc Cert.GdnAbRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_NormGate [hNormGate : Cert.NormGate.Facts] : Prop :=
  ∀ (m : (ℓ : Loc Cert.NormGate.nD Cert.NormGate.τ Cert.NormGate.sig) → Buf (Elt Bits) ℓ) (g : Dev Cert.NormGate.nD → PrngReg), Pre_NormGate m →
    θ_run (Cert.NormGate.defs (F := Bits)) (onTc (τ := Cert.NormGate.τ) (Cert.NormGate.main (F := Bits))) ⟨m, fun _ => 0, g⟩ (fun r => (∀ c : Dev Cert.NormGate.nD,
      r.2.mem ((c.tc : Thread Cert.NormGate.nD Cert.NormGate.τ).loc Cert.NormGate.main_arg0) = m ((c.tc : Thread Cert.NormGate.nD Cert.NormGate.τ).loc Cert.NormGate.main_arg0)
      ∧ r.2.mem ((c.tc : Thread Cert.NormGate.nD Cert.NormGate.τ).loc Cert.NormGate.main_arg1) = m ((c.tc : Thread Cert.NormGate.nD Cert.NormGate.τ).loc Cert.NormGate.main_arg1)
      ∧ r.2.mem ((c.tc : Thread Cert.NormGate.nD Cert.NormGate.τ).loc Cert.NormGate.main_arg2) = m ((c.tc : Thread Cert.NormGate.nD Cert.NormGate.τ).loc Cert.NormGate.main_arg2))
      ∧ r.2.sem = fun _ => 0)

def quiescent_NormGateIdeal [hNormGateIdeal : Cert.NormGateIdeal.Facts] : Prop :=
  ∀ (m : (ℓ : Loc Cert.NormGateIdeal.nD Cert.NormGateIdeal.τ Cert.NormGateIdeal.sig) → Buf (Elt Ideal) ℓ) (g : Dev Cert.NormGateIdeal.nD → PrngReg), Pre_NormGateIdeal m →
    θ_run (Cert.NormGateIdeal.defs (F := Ideal)) (onTc (τ := Cert.NormGateIdeal.τ) (Cert.NormGateIdeal.main (F := Ideal))) ⟨m, fun _ => 0, g⟩ (fun r => (∀ c : Dev Cert.NormGateIdeal.nD,
      r.2.mem ((c.tc : Thread Cert.NormGateIdeal.nD Cert.NormGateIdeal.τ).loc Cert.NormGateIdeal.main_arg0) = m ((c.tc : Thread Cert.NormGateIdeal.nD Cert.NormGateIdeal.τ).loc Cert.NormGateIdeal.main_arg0)
      ∧ r.2.mem ((c.tc : Thread Cert.NormGateIdeal.nD Cert.NormGateIdeal.τ).loc Cert.NormGateIdeal.main_arg1) = m ((c.tc : Thread Cert.NormGateIdeal.nD Cert.NormGateIdeal.τ).loc Cert.NormGateIdeal.main_arg1)
      ∧ r.2.mem ((c.tc : Thread Cert.NormGateIdeal.nD Cert.NormGateIdeal.τ).loc Cert.NormGateIdeal.main_arg2) = m ((c.tc : Thread Cert.NormGateIdeal.nD Cert.NormGateIdeal.τ).loc Cert.NormGateIdeal.main_arg2))
      ∧ r.2.sem = fun _ => 0)

def quiescent_NormGateRefIdeal [hNormGateRefIdeal : Cert.NormGateRefIdeal.Facts] : Prop :=
  ∀ (m : (ℓ : Loc Cert.NormGateRefIdeal.nD Cert.NormGateRefIdeal.τ Cert.NormGateRefIdeal.sig) → Buf (Elt Ideal) ℓ) (g : Dev Cert.NormGateRefIdeal.nD → PrngReg), Pre_NormGateRefIdeal m →
    θ_run (Cert.NormGateRefIdeal.defs (F := Ideal)) (onTc (τ := Cert.NormGateRefIdeal.τ) (Cert.NormGateRefIdeal.main (F := Ideal))) ⟨m, fun _ => 0, g⟩ (fun r => (∀ c : Dev Cert.NormGateRefIdeal.nD,
      r.2.mem ((c.tc : Thread Cert.NormGateRefIdeal.nD Cert.NormGateRefIdeal.τ).loc Cert.NormGateRefIdeal.main_arg0) = m ((c.tc : Thread Cert.NormGateRefIdeal.nD Cert.NormGateRefIdeal.τ).loc Cert.NormGateRefIdeal.main_arg0)
      ∧ r.2.mem ((c.tc : Thread Cert.NormGateRefIdeal.nD Cert.NormGateRefIdeal.τ).loc Cert.NormGateRefIdeal.main_arg1) = m ((c.tc : Thread Cert.NormGateRefIdeal.nD Cert.NormGateRefIdeal.τ).loc Cert.NormGateRefIdeal.main_arg1)
      ∧ r.2.mem ((c.tc : Thread Cert.NormGateRefIdeal.nD Cert.NormGateRefIdeal.τ).loc Cert.NormGateRefIdeal.main_arg2) = m ((c.tc : Thread Cert.NormGateRefIdeal.nD Cert.NormGateRefIdeal.τ).loc Cert.NormGateRefIdeal.main_arg2))
      ∧ r.2.sem = fun _ => 0)

def quiescent_ResLn [hResLn : Cert.ResLn.Facts] : Prop :=
  ∀ (m : (ℓ : Loc Cert.ResLn.nD Cert.ResLn.τ Cert.ResLn.sig) → Buf (Elt Bits) ℓ) (g : Dev Cert.ResLn.nD → PrngReg), Pre_ResLn m →
    θ_run (Cert.ResLn.defs (F := Bits)) (onTc (τ := Cert.ResLn.τ) (Cert.ResLn.main (F := Bits))) ⟨m, fun _ => 0, g⟩ (fun r => (∀ c : Dev Cert.ResLn.nD,
      r.2.mem ((c.tc : Thread Cert.ResLn.nD Cert.ResLn.τ).loc Cert.ResLn.main_arg0) = m ((c.tc : Thread Cert.ResLn.nD Cert.ResLn.τ).loc Cert.ResLn.main_arg0)
      ∧ r.2.mem ((c.tc : Thread Cert.ResLn.nD Cert.ResLn.τ).loc Cert.ResLn.main_arg1) = m ((c.tc : Thread Cert.ResLn.nD Cert.ResLn.τ).loc Cert.ResLn.main_arg1)
      ∧ r.2.mem ((c.tc : Thread Cert.ResLn.nD Cert.ResLn.τ).loc Cert.ResLn.main_arg2) = m ((c.tc : Thread Cert.ResLn.nD Cert.ResLn.τ).loc Cert.ResLn.main_arg2)
      ∧ r.2.mem ((c.tc : Thread Cert.ResLn.nD Cert.ResLn.τ).loc Cert.ResLn.main_arg3) = m ((c.tc : Thread Cert.ResLn.nD Cert.ResLn.τ).loc Cert.ResLn.main_arg3)
      ∧ r.2.mem ((c.tc : Thread Cert.ResLn.nD Cert.ResLn.τ).loc Cert.ResLn.main_arg4) = m ((c.tc : Thread Cert.ResLn.nD Cert.ResLn.τ).loc Cert.ResLn.main_arg4))
      ∧ r.2.sem = fun _ => 0)

def quiescent_ResLnIdeal [hResLnIdeal : Cert.ResLnIdeal.Facts] : Prop :=
  ∀ (m : (ℓ : Loc Cert.ResLnIdeal.nD Cert.ResLnIdeal.τ Cert.ResLnIdeal.sig) → Buf (Elt Ideal) ℓ) (g : Dev Cert.ResLnIdeal.nD → PrngReg), Pre_ResLnIdeal m →
    θ_run (Cert.ResLnIdeal.defs (F := Ideal)) (onTc (τ := Cert.ResLnIdeal.τ) (Cert.ResLnIdeal.main (F := Ideal))) ⟨m, fun _ => 0, g⟩ (fun r => (∀ c : Dev Cert.ResLnIdeal.nD,
      r.2.mem ((c.tc : Thread Cert.ResLnIdeal.nD Cert.ResLnIdeal.τ).loc Cert.ResLnIdeal.main_arg0) = m ((c.tc : Thread Cert.ResLnIdeal.nD Cert.ResLnIdeal.τ).loc Cert.ResLnIdeal.main_arg0)
      ∧ r.2.mem ((c.tc : Thread Cert.ResLnIdeal.nD Cert.ResLnIdeal.τ).loc Cert.ResLnIdeal.main_arg1) = m ((c.tc : Thread Cert.ResLnIdeal.nD Cert.ResLnIdeal.τ).loc Cert.ResLnIdeal.main_arg1)
      ∧ r.2.mem ((c.tc : Thread Cert.ResLnIdeal.nD Cert.ResLnIdeal.τ).loc Cert.ResLnIdeal.main_arg2) = m ((c.tc : Thread Cert.ResLnIdeal.nD Cert.ResLnIdeal.τ).loc Cert.ResLnIdeal.main_arg2)
      ∧ r.2.mem ((c.tc : Thread Cert.ResLnIdeal.nD Cert.ResLnIdeal.τ).loc Cert.ResLnIdeal.main_arg3) = m ((c.tc : Thread Cert.ResLnIdeal.nD Cert.ResLnIdeal.τ).loc Cert.ResLnIdeal.main_arg3)
      ∧ r.2.mem ((c.tc : Thread Cert.ResLnIdeal.nD Cert.ResLnIdeal.τ).loc Cert.ResLnIdeal.main_arg4) = m ((c.tc : Thread Cert.ResLnIdeal.nD Cert.ResLnIdeal.τ).loc Cert.ResLnIdeal.main_arg4))
      ∧ r.2.sem = fun _ => 0)

def quiescent_ResLnRefIdeal [hResLnRefIdeal : Cert.ResLnRefIdeal.Facts] : Prop :=
  ∀ (m : (ℓ : Loc Cert.ResLnRefIdeal.nD Cert.ResLnRefIdeal.τ Cert.ResLnRefIdeal.sig) → Buf (Elt Ideal) ℓ) (g : Dev Cert.ResLnRefIdeal.nD → PrngReg), Pre_ResLnRefIdeal m →
    θ_run (Cert.ResLnRefIdeal.defs (F := Ideal)) (onTc (τ := Cert.ResLnRefIdeal.τ) (Cert.ResLnRefIdeal.main (F := Ideal))) ⟨m, fun _ => 0, g⟩ (fun r => (∀ c : Dev Cert.ResLnRefIdeal.nD,
      r.2.mem ((c.tc : Thread Cert.ResLnRefIdeal.nD Cert.ResLnRefIdeal.τ).loc Cert.ResLnRefIdeal.main_arg0) = m ((c.tc : Thread Cert.ResLnRefIdeal.nD Cert.ResLnRefIdeal.τ).loc Cert.ResLnRefIdeal.main_arg0)
      ∧ r.2.mem ((c.tc : Thread Cert.ResLnRefIdeal.nD Cert.ResLnRefIdeal.τ).loc Cert.ResLnRefIdeal.main_arg1) = m ((c.tc : Thread Cert.ResLnRefIdeal.nD Cert.ResLnRefIdeal.τ).loc Cert.ResLnRefIdeal.main_arg1)
      ∧ r.2.mem ((c.tc : Thread Cert.ResLnRefIdeal.nD Cert.ResLnRefIdeal.τ).loc Cert.ResLnRefIdeal.main_arg2) = m ((c.tc : Thread Cert.ResLnRefIdeal.nD Cert.ResLnRefIdeal.τ).loc Cert.ResLnRefIdeal.main_arg2)
      ∧ r.2.mem ((c.tc : Thread Cert.ResLnRefIdeal.nD Cert.ResLnRefIdeal.τ).loc Cert.ResLnRefIdeal.main_arg3) = m ((c.tc : Thread Cert.ResLnRefIdeal.nD Cert.ResLnRefIdeal.τ).loc Cert.ResLnRefIdeal.main_arg3)
      ∧ r.2.mem ((c.tc : Thread Cert.ResLnRefIdeal.nD Cert.ResLnRefIdeal.τ).loc Cert.ResLnRefIdeal.main_arg4) = m ((c.tc : Thread Cert.ResLnRefIdeal.nD Cert.ResLnRefIdeal.τ).loc Cert.ResLnRefIdeal.main_arg4))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_ExpertUp_ExpertUpIdeal : Prop :=
  True

def algebraic_ExpertUpIdeal_ExpertUpRefIdeal [hExpertUpIdeal : Cert.ExpertUpIdeal.Facts] [hExpertUpRefIdeal : Cert.ExpertUpRefIdeal.Facts] [hPre_tables_up : Cert.Pre_tables_up.Facts] : Prop :=
  ∀ (m : (ℓ : Loc Cert.ExpertUpIdeal.nD Cert.ExpertUpIdeal.τ Cert.ExpertUpIdeal.sig) → Buf (Elt Ideal) ℓ) (g : Dev Cert.ExpertUpIdeal.nD → PrngReg)
    (m' : (ℓ : Loc Cert.ExpertUpRefIdeal.nD Cert.ExpertUpRefIdeal.τ Cert.ExpertUpRefIdeal.sig) → Buf (Elt Ideal) ℓ) (g' : Dev Cert.ExpertUpRefIdeal.nD → PrngReg), Pre_ExpertUpIdeal m →
    (∀ c : Dev Cert.ExpertUpIdeal.nD,
      m' ((c.tc : Thread Cert.ExpertUpRefIdeal.nD Cert.ExpertUpRefIdeal.τ).loc Cert.ExpertUpRefIdeal.main_arg0) = m ((c.tc : Thread Cert.ExpertUpIdeal.nD Cert.ExpertUpIdeal.τ).loc Cert.ExpertUpIdeal.main_arg0)
      ∧ m' ((c.tc : Thread Cert.ExpertUpRefIdeal.nD Cert.ExpertUpRefIdeal.τ).loc Cert.ExpertUpRefIdeal.main_arg1) = m ((c.tc : Thread Cert.ExpertUpIdeal.nD Cert.ExpertUpIdeal.τ).loc Cert.ExpertUpIdeal.main_arg1)
      ∧ m' ((c.tc : Thread Cert.ExpertUpRefIdeal.nD Cert.ExpertUpRefIdeal.τ).loc Cert.ExpertUpRefIdeal.main_arg2) = m ((c.tc : Thread Cert.ExpertUpIdeal.nD Cert.ExpertUpIdeal.τ).loc Cert.ExpertUpIdeal.main_arg2)
      ∧ m' ((c.tc : Thread Cert.ExpertUpRefIdeal.nD Cert.ExpertUpRefIdeal.τ).loc Cert.ExpertUpRefIdeal.main_arg3) = m ((c.tc : Thread Cert.ExpertUpIdeal.nD Cert.ExpertUpIdeal.τ).loc Cert.ExpertUpIdeal.main_arg3)) →
    ∃ (v0 : (c : Dev Cert.ExpertUpIdeal.nD) → Buf (Elt Ideal) ((c.tc : Thread Cert.ExpertUpIdeal.nD Cert.ExpertUpIdeal.τ).loc Cert.ExpertUpIdeal.main_v0)),
      θ_run (Cert.ExpertUpIdeal.defs (F := Ideal)) (onTc (τ := Cert.ExpertUpIdeal.τ) (Cert.ExpertUpIdeal.main (F := Ideal))) ⟨m, fun _ => 0, g⟩ (fun r => ∀ c : Dev Cert.ExpertUpIdeal.nD,
          r.2.mem ((c.tc : Thread Cert.ExpertUpIdeal.nD Cert.ExpertUpIdeal.τ).loc Cert.ExpertUpIdeal.main_v0) = v0 c
          ∧ r.2.mem ((c.tc : Thread Cert.ExpertUpIdeal.nD Cert.ExpertUpIdeal.τ).loc Cert.ExpertUpIdeal.main_arg0) = m ((c.tc : Thread Cert.ExpertUpIdeal.nD Cert.ExpertUpIdeal.τ).loc Cert.ExpertUpIdeal.main_arg0)
          ∧ r.2.mem ((c.tc : Thread Cert.ExpertUpIdeal.nD Cert.ExpertUpIdeal.τ).loc Cert.ExpertUpIdeal.main_arg1) = m ((c.tc : Thread Cert.ExpertUpIdeal.nD Cert.ExpertUpIdeal.τ).loc Cert.ExpertUpIdeal.main_arg1)
          ∧ r.2.mem ((c.tc : Thread Cert.ExpertUpIdeal.nD Cert.ExpertUpIdeal.τ).loc Cert.ExpertUpIdeal.main_arg2) = m ((c.tc : Thread Cert.ExpertUpIdeal.nD Cert.ExpertUpIdeal.τ).loc Cert.ExpertUpIdeal.main_arg2)
          ∧ r.2.mem ((c.tc : Thread Cert.ExpertUpIdeal.nD Cert.ExpertUpIdeal.τ).loc Cert.ExpertUpIdeal.main_arg3) = m ((c.tc : Thread Cert.ExpertUpIdeal.nD Cert.ExpertUpIdeal.τ).loc Cert.ExpertUpIdeal.main_arg3))
      ∧ θ_run (Cert.ExpertUpRefIdeal.defs (F := Ideal)) (onTc (τ := Cert.ExpertUpRefIdeal.τ) (Cert.ExpertUpRefIdeal.main (F := Ideal))) ⟨m', fun _ => 0, g'⟩ (fun r => ∀ c : Dev Cert.ExpertUpRefIdeal.nD,
          r.2.mem ((c.tc : Thread Cert.ExpertUpRefIdeal.nD Cert.ExpertUpRefIdeal.τ).loc Cert.ExpertUpRefIdeal.main_v101) = v0 c
          ∧ r.2.mem ((c.tc : Thread Cert.ExpertUpRefIdeal.nD Cert.ExpertUpRefIdeal.τ).loc Cert.ExpertUpRefIdeal.main_arg0) = m' ((c.tc : Thread Cert.ExpertUpRefIdeal.nD Cert.ExpertUpRefIdeal.τ).loc Cert.ExpertUpRefIdeal.main_arg0)
          ∧ r.2.mem ((c.tc : Thread Cert.ExpertUpRefIdeal.nD Cert.ExpertUpRefIdeal.τ).loc Cert.ExpertUpRefIdeal.main_arg1) = m' ((c.tc : Thread Cert.ExpertUpRefIdeal.nD Cert.ExpertUpRefIdeal.τ).loc Cert.ExpertUpRefIdeal.main_arg1)
          ∧ r.2.mem ((c.tc : Thread Cert.ExpertUpRefIdeal.nD Cert.ExpertUpRefIdeal.τ).loc Cert.ExpertUpRefIdeal.main_arg2) = m' ((c.tc : Thread Cert.ExpertUpRefIdeal.nD Cert.ExpertUpRefIdeal.τ).loc Cert.ExpertUpRefIdeal.main_arg2)
          ∧ r.2.mem ((c.tc : Thread Cert.ExpertUpRefIdeal.nD Cert.ExpertUpRefIdeal.τ).loc Cert.ExpertUpRefIdeal.main_arg3) = m' ((c.tc : Thread Cert.ExpertUpRefIdeal.nD Cert.ExpertUpRefIdeal.τ).loc Cert.ExpertUpRefIdeal.main_arg3))

def preserves_ExpertDown_ExpertDownIdeal : Prop :=
  True

def algebraic_ExpertDownIdeal_ExpertDownRefIdeal [hExpertDownIdeal : Cert.ExpertDownIdeal.Facts] [hExpertDownRefIdeal : Cert.ExpertDownRefIdeal.Facts] [hPre_tables_down : Cert.Pre_tables_down.Facts] : Prop :=
  ∀ (m : (ℓ : Loc Cert.ExpertDownIdeal.nD Cert.ExpertDownIdeal.τ Cert.ExpertDownIdeal.sig) → Buf (Elt Ideal) ℓ) (g : Dev Cert.ExpertDownIdeal.nD → PrngReg)
    (m' : (ℓ : Loc Cert.ExpertDownRefIdeal.nD Cert.ExpertDownRefIdeal.τ Cert.ExpertDownRefIdeal.sig) → Buf (Elt Ideal) ℓ) (g' : Dev Cert.ExpertDownRefIdeal.nD → PrngReg), Pre_ExpertDownIdeal m →
    (∀ c : Dev Cert.ExpertDownIdeal.nD,
      m' ((c.tc : Thread Cert.ExpertDownRefIdeal.nD Cert.ExpertDownRefIdeal.τ).loc Cert.ExpertDownRefIdeal.main_arg0) = m ((c.tc : Thread Cert.ExpertDownIdeal.nD Cert.ExpertDownIdeal.τ).loc Cert.ExpertDownIdeal.main_arg0)
      ∧ m' ((c.tc : Thread Cert.ExpertDownRefIdeal.nD Cert.ExpertDownRefIdeal.τ).loc Cert.ExpertDownRefIdeal.main_arg1) = m ((c.tc : Thread Cert.ExpertDownIdeal.nD Cert.ExpertDownIdeal.τ).loc Cert.ExpertDownIdeal.main_arg1)
      ∧ m' ((c.tc : Thread Cert.ExpertDownRefIdeal.nD Cert.ExpertDownRefIdeal.τ).loc Cert.ExpertDownRefIdeal.main_arg2) = m ((c.tc : Thread Cert.ExpertDownIdeal.nD Cert.ExpertDownIdeal.τ).loc Cert.ExpertDownIdeal.main_arg2)
      ∧ m' ((c.tc : Thread Cert.ExpertDownRefIdeal.nD Cert.ExpertDownRefIdeal.τ).loc Cert.ExpertDownRefIdeal.main_arg3) = m ((c.tc : Thread Cert.ExpertDownIdeal.nD Cert.ExpertDownIdeal.τ).loc Cert.ExpertDownIdeal.main_arg3)) →
    ∃ (v0 : (c : Dev Cert.ExpertDownIdeal.nD) → Buf (Elt Ideal) ((c.tc : Thread Cert.ExpertDownIdeal.nD Cert.ExpertDownIdeal.τ).loc Cert.ExpertDownIdeal.main_v0)),
      θ_run (Cert.ExpertDownIdeal.defs (F := Ideal)) (onTc (τ := Cert.ExpertDownIdeal.τ) (Cert.ExpertDownIdeal.main (F := Ideal))) ⟨m, fun _ => 0, g⟩ (fun r => ∀ c : Dev Cert.ExpertDownIdeal.nD,
          r.2.mem ((c.tc : Thread Cert.ExpertDownIdeal.nD Cert.ExpertDownIdeal.τ).loc Cert.ExpertDownIdeal.main_v0) = v0 c
          ∧ r.2.mem ((c.tc : Thread Cert.ExpertDownIdeal.nD Cert.ExpertDownIdeal.τ).loc Cert.ExpertDownIdeal.main_arg0) = m ((c.tc : Thread Cert.ExpertDownIdeal.nD Cert.ExpertDownIdeal.τ).loc Cert.ExpertDownIdeal.main_arg0)
          ∧ r.2.mem ((c.tc : Thread Cert.ExpertDownIdeal.nD Cert.ExpertDownIdeal.τ).loc Cert.ExpertDownIdeal.main_arg1) = m ((c.tc : Thread Cert.ExpertDownIdeal.nD Cert.ExpertDownIdeal.τ).loc Cert.ExpertDownIdeal.main_arg1)
          ∧ r.2.mem ((c.tc : Thread Cert.ExpertDownIdeal.nD Cert.ExpertDownIdeal.τ).loc Cert.ExpertDownIdeal.main_arg2) = m ((c.tc : Thread Cert.ExpertDownIdeal.nD Cert.ExpertDownIdeal.τ).loc Cert.ExpertDownIdeal.main_arg2)
          ∧ r.2.mem ((c.tc : Thread Cert.ExpertDownIdeal.nD Cert.ExpertDownIdeal.τ).loc Cert.ExpertDownIdeal.main_arg3) = m ((c.tc : Thread Cert.ExpertDownIdeal.nD Cert.ExpertDownIdeal.τ).loc Cert.ExpertDownIdeal.main_arg3))
      ∧ θ_run (Cert.ExpertDownRefIdeal.defs (F := Ideal)) (onTc (τ := Cert.ExpertDownRefIdeal.τ) (Cert.ExpertDownRefIdeal.main (F := Ideal))) ⟨m', fun _ => 0, g'⟩ (fun r => ∀ c : Dev Cert.ExpertDownRefIdeal.nD,
          r.2.mem ((c.tc : Thread Cert.ExpertDownRefIdeal.nD Cert.ExpertDownRefIdeal.τ).loc Cert.ExpertDownRefIdeal.main_v68) = v0 c
          ∧ r.2.mem ((c.tc : Thread Cert.ExpertDownRefIdeal.nD Cert.ExpertDownRefIdeal.τ).loc Cert.ExpertDownRefIdeal.main_arg0) = m' ((c.tc : Thread Cert.ExpertDownRefIdeal.nD Cert.ExpertDownRefIdeal.τ).loc Cert.ExpertDownRefIdeal.main_arg0)
          ∧ r.2.mem ((c.tc : Thread Cert.ExpertDownRefIdeal.nD Cert.ExpertDownRefIdeal.τ).loc Cert.ExpertDownRefIdeal.main_arg1) = m' ((c.tc : Thread Cert.ExpertDownRefIdeal.nD Cert.ExpertDownRefIdeal.τ).loc Cert.ExpertDownRefIdeal.main_arg1)
          ∧ r.2.mem ((c.tc : Thread Cert.ExpertDownRefIdeal.nD Cert.ExpertDownRefIdeal.τ).loc Cert.ExpertDownRefIdeal.main_arg2) = m' ((c.tc : Thread Cert.ExpertDownRefIdeal.nD Cert.ExpertDownRefIdeal.τ).loc Cert.ExpertDownRefIdeal.main_arg2)
          ∧ r.2.mem ((c.tc : Thread Cert.ExpertDownRefIdeal.nD Cert.ExpertDownRefIdeal.τ).loc Cert.ExpertDownRefIdeal.main_arg3) = m' ((c.tc : Thread Cert.ExpertDownRefIdeal.nD Cert.ExpertDownRefIdeal.τ).loc Cert.ExpertDownRefIdeal.main_arg3))

def preserves_GdnIn_GdnInIdeal : Prop :=
  True

def algebraic_GdnInIdeal_GdnInRefIdeal [hGdnInIdeal : Cert.GdnInIdeal.Facts] [hGdnInRefIdeal : Cert.GdnInRefIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInRefIdeal.nD Cert.GdnInRefIdeal.τ Cert.GdnInRefIdeal.sig) → Buf (Elt Ideal) ℓ) (g' : Dev Cert.GdnInRefIdeal.nD → PrngReg), Pre_GdnInIdeal m →
    (∀ c : Dev Cert.GdnInIdeal.nD,
      m' ((c.tc : Thread Cert.GdnInRefIdeal.nD Cert.GdnInRefIdeal.τ).loc Cert.GdnInRefIdeal.main_arg0) = m ((c.tc : Thread Cert.GdnInIdeal.nD Cert.GdnInIdeal.τ).loc Cert.GdnInIdeal.main_arg0)
      ∧ m' ((c.tc : Thread Cert.GdnInRefIdeal.nD Cert.GdnInRefIdeal.τ).loc Cert.GdnInRefIdeal.main_arg1) = m ((c.tc : Thread Cert.GdnInIdeal.nD Cert.GdnInIdeal.τ).loc Cert.GdnInIdeal.main_arg1)) →
    ∃ (v0 : (c : Dev Cert.GdnInIdeal.nD) → Buf (Elt Ideal) ((c.tc : Thread Cert.GdnInIdeal.nD Cert.GdnInIdeal.τ).loc Cert.GdnInIdeal.main_v0)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v0) = v0 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ θ_run (Cert.GdnInRefIdeal.defs (F := Ideal)) (onTc (τ := Cert.GdnInRefIdeal.τ) (Cert.GdnInRefIdeal.main (F := Ideal))) ⟨m', fun _ => 0, g'⟩ (fun r => ∀ c : Dev Cert.GdnInRefIdeal.nD,
          r.2.mem ((c.tc : Thread Cert.GdnInRefIdeal.nD Cert.GdnInRefIdeal.τ).loc Cert.GdnInRefIdeal.main_v3) = v0 c
          ∧ r.2.mem ((c.tc : Thread Cert.GdnInRefIdeal.nD Cert.GdnInRefIdeal.τ).loc Cert.GdnInRefIdeal.main_arg0) = m' ((c.tc : Thread Cert.GdnInRefIdeal.nD Cert.GdnInRefIdeal.τ).loc Cert.GdnInRefIdeal.main_arg0)
          ∧ r.2.mem ((c.tc : Thread Cert.GdnInRefIdeal.nD Cert.GdnInRefIdeal.τ).loc Cert.GdnInRefIdeal.main_arg1) = m' ((c.tc : Thread Cert.GdnInRefIdeal.nD Cert.GdnInRefIdeal.τ).loc Cert.GdnInRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v6) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v1) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_GdnOut_GdnOutIdeal : Prop :=
  True

def algebraic_GdnOutIdeal_GdnOutRefIdeal [hGdnOutIdeal : Cert.GdnOutIdeal.Facts] [hGdnOutRefIdeal : Cert.GdnOutRefIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutRefIdeal.nD Cert.GdnOutRefIdeal.τ Cert.GdnOutRefIdeal.sig) → Buf (Elt Ideal) ℓ) (g' : Dev Cert.GdnOutRefIdeal.nD → PrngReg), Pre_GdnOutIdeal m →
    (∀ c : Dev Cert.GdnOutIdeal.nD,
      m' ((c.tc : Thread Cert.GdnOutRefIdeal.nD Cert.GdnOutRefIdeal.τ).loc Cert.GdnOutRefIdeal.main_arg0) = m ((c.tc : Thread Cert.GdnOutIdeal.nD Cert.GdnOutIdeal.τ).loc Cert.GdnOutIdeal.main_arg0)
      ∧ m' ((c.tc : Thread Cert.GdnOutRefIdeal.nD Cert.GdnOutRefIdeal.τ).loc Cert.GdnOutRefIdeal.main_arg1) = m ((c.tc : Thread Cert.GdnOutIdeal.nD Cert.GdnOutIdeal.τ).loc Cert.GdnOutIdeal.main_arg1)) →
    ∃ (v0 : (c : Dev Cert.GdnOutIdeal.nD) → Buf (Elt Ideal) ((c.tc : Thread Cert.GdnOutIdeal.nD Cert.GdnOutIdeal.τ).loc Cert.GdnOutIdeal.main_v0)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v0) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1))
      ∧ θ_run (Cert.GdnOutRefIdeal.defs (F := Ideal)) (onTc (τ := Cert.GdnOutRefIdeal.τ) (Cert.GdnOutRefIdeal.main (F := Ideal))) ⟨m', fun _ => 0, g'⟩ (fun r => ∀ c : Dev Cert.GdnOutRefIdeal.nD,
          r.2.mem ((c.tc : Thread Cert.GdnOutRefIdeal.nD Cert.GdnOutRefIdeal.τ).loc Cert.GdnOutRefIdeal.main_v1) = v0 c
          ∧ r.2.mem ((c.tc : Thread Cert.GdnOutRefIdeal.nD Cert.GdnOutRefIdeal.τ).loc Cert.GdnOutRefIdeal.main_arg0) = m' ((c.tc : Thread Cert.GdnOutRefIdeal.nD Cert.GdnOutRefIdeal.τ).loc Cert.GdnOutRefIdeal.main_arg0)
          ∧ r.2.mem ((c.tc : Thread Cert.GdnOutRefIdeal.nD Cert.GdnOutRefIdeal.τ).loc Cert.GdnOutRefIdeal.main_arg1) = m' ((c.tc : Thread Cert.GdnOutRefIdeal.nD Cert.GdnOutRefIdeal.τ).loc Cert.GdnOutRefIdeal.main_arg1))

def preserves_DiffIn_DiffInIdeal : Prop :=
  True

def algebraic_DiffInIdeal_DiffInRefIdeal [hDiffInIdeal : Cert.DiffInIdeal.Facts] [hDiffInRefIdeal : Cert.DiffInRefIdeal.Facts] : Prop :=
  ∀ (m : (ℓ : Loc Cert.DiffInIdeal.nD Cert.DiffInIdeal.τ Cert.DiffInIdeal.sig) → Buf (Elt Ideal) ℓ) (g : Dev Cert.DiffInIdeal.nD → PrngReg)
    (m' : (ℓ : Loc Cert.DiffInRefIdeal.nD Cert.DiffInRefIdeal.τ Cert.DiffInRefIdeal.sig) → Buf (Elt Ideal) ℓ) (g' : Dev Cert.DiffInRefIdeal.nD → PrngReg), Pre_DiffInIdeal m →
    (∀ c : Dev Cert.DiffInIdeal.nD,
      m' ((c.tc : Thread Cert.DiffInRefIdeal.nD Cert.DiffInRefIdeal.τ).loc Cert.DiffInRefIdeal.main_arg0) = m ((c.tc : Thread Cert.DiffInIdeal.nD Cert.DiffInIdeal.τ).loc Cert.DiffInIdeal.main_arg0)
      ∧ m' ((c.tc : Thread Cert.DiffInRefIdeal.nD Cert.DiffInRefIdeal.τ).loc Cert.DiffInRefIdeal.main_arg1) = m ((c.tc : Thread Cert.DiffInIdeal.nD Cert.DiffInIdeal.τ).loc Cert.DiffInIdeal.main_arg1)) →
    ∃ (v0 : (c : Dev Cert.DiffInIdeal.nD) → Buf (Elt Ideal) ((c.tc : Thread Cert.DiffInIdeal.nD Cert.DiffInIdeal.τ).loc Cert.DiffInIdeal.main_v0)),
      θ_run (Cert.DiffInIdeal.defs (F := Ideal)) (onTc (τ := Cert.DiffInIdeal.τ) (Cert.DiffInIdeal.main (F := Ideal))) ⟨m, fun _ => 0, g⟩ (fun r => ∀ c : Dev Cert.DiffInIdeal.nD,
          r.2.mem ((c.tc : Thread Cert.DiffInIdeal.nD Cert.DiffInIdeal.τ).loc Cert.DiffInIdeal.main_v0) = v0 c
          ∧ r.2.mem ((c.tc : Thread Cert.DiffInIdeal.nD Cert.DiffInIdeal.τ).loc Cert.DiffInIdeal.main_arg0) = m ((c.tc : Thread Cert.DiffInIdeal.nD Cert.DiffInIdeal.τ).loc Cert.DiffInIdeal.main_arg0)
          ∧ r.2.mem ((c.tc : Thread Cert.DiffInIdeal.nD Cert.DiffInIdeal.τ).loc Cert.DiffInIdeal.main_arg1) = m ((c.tc : Thread Cert.DiffInIdeal.nD Cert.DiffInIdeal.τ).loc Cert.DiffInIdeal.main_arg1))
      ∧ θ_run (Cert.DiffInRefIdeal.defs (F := Ideal)) (onTc (τ := Cert.DiffInRefIdeal.τ) (Cert.DiffInRefIdeal.main (F := Ideal))) ⟨m', fun _ => 0, g'⟩ (fun r => ∀ c : Dev Cert.DiffInRefIdeal.nD,
          r.2.mem ((c.tc : Thread Cert.DiffInRefIdeal.nD Cert.DiffInRefIdeal.τ).loc Cert.DiffInRefIdeal.main_v2) = v0 c
          ∧ r.2.mem ((c.tc : Thread Cert.DiffInRefIdeal.nD Cert.DiffInRefIdeal.τ).loc Cert.DiffInRefIdeal.main_arg0) = m' ((c.tc : Thread Cert.DiffInRefIdeal.nD Cert.DiffInRefIdeal.τ).loc Cert.DiffInRefIdeal.main_arg0)
          ∧ r.2.mem ((c.tc : Thread Cert.DiffInRefIdeal.nD Cert.DiffInRefIdeal.τ).loc Cert.DiffInRefIdeal.main_arg1) = m' ((c.tc : Thread Cert.DiffInRefIdeal.nD Cert.DiffInRefIdeal.τ).loc Cert.DiffInRefIdeal.main_arg1))

def preserves_DiffOut_DiffOutIdeal : Prop :=
  True

def algebraic_DiffOutIdeal_DiffOutRefIdeal [hDiffOutIdeal : Cert.DiffOutIdeal.Facts] [hDiffOutRefIdeal : Cert.DiffOutRefIdeal.Facts] : Prop :=
  ∀ (m : (ℓ : Loc Cert.DiffOutIdeal.nD Cert.DiffOutIdeal.τ Cert.DiffOutIdeal.sig) → Buf (Elt Ideal) ℓ) (g : Dev Cert.DiffOutIdeal.nD → PrngReg)
    (m' : (ℓ : Loc Cert.DiffOutRefIdeal.nD Cert.DiffOutRefIdeal.τ Cert.DiffOutRefIdeal.sig) → Buf (Elt Ideal) ℓ) (g' : Dev Cert.DiffOutRefIdeal.nD → PrngReg), Pre_DiffOutIdeal m →
    (∀ c : Dev Cert.DiffOutIdeal.nD,
      m' ((c.tc : Thread Cert.DiffOutRefIdeal.nD Cert.DiffOutRefIdeal.τ).loc Cert.DiffOutRefIdeal.main_arg0) = m ((c.tc : Thread Cert.DiffOutIdeal.nD Cert.DiffOutIdeal.τ).loc Cert.DiffOutIdeal.main_arg0)
      ∧ m' ((c.tc : Thread Cert.DiffOutRefIdeal.nD Cert.DiffOutRefIdeal.τ).loc Cert.DiffOutRefIdeal.main_arg1) = m ((c.tc : Thread Cert.DiffOutIdeal.nD Cert.DiffOutIdeal.τ).loc Cert.DiffOutIdeal.main_arg1)) →
    ∃ (v0 : (c : Dev Cert.DiffOutIdeal.nD) → Buf (Elt Ideal) ((c.tc : Thread Cert.DiffOutIdeal.nD Cert.DiffOutIdeal.τ).loc Cert.DiffOutIdeal.main_v0)),
      θ_run (Cert.DiffOutIdeal.defs (F := Ideal)) (onTc (τ := Cert.DiffOutIdeal.τ) (Cert.DiffOutIdeal.main (F := Ideal))) ⟨m, fun _ => 0, g⟩ (fun r => ∀ c : Dev Cert.DiffOutIdeal.nD,
          r.2.mem ((c.tc : Thread Cert.DiffOutIdeal.nD Cert.DiffOutIdeal.τ).loc Cert.DiffOutIdeal.main_v0) = v0 c
          ∧ r.2.mem ((c.tc : Thread Cert.DiffOutIdeal.nD Cert.DiffOutIdeal.τ).loc Cert.DiffOutIdeal.main_arg0) = m ((c.tc : Thread Cert.DiffOutIdeal.nD Cert.DiffOutIdeal.τ).loc Cert.DiffOutIdeal.main_arg0)
          ∧ r.2.mem ((c.tc : Thread Cert.DiffOutIdeal.nD Cert.DiffOutIdeal.τ).loc Cert.DiffOutIdeal.main_arg1) = m ((c.tc : Thread Cert.DiffOutIdeal.nD Cert.DiffOutIdeal.τ).loc Cert.DiffOutIdeal.main_arg1))
      ∧ θ_run (Cert.DiffOutRefIdeal.defs (F := Ideal)) (onTc (τ := Cert.DiffOutRefIdeal.τ) (Cert.DiffOutRefIdeal.main (F := Ideal))) ⟨m', fun _ => 0, g'⟩ (fun r => ∀ c : Dev Cert.DiffOutRefIdeal.nD,
          r.2.mem ((c.tc : Thread Cert.DiffOutRefIdeal.nD Cert.DiffOutRefIdeal.τ).loc Cert.DiffOutRefIdeal.main_v1) = v0 c
          ∧ r.2.mem ((c.tc : Thread Cert.DiffOutRefIdeal.nD Cert.DiffOutRefIdeal.τ).loc Cert.DiffOutRefIdeal.main_arg0) = m' ((c.tc : Thread Cert.DiffOutRefIdeal.nD Cert.DiffOutRefIdeal.τ).loc Cert.DiffOutRefIdeal.main_arg0)
          ∧ r.2.mem ((c.tc : Thread Cert.DiffOutRefIdeal.nD Cert.DiffOutRefIdeal.τ).loc Cert.DiffOutRefIdeal.main_arg1) = m' ((c.tc : Thread Cert.DiffOutRefIdeal.nD Cert.DiffOutRefIdeal.τ).loc Cert.DiffOutRefIdeal.main_arg1))

def preserves_GdnAb_GdnAbIdeal : Prop :=
  True

def algebraic_GdnAbIdeal_GdnAbRefIdeal [hGdnAbIdeal : Cert.GdnAbIdeal.Facts] [hGdnAbRefIdeal : Cert.GdnAbRefIdeal.Facts] : Prop :=
  ∀ (m : (ℓ : Loc Cert.GdnAbIdeal.nD Cert.GdnAbIdeal.τ Cert.GdnAbIdeal.sig) → Buf (Elt Ideal) ℓ) (g : Dev Cert.GdnAbIdeal.nD → PrngReg)
    (m' : (ℓ : Loc Cert.GdnAbRefIdeal.nD Cert.GdnAbRefIdeal.τ Cert.GdnAbRefIdeal.sig) → Buf (Elt Ideal) ℓ) (g' : Dev Cert.GdnAbRefIdeal.nD → PrngReg), Pre_GdnAbIdeal m →
    (∀ c : Dev Cert.GdnAbIdeal.nD,
      m' ((c.tc : Thread Cert.GdnAbRefIdeal.nD Cert.GdnAbRefIdeal.τ).loc Cert.GdnAbRefIdeal.main_arg0) = m ((c.tc : Thread Cert.GdnAbIdeal.nD Cert.GdnAbIdeal.τ).loc Cert.GdnAbIdeal.main_arg0)
      ∧ m' ((c.tc : Thread Cert.GdnAbRefIdeal.nD Cert.GdnAbRefIdeal.τ).loc Cert.GdnAbRefIdeal.main_arg1) = m ((c.tc : Thread Cert.GdnAbIdeal.nD Cert.GdnAbIdeal.τ).loc Cert.GdnAbIdeal.main_arg1)) →
    ∃ (v0 : (c : Dev Cert.GdnAbIdeal.nD) → Buf (Elt Ideal) ((c.tc : Thread Cert.GdnAbIdeal.nD Cert.GdnAbIdeal.τ).loc Cert.GdnAbIdeal.main_v0)),
      θ_run (Cert.GdnAbIdeal.defs (F := Ideal)) (onTc (τ := Cert.GdnAbIdeal.τ) (Cert.GdnAbIdeal.main (F := Ideal))) ⟨m, fun _ => 0, g⟩ (fun r => ∀ c : Dev Cert.GdnAbIdeal.nD,
          r.2.mem ((c.tc : Thread Cert.GdnAbIdeal.nD Cert.GdnAbIdeal.τ).loc Cert.GdnAbIdeal.main_v0) = v0 c
          ∧ r.2.mem ((c.tc : Thread Cert.GdnAbIdeal.nD Cert.GdnAbIdeal.τ).loc Cert.GdnAbIdeal.main_arg0) = m ((c.tc : Thread Cert.GdnAbIdeal.nD Cert.GdnAbIdeal.τ).loc Cert.GdnAbIdeal.main_arg0)
          ∧ r.2.mem ((c.tc : Thread Cert.GdnAbIdeal.nD Cert.GdnAbIdeal.τ).loc Cert.GdnAbIdeal.main_arg1) = m ((c.tc : Thread Cert.GdnAbIdeal.nD Cert.GdnAbIdeal.τ).loc Cert.GdnAbIdeal.main_arg1))
      ∧ θ_run (Cert.GdnAbRefIdeal.defs (F := Ideal)) (onTc (τ := Cert.GdnAbRefIdeal.τ) (Cert.GdnAbRefIdeal.main (F := Ideal))) ⟨m', fun _ => 0, g'⟩ (fun r => ∀ c : Dev Cert.GdnAbRefIdeal.nD,
          r.2.mem ((c.tc : Thread Cert.GdnAbRefIdeal.nD Cert.GdnAbRefIdeal.τ).loc Cert.GdnAbRefIdeal.main_v2) = v0 c
          ∧ r.2.mem ((c.tc : Thread Cert.GdnAbRefIdeal.nD Cert.GdnAbRefIdeal.τ).loc Cert.GdnAbRefIdeal.main_arg0) = m' ((c.tc : Thread Cert.GdnAbRefIdeal.nD Cert.GdnAbRefIdeal.τ).loc Cert.GdnAbRefIdeal.main_arg0)
          ∧ r.2.mem ((c.tc : Thread Cert.GdnAbRefIdeal.nD Cert.GdnAbRefIdeal.τ).loc Cert.GdnAbRefIdeal.main_arg1) = m' ((c.tc : Thread Cert.GdnAbRefIdeal.nD Cert.GdnAbRefIdeal.τ).loc Cert.GdnAbRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v20) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_NormGate_NormGateIdeal : Prop :=
  True

def algebraic_NormGateIdeal_NormGateRefIdeal [hNormGateIdeal : Cert.NormGateIdeal.Facts] [hNormGateRefIdeal : Cert.NormGateRefIdeal.Facts] : Prop :=
  ∀ (m : (ℓ : Loc Cert.NormGateIdeal.nD Cert.NormGateIdeal.τ Cert.NormGateIdeal.sig) → Buf (Elt Ideal) ℓ) (g : Dev Cert.NormGateIdeal.nD → PrngReg)
    (m' : (ℓ : Loc Cert.NormGateRefIdeal.nD Cert.NormGateRefIdeal.τ Cert.NormGateRefIdeal.sig) → Buf (Elt Ideal) ℓ) (g' : Dev Cert.NormGateRefIdeal.nD → PrngReg), Pre_NormGateIdeal m →
    (∀ c : Dev Cert.NormGateIdeal.nD,
      m' ((c.tc : Thread Cert.NormGateRefIdeal.nD Cert.NormGateRefIdeal.τ).loc Cert.NormGateRefIdeal.main_arg0) = m ((c.tc : Thread Cert.NormGateIdeal.nD Cert.NormGateIdeal.τ).loc Cert.NormGateIdeal.main_arg0)
      ∧ m' ((c.tc : Thread Cert.NormGateRefIdeal.nD Cert.NormGateRefIdeal.τ).loc Cert.NormGateRefIdeal.main_arg1) = m ((c.tc : Thread Cert.NormGateIdeal.nD Cert.NormGateIdeal.τ).loc Cert.NormGateIdeal.main_arg1)
      ∧ m' ((c.tc : Thread Cert.NormGateRefIdeal.nD Cert.NormGateRefIdeal.τ).loc Cert.NormGateRefIdeal.main_arg2) = m ((c.tc : Thread Cert.NormGateIdeal.nD Cert.NormGateIdeal.τ).loc Cert.NormGateIdeal.main_arg2)) →
    ∃ (v0 : (c : Dev Cert.NormGateIdeal.nD) → Buf (Elt Ideal) ((c.tc : Thread Cert.NormGateIdeal.nD Cert.NormGateIdeal.τ).loc Cert.NormGateIdeal.main_v1)),
      θ_run (Cert.NormGateIdeal.defs (F := Ideal)) (onTc (τ := Cert.NormGateIdeal.τ) (Cert.NormGateIdeal.main (F := Ideal))) ⟨m, fun _ => 0, g⟩ (fun r => ∀ c : Dev Cert.NormGateIdeal.nD,
          r.2.mem ((c.tc : Thread Cert.NormGateIdeal.nD Cert.NormGateIdeal.τ).loc Cert.NormGateIdeal.main_v1) = v0 c
          ∧ r.2.mem ((c.tc : Thread Cert.NormGateIdeal.nD Cert.NormGateIdeal.τ).loc Cert.NormGateIdeal.main_arg0) = m ((c.tc : Thread Cert.NormGateIdeal.nD Cert.NormGateIdeal.τ).loc Cert.NormGateIdeal.main_arg0)
          ∧ r.2.mem ((c.tc : Thread Cert.NormGateIdeal.nD Cert.NormGateIdeal.τ).loc Cert.NormGateIdeal.main_arg1) = m ((c.tc : Thread Cert.NormGateIdeal.nD Cert.NormGateIdeal.τ).loc Cert.NormGateIdeal.main_arg1)
          ∧ r.2.mem ((c.tc : Thread Cert.NormGateIdeal.nD Cert.NormGateIdeal.τ).loc Cert.NormGateIdeal.main_arg2) = m ((c.tc : Thread Cert.NormGateIdeal.nD Cert.NormGateIdeal.τ).loc Cert.NormGateIdeal.main_arg2))
      ∧ θ_run (Cert.NormGateRefIdeal.defs (F := Ideal)) (onTc (τ := Cert.NormGateRefIdeal.τ) (Cert.NormGateRefIdeal.main (F := Ideal))) ⟨m', fun _ => 0, g'⟩ (fun r => ∀ c : Dev Cert.NormGateRefIdeal.nD,
          r.2.mem ((c.tc : Thread Cert.NormGateRefIdeal.nD Cert.NormGateRefIdeal.τ).loc Cert.NormGateRefIdeal.main_v27) = v0 c
          ∧ r.2.mem ((c.tc : Thread Cert.NormGateRefIdeal.nD Cert.NormGateRefIdeal.τ).loc Cert.NormGateRefIdeal.main_arg0) = m' ((c.tc : Thread Cert.NormGateRefIdeal.nD Cert.NormGateRefIdeal.τ).loc Cert.NormGateRefIdeal.main_arg0)
          ∧ r.2.mem ((c.tc : Thread Cert.NormGateRefIdeal.nD Cert.NormGateRefIdeal.τ).loc Cert.NormGateRefIdeal.main_arg1) = m' ((c.tc : Thread Cert.NormGateRefIdeal.nD Cert.NormGateRefIdeal.τ).loc Cert.NormGateRefIdeal.main_arg1)
          ∧ r.2.mem ((c.tc : Thread Cert.NormGateRefIdeal.nD Cert.NormGateRefIdeal.τ).loc Cert.NormGateRefIdeal.main_arg2) = m' ((c.tc : Thread Cert.NormGateRefIdeal.nD Cert.NormGateRefIdeal.τ).loc Cert.NormGateRefIdeal.main_arg2))

def preserves_ResLn_ResLnIdeal : Prop :=
  True

def algebraic_ResLnIdeal_ResLnRefIdeal [hResLnIdeal : Cert.ResLnIdeal.Facts] [hResLnRefIdeal : Cert.ResLnRefIdeal.Facts] : Prop :=
  ∀ (m : (ℓ : Loc Cert.ResLnIdeal.nD Cert.ResLnIdeal.τ Cert.ResLnIdeal.sig) → Buf (Elt Ideal) ℓ) (g : Dev Cert.ResLnIdeal.nD → PrngReg)
    (m' : (ℓ : Loc Cert.ResLnRefIdeal.nD Cert.ResLnRefIdeal.τ Cert.ResLnRefIdeal.sig) → Buf (Elt Ideal) ℓ) (g' : Dev Cert.ResLnRefIdeal.nD → PrngReg), Pre_ResLnIdeal m →
    (∀ c : Dev Cert.ResLnIdeal.nD,
      m' ((c.tc : Thread Cert.ResLnRefIdeal.nD Cert.ResLnRefIdeal.τ).loc Cert.ResLnRefIdeal.main_arg0) = m ((c.tc : Thread Cert.ResLnIdeal.nD Cert.ResLnIdeal.τ).loc Cert.ResLnIdeal.main_arg0)
      ∧ m' ((c.tc : Thread Cert.ResLnRefIdeal.nD Cert.ResLnRefIdeal.τ).loc Cert.ResLnRefIdeal.main_arg1) = m ((c.tc : Thread Cert.ResLnIdeal.nD Cert.ResLnIdeal.τ).loc Cert.ResLnIdeal.main_arg1)
      ∧ m' ((c.tc : Thread Cert.ResLnRefIdeal.nD Cert.ResLnRefIdeal.τ).loc Cert.ResLnRefIdeal.main_arg2) = m ((c.tc : Thread Cert.ResLnIdeal.nD Cert.ResLnIdeal.τ).loc Cert.ResLnIdeal.main_arg2)
      ∧ m' ((c.tc : Thread Cert.ResLnRefIdeal.nD Cert.ResLnRefIdeal.τ).loc Cert.ResLnRefIdeal.main_arg3) = m ((c.tc : Thread Cert.ResLnIdeal.nD Cert.ResLnIdeal.τ).loc Cert.ResLnIdeal.main_arg3)
      ∧ m' ((c.tc : Thread Cert.ResLnRefIdeal.nD Cert.ResLnRefIdeal.τ).loc Cert.ResLnRefIdeal.main_arg4) = m ((c.tc : Thread Cert.ResLnIdeal.nD Cert.ResLnIdeal.τ).loc Cert.ResLnIdeal.main_arg4)) →
    ∃ (v0 : (c : Dev Cert.ResLnIdeal.nD) → Buf (Elt Ideal) ((c.tc : Thread Cert.ResLnIdeal.nD Cert.ResLnIdeal.τ).loc Cert.ResLnIdeal.main_v2_0)) (v1 : (c : Dev Cert.ResLnIdeal.nD) → Buf (Elt Ideal) ((c.tc : Thread Cert.ResLnIdeal.nD Cert.ResLnIdeal.τ).loc Cert.ResLnIdeal.main_v2_1)),
      θ_run (Cert.ResLnIdeal.defs (F := Ideal)) (onTc (τ := Cert.ResLnIdeal.τ) (Cert.ResLnIdeal.main (F := Ideal))) ⟨m, fun _ => 0, g⟩ (fun r => ∀ c : Dev Cert.ResLnIdeal.nD,
          r.2.mem ((c.tc : Thread Cert.ResLnIdeal.nD Cert.ResLnIdeal.τ).loc Cert.ResLnIdeal.main_v2_0) = v0 c
          ∧ r.2.mem ((c.tc : Thread Cert.ResLnIdeal.nD Cert.ResLnIdeal.τ).loc Cert.ResLnIdeal.main_v2_1) = v1 c
          ∧ r.2.mem ((c.tc : Thread Cert.ResLnIdeal.nD Cert.ResLnIdeal.τ).loc Cert.ResLnIdeal.main_arg0) = m ((c.tc : Thread Cert.ResLnIdeal.nD Cert.ResLnIdeal.τ).loc Cert.ResLnIdeal.main_arg0)
          ∧ r.2.mem ((c.tc : Thread Cert.ResLnIdeal.nD Cert.ResLnIdeal.τ).loc Cert.ResLnIdeal.main_arg1) = m ((c.tc : Thread Cert.ResLnIdeal.nD Cert.ResLnIdeal.τ).loc Cert.ResLnIdeal.main_arg1)
          ∧ r.2.mem ((c.tc : Thread Cert.ResLnIdeal.nD Cert.ResLnIdeal.τ).loc Cert.ResLnIdeal.main_arg2) = m ((c.tc : Thread Cert.ResLnIdeal.nD Cert.ResLnIdeal.τ).loc Cert.ResLnIdeal.main_arg2)
          ∧ r.2.mem ((c.tc : Thread Cert.ResLnIdeal.nD Cert.ResLnIdeal.τ).loc Cert.ResLnIdeal.main_arg3) = m ((c.tc : Thread Cert.ResLnIdeal.nD Cert.ResLnIdeal.τ).loc Cert.ResLnIdeal.main_arg3)
          ∧ r.2.mem ((c.tc : Thread Cert.ResLnIdeal.nD Cert.ResLnIdeal.τ).loc Cert.ResLnIdeal.main_arg4) = m ((c.tc : Thread Cert.ResLnIdeal.nD Cert.ResLnIdeal.τ).loc Cert.ResLnIdeal.main_arg4))
      ∧ θ_run (Cert.ResLnRefIdeal.defs (F := Ideal)) (onTc (τ := Cert.ResLnRefIdeal.τ) (Cert.ResLnRefIdeal.main (F := Ideal))) ⟨m', fun _ => 0, g'⟩ (fun r => ∀ c : Dev Cert.ResLnRefIdeal.nD,
          r.2.mem ((c.tc : Thread Cert.ResLnRefIdeal.nD Cert.ResLnRefIdeal.τ).loc Cert.ResLnRefIdeal.main_v48) = v0 c
          ∧ r.2.mem ((c.tc : Thread Cert.ResLnRefIdeal.nD Cert.ResLnRefIdeal.τ).loc Cert.ResLnRefIdeal.main_v50) = v1 c
          ∧ r.2.mem ((c.tc : Thread Cert.ResLnRefIdeal.nD Cert.ResLnRefIdeal.τ).loc Cert.ResLnRefIdeal.main_arg0) = m' ((c.tc : Thread Cert.ResLnRefIdeal.nD Cert.ResLnRefIdeal.τ).loc Cert.ResLnRefIdeal.main_arg0)
          ∧ r.2.mem ((c.tc : Thread Cert.ResLnRefIdeal.nD Cert.ResLnRefIdeal.τ).loc Cert.ResLnRefIdeal.main_arg1) = m' ((c.tc : Thread Cert.ResLnRefIdeal.nD Cert.ResLnRefIdeal.τ).loc Cert.ResLnRefIdeal.main_arg1)
          ∧ r.2.mem ((c.tc : Thread Cert.ResLnRefIdeal.nD Cert.ResLnRefIdeal.τ).loc Cert.ResLnRefIdeal.main_arg2) = m' ((c.tc : Thread Cert.ResLnRefIdeal.nD Cert.ResLnRefIdeal.τ).loc Cert.ResLnRefIdeal.main_arg2)
          ∧ r.2.mem ((c.tc : Thread Cert.ResLnRefIdeal.nD Cert.ResLnRefIdeal.τ).loc Cert.ResLnRefIdeal.main_arg3) = m' ((c.tc : Thread Cert.ResLnRefIdeal.nD Cert.ResLnRefIdeal.τ).loc Cert.ResLnRefIdeal.main_arg3)
          ∧ r.2.mem ((c.tc : Thread Cert.ResLnRefIdeal.nD Cert.ResLnRefIdeal.τ).loc Cert.ResLnRefIdeal.main_arg4) = m' ((c.tc : Thread Cert.ResLnRefIdeal.nD Cert.ResLnRefIdeal.τ).loc Cert.ResLnRefIdeal.main_arg4))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)) →
    ∃ (v0 : (c : Dev Cert.ModulateIdeal.nD) → Buf (Elt Ideal) ((c.tc : Thread Cert.ModulateIdeal.nD Cert.ModulateIdeal.τ).loc Cert.ModulateIdeal.main_v0)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v0) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v29) = v0 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1))

def Claim : Prop :=
  ∃ (hKernel : Cert.Kernel.Facts) (hKernelIdeal : Cert.KernelIdeal.Facts) (hReferenceIdeal : Cert.ReferenceIdeal.Facts) (hExpertUp : Cert.ExpertUp.Facts) (hExpertUpIdeal : Cert.ExpertUpIdeal.Facts) (hExpertUpRefIdeal : Cert.ExpertUpRefIdeal.Facts) (hExpertDown : Cert.ExpertDown.Facts) (hExpertDownIdeal : Cert.ExpertDownIdeal.Facts) (hExpertDownRefIdeal : Cert.ExpertDownRefIdeal.Facts) (hGdnIn : Cert.GdnIn.Facts) (hGdnInIdeal : Cert.GdnInIdeal.Facts) (hGdnInRefIdeal : Cert.GdnInRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hGdnOut : Cert.GdnOut.Facts) (hGdnOutIdeal : Cert.GdnOutIdeal.Facts) (hGdnOutRefIdeal : Cert.GdnOutRefIdeal.Facts) (hDiffIn : Cert.DiffIn.Facts) (hDiffInIdeal : Cert.DiffInIdeal.Facts) (hDiffInRefIdeal : Cert.DiffInRefIdeal.Facts) (hDiffOut : Cert.DiffOut.Facts) (hDiffOutIdeal : Cert.DiffOutIdeal.Facts) (hDiffOutRefIdeal : Cert.DiffOutRefIdeal.Facts) (hGdnAb : Cert.GdnAb.Facts) (hGdnAbIdeal : Cert.GdnAbIdeal.Facts) (hGdnAbRefIdeal : Cert.GdnAbRefIdeal.Facts) (hAda : Cert.Ada.Facts) (hAdaIdeal : Cert.AdaIdeal.Facts) (hAdaRefIdeal : Cert.AdaRefIdeal.Facts) (hNormGate : Cert.NormGate.Facts) (hNormGateIdeal : Cert.NormGateIdeal.Facts) (hNormGateRefIdeal : Cert.NormGateRefIdeal.Facts) (hResLn : Cert.ResLn.Facts) (hResLnIdeal : Cert.ResLnIdeal.Facts) (hResLnRefIdeal : Cert.ResLnRefIdeal.Facts) (hModulate : Cert.Modulate.Facts) (hModulateIdeal : Cert.ModulateIdeal.Facts) (hModulateRefIdeal : Cert.ModulateRefIdeal.Facts) (hPre_finite_qk : Cert.Pre_finite_qk.Facts) (hPre_tables_up : Cert.Pre_tables_up.Facts) (hPre_tables_down : Cert.Pre_tables_down.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_ExpertUp (hExpertUp := hExpertUp) (hPre_tables_up := hPre_tables_up)
    ∧ quiescent_ExpertUpIdeal (hExpertUpIdeal := hExpertUpIdeal) (hPre_tables_up := hPre_tables_up)
    ∧ quiescent_ExpertUpRefIdeal (hExpertUpRefIdeal := hExpertUpRefIdeal)
    ∧ quiescent_ExpertUpRefIdeal_pre_tables_up (hExpertUpRefIdeal := hExpertUpRefIdeal) (hPre_tables_up := hPre_tables_up)
    ∧ quiescent_ExpertDown (hExpertDown := hExpertDown) (hPre_tables_down := hPre_tables_down)
    ∧ quiescent_ExpertDownIdeal (hExpertDownIdeal := hExpertDownIdeal) (hPre_tables_down := hPre_tables_down)
    ∧ quiescent_ExpertDownRefIdeal (hExpertDownRefIdeal := hExpertDownRefIdeal)
    ∧ quiescent_ExpertDownRefIdeal_pre_tables_down (hExpertDownRefIdeal := hExpertDownRefIdeal) (hPre_tables_down := hPre_tables_down)
    ∧ quiescent_GdnIn (hGdnIn := hGdnIn)
    ∧ quiescent_GdnInIdeal (hGdnInIdeal := hGdnInIdeal)
    ∧ quiescent_GdnInRefIdeal (hGdnInRefIdeal := hGdnInRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_GdnOut (hGdnOut := hGdnOut)
    ∧ quiescent_GdnOutIdeal (hGdnOutIdeal := hGdnOutIdeal)
    ∧ quiescent_GdnOutRefIdeal (hGdnOutRefIdeal := hGdnOutRefIdeal)
    ∧ quiescent_DiffIn (hDiffIn := hDiffIn)
    ∧ quiescent_DiffInIdeal (hDiffInIdeal := hDiffInIdeal)
    ∧ quiescent_DiffInRefIdeal (hDiffInRefIdeal := hDiffInRefIdeal)
    ∧ quiescent_DiffOut (hDiffOut := hDiffOut)
    ∧ quiescent_DiffOutIdeal (hDiffOutIdeal := hDiffOutIdeal)
    ∧ quiescent_DiffOutRefIdeal (hDiffOutRefIdeal := hDiffOutRefIdeal)
    ∧ quiescent_GdnAb (hGdnAb := hGdnAb)
    ∧ quiescent_GdnAbIdeal (hGdnAbIdeal := hGdnAbIdeal)
    ∧ quiescent_GdnAbRefIdeal (hGdnAbRefIdeal := hGdnAbRefIdeal)
    ∧ quiescent_Ada (hAda := hAda)
    ∧ quiescent_AdaIdeal (hAdaIdeal := hAdaIdeal)
    ∧ quiescent_AdaRefIdeal (hAdaRefIdeal := hAdaRefIdeal)
    ∧ quiescent_NormGate (hNormGate := hNormGate)
    ∧ quiescent_NormGateIdeal (hNormGateIdeal := hNormGateIdeal)
    ∧ quiescent_NormGateRefIdeal (hNormGateRefIdeal := hNormGateRefIdeal)
    ∧ quiescent_ResLn (hResLn := hResLn)
    ∧ quiescent_ResLnIdeal (hResLnIdeal := hResLnIdeal)
    ∧ quiescent_ResLnRefIdeal (hResLnRefIdeal := hResLnRefIdeal)
    ∧ quiescent_Modulate (hModulate := hModulate)
    ∧ quiescent_ModulateIdeal (hModulateIdeal := hModulateIdeal)
    ∧ quiescent_ModulateRefIdeal (hModulateRefIdeal := hModulateRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_ExpertUp_ExpertUpIdeal
    ∧ algebraic_ExpertUpIdeal_ExpertUpRefIdeal (hExpertUpIdeal := hExpertUpIdeal) (hExpertUpRefIdeal := hExpertUpRefIdeal) (hPre_tables_up := hPre_tables_up)
    ∧ preserves_ExpertDown_ExpertDownIdeal
    ∧ algebraic_ExpertDownIdeal_ExpertDownRefIdeal (hExpertDownIdeal := hExpertDownIdeal) (hExpertDownRefIdeal := hExpertDownRefIdeal) (hPre_tables_down := hPre_tables_down)
    ∧ preserves_GdnIn_GdnInIdeal
    ∧ algebraic_GdnInIdeal_GdnInRefIdeal (hGdnInIdeal := hGdnInIdeal) (hGdnInRefIdeal := hGdnInRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_GdnOut_GdnOutIdeal
    ∧ algebraic_GdnOutIdeal_GdnOutRefIdeal (hGdnOutIdeal := hGdnOutIdeal) (hGdnOutRefIdeal := hGdnOutRefIdeal)
    ∧ preserves_DiffIn_DiffInIdeal
    ∧ algebraic_DiffInIdeal_DiffInRefIdeal (hDiffInIdeal := hDiffInIdeal) (hDiffInRefIdeal := hDiffInRefIdeal)
    ∧ preserves_DiffOut_DiffOutIdeal
    ∧ algebraic_DiffOutIdeal_DiffOutRefIdeal (hDiffOutIdeal := hDiffOutIdeal) (hDiffOutRefIdeal := hDiffOutRefIdeal)
    ∧ preserves_GdnAb_GdnAbIdeal
    ∧ algebraic_GdnAbIdeal_GdnAbRefIdeal (hGdnAbIdeal := hGdnAbIdeal) (hGdnAbRefIdeal := hGdnAbRefIdeal)
    ∧ preserves_Ada_AdaIdeal
    ∧ algebraic_AdaIdeal_AdaRefIdeal (hAdaIdeal := hAdaIdeal) (hAdaRefIdeal := hAdaRefIdeal)
    ∧ preserves_NormGate_NormGateIdeal
    ∧ algebraic_NormGateIdeal_NormGateRefIdeal (hNormGateIdeal := hNormGateIdeal) (hNormGateRefIdeal := hNormGateRefIdeal)
    ∧ preserves_ResLn_ResLnIdeal
    ∧ algebraic_ResLnIdeal_ResLnRefIdeal (hResLnIdeal := hResLnIdeal) (hResLnRefIdeal := hResLnRefIdeal)
    ∧ preserves_Modulate_ModulateIdeal
    ∧ algebraic_ModulateIdeal_ModulateRefIdeal (hModulateIdeal := hModulateIdeal) (hModulateRefIdeal := hModulateRefIdeal)
-- ==== Pre_finite_qk.lean ====
abbrev S4x4352x4096 : Shape := ⟨3, ![4, 4352, 4096]⟩
abbrev S17408x6144 : Shape := ⟨2, ![17408, 6144]⟩
abbrev S4x128 : Shape := ⟨2, ![4, 128]⟩
abbrev S256 : Shape := ⟨1, ![256]⟩
abbrev S_ : Shape := ⟨0, ![]⟩

class Facts : Prop where
  bitsLt_bf16_f32 : FTy.bits .bf16 < FTy.bits .f32
  bcast_S_S4x4352x4096 : S_.BroadcastsInDim S4x4352x4096 (![] : Fin 0 → Fin S4x4352x4096.rank)
  reducesTo_S4x4352x4096_S_d0_1_2 : S4x4352x4096.ReducesTo [0, 1, 2] S_
  h_S_ : 0 < S_.numel

variable [Facts]

def fn {F : FTy → Type} [FloatOps F] (main_arg0 : FVec F S4x4352x4096 .bf16) (main_arg1 : FVec F S17408x6144 .bf16) (main_arg2 : FVec F S4x128 .f32) (main_arg3 : FVec F S256 .f32) : IVec S_ 1 :=
  let main_v0 : FVec F S4x4352x4096 .f32 := (extf .f32 · bitsLt_bf16_f32) main_arg0
  let main_v1 : FVec F S4x4352x4096 .f32 := Host.absf main_v0
  let main_cst : FVec F S_ .f32 := constant S_ .f32 0x7F800000#32
  let main_v2 : FVec F S4x4352x4096 .f32 := broadcastInDim S4x4352x4096 ![] bcast_S_S4x4352x4096 main_cst
  let main_v3 : IVec S4x4352x4096 1 := cmpf .olt main_v1 main_v2
  let main_c : IVec S_ 1 := constantI S_ 1 1#1
  let main_v4 : IVec S_ 1 := (fun x v => Host.reduce IntOp.andi x v reducesTo_S4x4352x4096_S_d0_1_2 h_S_) main_v3 main_c
  main_v4
-- ==== Pre_tables_down.lean ====
abbrev S34816x7168 : Shape := ⟨2, ![34816, 7168]⟩
abbrev S136 : Shape := ⟨1, ![136]⟩
abbrev S1 : Shape := ⟨1, ![1]⟩
abbrev S8x7168x2048 : Shape := ⟨3, ![8, 7168, 2048]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : FVec F S34816x7168 .bf16) (main_arg1 : IVec S136 32) (main_arg2 : IVec S1 32) (main_arg3 : FVec F S8x7168x2048 .f32) : IVec S_ 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 1 := constantI S_ 1 1#1
  let main_v2 : IVec S_ 1 := (fun x v => Host.reduce IntOp.andi x v reducesTo_S136_S_d0 h_S_) main_v1 main_c_0
  let main_c_1 : IVec S_ 32 := constantI S_ 32 8#32
  let main_v3 : IVec S136 32 := broadcastInDim S136 ![] bcast_S_S136 main_c_1
  let main_v4 : IVec S136 1 := cmpi .slt main_arg1 main_v3
  let main_c_2 : IVec S_ 1 := constantI S_ 1 1#1
  let main_v5 : IVec S_ 1 := (fun x v => Host.reduce IntOp.andi x v reducesTo_S136_S_d0 h_S_) main_v4 main_c_2
  let main_v6 : IVec S_ 1 := andi main_v2 main_v5
  main_v6
-- ==== Pre_tables_up.lean ====
abbrev S34816x2048 : Shape := ⟨2, ![34816, 2048]⟩
abbrev S136 : Shape := ⟨1, ![136]⟩
abbrev S1 : Shape := ⟨1, ![1]⟩
abbrev S8x2048x14336 : Shape := ⟨3, ![8, 2048, 14336]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : FVec F S34816x2048 .bf16) (main_arg1 : IVec S136 32) (main_arg2 : IVec S1 32) (main_arg3 : FVec F S8x2048x14336 .f32) : IVec S_ 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 1 := constantI S_ 1 1#1
  let main_v2 : IVec S_ 1 := (fun x v => Host.reduce IntOp.andi x v reducesTo_S136_S_d0 h_S_) main_v1 main_c_0
  let main_c_1 : IVec S_ 32 := constantI S_ 32 8#32
  let main_v3 : IVec S136 32 := broadcastInDim S136 ![] bcast_S_S136 main_c_1
  let main_v4 : IVec S136 1 := cmpi .slt main_arg1 main_v3
  let main_c_2 : IVec S_ 1 := constantI S_ 1 1#1
  let main_v5 : IVec S_ 1 := (fun x v => Host.reduce IntOp.andi x v reducesTo_S136_S_d0 h_S_) main_v4 main_c_2
  let main_v6 : IVec S_ 1 := andi main_v2 main_v5
  main_v6
-- ==== Kernel.lean ====
abbrev S4x4352x4096 : Shape := ⟨3, ![4, 4352, 4096]⟩
abbrev S17408x6144 : Shape := ⟨2, ![17408, 6144]⟩
abbrev S4x128 : Shape := ⟨2, ![4, 128]⟩
abbrev S256 : Shape := ⟨1, ![256]⟩
abbrev S4x4352x6144 : Shape := ⟨3, ![4, 4352, 6144]⟩
abbrev S1x256 : Shape := ⟨2, ![1, 256]⟩
abbrev S4x4096x2048 : Shape := ⟨3, ![4, 4096, 2048]⟩
abbrev S1x256x256 : Shape := ⟨3, ![1, 256, 256]⟩
abbrev S1x4352x256 : Shape := ⟨3, ![1, 4352, 256]⟩
abbrev S1x128 : Shape := ⟨2, ![1, 128]⟩
abbrev S1 : Shape := ⟨1, ![1]⟩
abbrev S1x1 : Shape := ⟨2, ![1, 1]⟩
abbrev S256x256 : Shape := ⟨2, ![256, 256]⟩
abbrev S4352x256 : Shape := ⟨2, ![4352, 256]⟩
abbrev S256x128 : Shape := ⟨2, ![256, 128]⟩
abbrev S4352x128 : Shape := ⟨2, ![4352, 128]⟩
abbrev S256x4352 : Shape := ⟨2, ![256, 4352]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4x4352x4096, .bf16⟩
  | .hbm, ⟨1, _⟩ => ⟨S17408x6144, .bf16⟩
  | .hbm, ⟨2, _⟩ => ⟨S4x128, .f32⟩
  | .hbm, ⟨3, _⟩ => ⟨S256, .f32⟩
  | .hbm, ⟨4, _⟩ => ⟨S4x4352x6144, .bf16⟩
  | .hbm, ⟨5, _⟩ => ⟨S1x256, .f32⟩
  | .hbm, ⟨6, _⟩ => ⟨S4x4096x2048, .bf16⟩
  | .local _ .vmem, ⟨0, _⟩ => ⟨S4x128, .f32⟩
  | .local _ .vmem, ⟨1, _⟩ => ⟨S1x256, .f32⟩
  | .local _ .vmem, ⟨2, _⟩ => ⟨S1x256x256, .bf16⟩
  | .local _ .vmem, ⟨3, _⟩ => ⟨S1x256x256, .bf16⟩
  | .local _ .vmem, ⟨4, _⟩ => ⟨S1x4352x256, .bf16⟩
  | .local _ .vmem, ⟨5, _⟩ => ⟨S1x4352x256, .bf16⟩
  | .local _ .vmem, ⟨6, _⟩ => ⟨S1x4352x256, .bf16⟩
  | .local _ .vmem, ⟨7, _⟩ => ⟨S1x4352x256, .bf16⟩
  | .local _ .vmem, ⟨8, _⟩ => ⟨S1x256x256, .bf16⟩
  | .local _ .vmem, ⟨9, _⟩ => ⟨S1x256x256, .bf16⟩
  | _, _ => ⟨S4x4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4352x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4352x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4352x4096 : Shape := ⟨3, ![4, 4352, 4096]⟩
abbrev S17408x6144 : Shape := ⟨2, ![17408, 6144]⟩
abbrev S4x128 : Shape := ⟨2, ![4, 128]⟩
abbrev S256 : Shape := ⟨1, ![256]⟩
abbrev S1x128 : Shape := ⟨2, ![1, 128]⟩
abbrev S128 : Shape := ⟨1, ![128]⟩
abbrev S_ : Shape := ⟨0, ![]⟩
abbrev S4x4096x2048 : Shape := ⟨3, ![4, 4096, 2048]⟩
abbrev S4x4096x8x2x128 : Shape := ⟨5, ![4, 4096, 8, 2, 128]⟩
abbrev S4x8x2x4096x128 : Shape := ⟨5, ![4, 8, 2, 4096, 128]⟩
abbrev S4x4352x2048 : Shape := ⟨3, ![4, 4352, 2048]⟩
abbrev S4x4352x8x2x128 : Shape := ⟨5, ![4, 4352, 8, 2, 128]⟩
abbrev S4x8x2x4352x128 : Shape := ⟨5, ![4, 8, 2, 4352, 128]⟩
abbrev S4x4352x6144 : Shape := ⟨3, ![4, 4352, 6144]⟩
abbrev S4x4352x8x256 : Shape := ⟨4, ![4, 4352, 8, 256]⟩
abbrev S4x8x4352x256 : Shape := ⟨4, ![4, 8, 4352, 256]⟩
abbrev S4x8x2x4096x4352 : Shape := ⟨5, ![4, 8, 2, 4096, 4352]⟩
abbrev S4x8x2x4096 : Shape := ⟨4, ![4, 8, 2, 4096]⟩
abbrev S4x8x2x4096x1 : Shape := ⟨5, ![4, 8, 2, 4096, 1]⟩
abbrev S4x8x1x4096x4352 : Shape := ⟨5, ![4, 8, 1, 4096, 4352]⟩
abbrev S4x8x4096x4352 : Shape := ⟨4, ![4, 8, 4096, 4352]⟩
abbrev S4x8x4096x256 : Shape := ⟨4, ![4, 8, 4096, 256]⟩
abbrev S4x4096x8x256 : Shape := ⟨4, ![4, 4096, 8, 256]⟩
abbrev S4x4096x8 : Shape := ⟨3, ![4, 4096, 8]⟩
abbrev S4x4096x8x1 : Shape := ⟨4, ![4, 4096, 8, 1]⟩
abbrev S1x1x1x256 : Shape := ⟨4, ![1, 1, 1, 256]⟩

abbrev nBuf : Space → Nat
  | .hbm => 80
  | .vmem => 0
  | .smem => 0
  | _ => 0

abbrev bufTy : (tb : Table) → Fin (tcTables nBuf tb) → BufTy
  | .hbm, ⟨0, _⟩ => ⟨S4x4352x4096, .bf16⟩
  | .hbm, ⟨1, _⟩ => ⟨S17408x6144, .bf16⟩
  | .hbm, ⟨2, _⟩ => ⟨S4x128, .f32⟩
  | .hbm, ⟨3, _⟩ => ⟨S256, .f32⟩
  | .hbm, ⟨4, _⟩ => ⟨S4x4352x4096, .f32⟩
  | .hbm, ⟨5, _⟩ => ⟨S17408x6144, .f32⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x128, .f32⟩
  | .hbm, ⟨15, _⟩ => ⟨S128, .f32⟩
  | .hbm, ⟨16, _⟩ => ⟨S1x128, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x4096x2048, .f32⟩
  | .hbm, ⟨26, _⟩ => ⟨S4x4096x8x2x128, .f32⟩
  | .hbm, ⟨27, _⟩ => ⟨S4x8x2x4096x128, .f32⟩
  | .hbm, ⟨28, _⟩ => ⟨S4x4352x2048, .f32⟩
  | .hbm, ⟨29, _⟩ => ⟨S4x4352x8x2x128, .f32⟩
  | .hbm, ⟨30, _⟩ => ⟨S4x8x2x4352x128, .f32⟩
  | .hbm, ⟨31, _⟩ => ⟨S4x4352x6144, .f32⟩
  | .hbm, ⟨32, _⟩ => ⟨S4x4352x2048, .f32⟩
  | .hbm, ⟨33, _⟩ => ⟨S4x4352x8x256, .f32⟩
  | .hbm, ⟨34, _⟩ => ⟨S4x8x4352x256, .f32⟩
  | .hbm, ⟨35, _⟩ => ⟨S4x8x2x4096x4352, .f32⟩
  | .hbm, ⟨36, _⟩ => ⟨S_, .f32⟩
  | .hbm, ⟨37, _⟩ => ⟨S4x8x2x4096, .f32⟩
  | .hbm, ⟨38, _⟩ => ⟨S_, .f32⟩
  | .hbm, ⟨39, _⟩ => ⟨S4x8x2x4096, .f32⟩
  | .hbm, ⟨40, _⟩ => ⟨S4x8x2x4096, .f32⟩
  | .hbm, ⟨41, _⟩ => ⟨S4x8x2x4096x1, .f32⟩
  | .hbm, ⟨42, _⟩ => ⟨S4x8x2x4096x4352, .f32⟩
  | .hbm, ⟨43, _⟩ => ⟨S4x8x2x4096x4352, .f32⟩
  | .hbm, ⟨44, _⟩ => ⟨S4x8x2x4096x4352, .f32⟩
  | .hbm, ⟨45, _⟩ => ⟨S_, .f32⟩
  | .hbm, ⟨46, _⟩ => ⟨S4x8x2x4096, .f32⟩
  | .hbm, ⟨47, _⟩ => ⟨S4x8x2x4096x1, .f32⟩
  | .hbm, ⟨48, _⟩ => ⟨S4x8x2x4096x4352, .f32⟩
  | .hbm, ⟨49, _⟩ => ⟨S4x8x2x4096x4352, .f32⟩
  | .hbm, ⟨50, _⟩ => ⟨S4x8x1x4096x4352, .f32⟩
  | .hbm, ⟨51, _⟩ => ⟨S4x8x4096x4352, .f32⟩
  | .hbm, ⟨52, _⟩ => ⟨S4x8x1x4096x4352, .f32⟩
  | .hbm, ⟨53, _⟩ => ⟨S4x8x4096x4352, .f32⟩
  | .hbm, ⟨54, _⟩ => ⟨S4x8x4096x4352, .f32⟩
  | .hbm, ⟨55, _⟩ => ⟨S4x8x4096x4352, .f32⟩
  | .hbm, ⟨56, _⟩ => ⟨S4x8x4096x4352, .f32⟩
  | .hbm, ⟨57, _⟩ => ⟨S4x8x4096x256, .f32⟩
  | .hbm, ⟨58, _⟩ => ⟨S4x4096x8x256, .f32⟩
  | .hbm, ⟨59, _⟩ => ⟨S4x4096x8x256, .f32⟩
  | .hbm, ⟨60, _⟩ => ⟨S_, .f32⟩
  | .hbm, ⟨61, _⟩ => ⟨S4x4096x8, .f32⟩
  | .hbm, ⟨62, _⟩ => ⟨S4x4096x8x1, .f32⟩
  | .hbm, ⟨63, _⟩ => ⟨S_, .f32⟩
  | .hbm, ⟨64, _⟩ => ⟨S4x4096x8x1, .f32⟩
  | .hbm, ⟨65, _⟩ => ⟨S4x4096x8x1, .f32⟩
  | .hbm, ⟨66, _⟩ => ⟨S_, .f32⟩
  | .hbm, ⟨67, _⟩ => ⟨S4x4096x8x1, .f32⟩
  | .hbm, ⟨68, _⟩ => ⟨S4x4096x8x1, .f32⟩
  | .hbm, ⟨69, _⟩ => ⟨S4x4096x8x1, .f32⟩
  | .hbm, ⟨70, _⟩ => ⟨S4x4096x8x256, .f32⟩
  | .hbm, ⟨71, _⟩ => ⟨S4x4096x8x256, .f32⟩
  | .hbm, ⟨72, _⟩ => ⟨S1x1x1x256, .f32⟩
  | .hbm, ⟨73, _⟩ => ⟨S4x4096x8x256, .f32⟩
  | .hbm, ⟨74, _⟩ => ⟨S4x4096x8x256, .f32⟩
  | .hbm, ⟨75, _⟩ => ⟨S_, .f32⟩
  | .hbm, ⟨76, _⟩ => ⟨S4x4096x8x256, .f32⟩
  | .hbm, ⟨77, _⟩ => ⟨S4x4096x8x256, .f32⟩
  | .hbm, ⟨78, _⟩ => ⟨S4x4096x2048, .f32⟩
  | .hbm, ⟨79, _⟩ => ⟨S4x4096x2048, .bf16⟩
  | _, _ => ⟨S4x4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_8 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== ExpertUp.lean ====
abbrev S34816x2048 : Shape := ⟨2, ![34816, 2048]⟩
abbrev S136 : Shape := ⟨1, ![136]⟩
abbrev S1 : Shape := ⟨1, ![1]⟩
abbrev S8x2048x14336 : Shape := ⟨3, ![8, 2048, 14336]⟩
abbrev S34816x7168 : Shape := ⟨2, ![34816, 7168]⟩
abbrev S256x2048 : Shape := ⟨2, ![256, 2048]⟩
abbrev S1x2048x512 : Shape := ⟨3, ![1, 2048, 512]⟩
abbrev S256x512 : Shape := ⟨2, ![256, 512]⟩
abbrev S2048x512 : Shape := ⟨2, ![2048, 512]⟩

abbrev nBuf : Space → Nat
  | .hbm => 3
  | .vmem => 10
  | .smem => 2
  | _ => 0

abbrev bufTy : (tb : Table) → Fin (tcTables nBuf tb) → BufTy
  | .hbm, ⟨0, _⟩ => ⟨S34816x2048, .bf16⟩
  | .hbm, ⟨1, _⟩ => ⟨S8x2048x14336, .f32⟩
  | .hbm, ⟨2, _⟩ => ⟨S34816x7168, .bf16⟩
  | .local _ .vmem, ⟨0, _⟩ => ⟨S256x2048, .bf16⟩
  | .local _ .vmem, ⟨1, _⟩ => ⟨S256x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S256x512, .bf16⟩
  | .local _ .vmem, ⟨7, _⟩ => ⟨S256x512, .bf16⟩
  | .local _ .vmem, ⟨8, _⟩ => ⟨S2048x512, .bf16⟩
  | .local _ .vmem, ⟨9, _⟩ => ⟨S2048x512, .bf16⟩
  | .local _ .smem, ⟨0, _⟩ => ⟨S136, .i32⟩
  | .local _ .smem, ⟨1, _⟩ => ⟨S1, .i32⟩
  | _, _ => ⟨S34816x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_v0 : Ref sig .tc := ⟨.hbm, 2, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![14, 136], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c14_i32 : BitVec 32 := 14#32
  let v2 : BitVec 32 := Scalar.addi arg0 c14_i32
  let c0_i32 : BitVec 32 := 0#32
  let c0_i32_0 : BitVec 32 := 0#32
  ![v1.toNat, c0_i32.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ExpertUpRefIdeal.lean ====
abbrev S34816x2048 : Shape := ⟨2, ![34816, 2048]⟩
abbrev S136 : Shape := ⟨1, ![136]⟩
abbrev S1 : Shape := ⟨1, ![1]⟩
abbrev S8x2048x14336 : Shape := ⟨3, ![8, 2048, 14336]⟩
abbrev S_ : Shape := ⟨0, ![]⟩
abbrev S136x256 : Shape := ⟨2, ![136, 256]⟩
abbrev S34816 : Shape := ⟨1, ![34816]⟩
abbrev S34816x1 : Shape := ⟨2, ![34816, 1]⟩
abbrev S1x8 : Shape := ⟨2, ![1, 8]⟩
abbrev S34816x8 : Shape := ⟨2, ![34816, 8]⟩
abbrev S34816x7168 : Shape := ⟨2, ![34816, 7168]⟩
abbrev S1x2048x14336 : Shape := ⟨3, ![1, 2048, 14336]⟩
abbrev S2048x14336 : Shape := ⟨2, ![2048, 14336]⟩
abbrev S34816x14336 : Shape := ⟨2, ![34816, 14336]⟩

abbrev nBuf : Space → Nat
  | .hbm => 180
  | .vmem => 0
  | .smem => 0
  | _ => 0

abbrev hbmTy0_0 (i : Nat) : BufTy := match i % 128 with
  | 0 => ⟨S34816x2048, .bf16⟩
  | 1 => ⟨S136, .i32⟩
  | 2 => ⟨S1, .i32⟩
  | 3 => ⟨S8x2048x14336, .f32⟩
  | 4 => ⟨S34816x2048, .f32⟩
  | 5 => ⟨S136, .i32⟩
  | 6 => ⟨S_, .i32⟩
  | 7 => ⟨S136, .i32⟩
  | 8 => ⟨S136, .i1⟩
  | 9 => ⟨S136x256, .i1⟩
  | 10 => ⟨S34816, .i1⟩
  | 11 => ⟨S34816x1, .i1⟩
  | 12 => ⟨S136x256, .i32⟩
  | 13 => ⟨S34816, .i32⟩
  | 14 => ⟨S34816x1, .i32⟩
  | 15 => ⟨S1x8, .i32⟩
  | 16 => ⟨S34816x8, .i32⟩
  | 17 => ⟨S34816x8, .i32⟩
  | 18 => ⟨S34816x8, .i1⟩
  | 19 => ⟨S34816x8, .f32⟩
  | 20 => ⟨S_, .f32⟩
  | 21 => ⟨S_, .f32⟩
  | 22 => ⟨S34816x8, .i1⟩
  | 23 => ⟨S34816x8, .f32⟩
  | 24 => ⟨S34816x8, .f32⟩
  | 25 => ⟨S_, .f32⟩
  | 26 => ⟨S34816x7168, .f32⟩
  | 27 => ⟨S1x2048x14336, .f32⟩
  | 28 => ⟨S2048x14336, .f32⟩
  | 29 => ⟨S34816x14336, .f32⟩
  | 30 => ⟨S34816x7168, .f32⟩
  | 31 => ⟨S34816x7168, .f32⟩
  | 32 => ⟨S34816x1, .f32⟩
  | 33 => ⟨S34816x7168, .f32⟩
  | 34 => ⟨S34816x7168, .f32⟩
  | 35 => ⟨S_, .f32⟩
  | 36 => ⟨S34816x7168, .f32⟩
  | 37 => ⟨S34816x7168, .f32⟩
  | 38 => ⟨S_, .f32⟩
  | 39 => ⟨S34816x7168, .f32⟩
  | 40 => ⟨S34816x7168, .f32⟩
  | 41 => ⟨S34816x7168, .f32⟩
  | 42 => ⟨S34816x7168, .f32⟩
  | 43 => ⟨S34816x7168, .f32⟩
  | 44 => ⟨S34816x7168, .f32⟩
  | 45 => ⟨S34816x7168, .f32⟩
  | 46 => ⟨S1x2048x14336, .f32⟩
  | 47 => ⟨S2048x14336, .f32⟩
  | 48 => ⟨S34816x14336, .f32⟩
  | 49 => ⟨S34816x7168, .f32⟩
  | 50 => ⟨S34816x7168, .f32⟩
  | 51 => ⟨S34816x1, .f32⟩
  | 52 => ⟨S34816x7168, .f32⟩
  | 53 => ⟨S34816x7168, .f32⟩
  | 54 => ⟨S_, .f32⟩
  | 55 => ⟨S34816x7168, .f32⟩
  | 56 => ⟨S34816x7168, .f32⟩
  | 57 => ⟨S_, .f32⟩
  | 58 => ⟨S34816x7168, .f32⟩
  | 59 => ⟨S34816x7168, .f32⟩
  | 60 => ⟨S34816x7168, .f32⟩
  | 61 => ⟨S34816x7168, .f32⟩
  | 62 => ⟨S34816x7168, .f32⟩
  | 63 => ⟨S34816x7168, .f32⟩
  | 64 => ⟨S34816x7168, .f32⟩
  | 65 => ⟨S1x2048x14336, .f32⟩
  | 66 => ⟨S2048x14336, .f32⟩
  | 67 => ⟨S34816x14336, .f32⟩
  | 68 => ⟨S34816x7168, .f32⟩
  | 69 => ⟨S34816x7168, .f32⟩
  | 70 => ⟨S34816x1, .f32⟩
  | 71 => ⟨S34816x7168, .f32⟩
  | 72 => ⟨S34816x7168, .f32⟩
  | 73 => ⟨S_, .f32⟩
  | 74 => ⟨S34816x7168, .f32⟩
  | 75 => ⟨S34816x7168, .f32⟩
  | 76 => ⟨S_, .f32⟩
  | 77 => ⟨S34816x7168, .f32⟩
  | 78 => ⟨S34816x7168, .f32⟩
  | 79 => ⟨S34816x7168, .f32⟩
  | 80 => ⟨S34816x7168, .f32⟩
  | 81 => ⟨S34816x7168, .f32⟩
  | 82 => ⟨S34816x7168, .f32⟩
  | 83 => ⟨S34816x7168, .f32⟩
  | 84 => ⟨S1x2048x14336, .f32⟩
  | 85 => ⟨S2048x14336, .f32⟩
  | 86 => ⟨S34816x14336, .f32⟩
  | 87 => ⟨S34816x7168, .f32⟩
  | 88 => ⟨S34816x7168, .f32⟩
  | 89 => ⟨S34816x1, .f32⟩
  | 90 => ⟨S34816x7168, .f32⟩
  | 91 => ⟨S34816x7168, .f32⟩
  | 92 => ⟨S_, .f32⟩
  | 93 => ⟨S34816x7168, .f32⟩
  | 94 => ⟨S34816x7168, .f32⟩
  | 95 => ⟨S_, .f32⟩
  | 96 => ⟨S34816x7168, .f32⟩
  | 97 => ⟨S34816x7168, .f32⟩
  | 98 => ⟨S34816x7168, .f32⟩
  | 99 => ⟨S34816x7168, .f32⟩
  | 100 => ⟨S34816x7168, .f32⟩
  | 101 => ⟨S34816x7168, .f32⟩
  | 102 => ⟨S34816x7168, .f32⟩
  | 103 => ⟨S1x2048x14336, .f32⟩
  | 104 => ⟨S2048x14336, .f32⟩
  | 105 => ⟨S34816x14336, .f32⟩
  | 106 => ⟨S34816x7168, .f32⟩
  | 107 => ⟨S34816x7168, .f32⟩
  | 108 => ⟨S34816x1, .f32⟩
  | 109 => ⟨S34816x7168, .f32⟩
  | 110 => ⟨S34816x7168, .f32⟩
  | 111 => ⟨S_, .f32⟩
  | 112 => ⟨S34816x7168, .f32⟩
  | 113 => ⟨S34816x7168, .f32⟩
  | 114 => ⟨S_, .f32⟩
  | 115 => ⟨S34816x7168, .f32⟩
  | 116 => ⟨S34816x7168, .f32⟩
  | 117 => ⟨S34816x7168, .f32⟩
  | 118 => ⟨S34816x7168, .f32⟩
  | 119 => ⟨S34816x7168, .f32⟩
  | 120 => ⟨S34816x7168, .f32⟩
  | 121 => ⟨S34816x7168, .f32⟩
  | 122 => ⟨S1x2048x14336, .f32⟩
  | 123 => ⟨S2048x14336, .f32⟩
  | 124 => ⟨S34816x14336, .f32⟩
  | 125 => ⟨S34816x7168, .f32⟩
  | 126 => ⟨S34816x7168, .f32⟩
  | 127 => ⟨S34816x1, .f32⟩
  | _ => ⟨S34816x2048, .bf16⟩

abbrev hbmTy0_1 (i : Nat) : BufTy := match i % 128 with
  | 0 => ⟨S34816x7168, .f32⟩
  | 1 => ⟨S34816x7168, .f32⟩
  | 2 => ⟨S_, .f32⟩
  | 3 => ⟨S34816x7168, .f32⟩
  | 4 => ⟨S34816x7168, .f32⟩
  | 5 => ⟨S_, .f32⟩
  | 6 => ⟨S34816x7168, .f32⟩
  | 7 => ⟨S34816x7168, .f32⟩
  | 8 => ⟨S34816x7168, .f32⟩
  | 9 => ⟨S34816x7168, .f32⟩
  | 10 => ⟨S34816x7168, .f32⟩
  | 11 => ⟨S34816x7168, .f32⟩
  | 12 => ⟨S34816x7168, .f32⟩
  | 13 => ⟨S1x2048x14336, .f32⟩
  | 14 => ⟨S2048x14336, .f32⟩
  | 15 => ⟨S34816x14336, .f32⟩
  | 16 => ⟨S34816x7168, .f32⟩
  | 17 => ⟨S34816x7168, .f32⟩
  | 18 => ⟨S34816x1, .f32⟩
  | 19 => ⟨S34816x7168, .f32⟩
  | 20 => ⟨S34816x7168, .f32⟩
  | 21 => ⟨S_, .f32⟩
  | 22 => ⟨S34816x7168, .f32⟩
  | 23 => ⟨S34816x7168, .f32⟩
  | 24 => ⟨S_, .f32⟩
  | 25 => ⟨S34816x7168, .f32⟩
  | 26 => ⟨S34816x7168, .f32⟩
  | 27 => ⟨S34816x7168, .f32⟩
  | 28 => ⟨S34816x7168, .f32⟩
  | 29 => ⟨S34816x7168, .f32⟩
  | 30 => ⟨S34816x7168, .f32⟩
  | 31 => ⟨S34816x7168, .f32⟩
  | 32 => ⟨S1x2048x14336, .f32⟩
  | 33 => ⟨S2048x14336, .f32⟩
  | 34 => ⟨S34816x14336, .f32⟩
  | 35 => ⟨S34816x7168, .f32⟩
  | 36 => ⟨S34816x7168, .f32⟩
  | 37 => ⟨S34816x1, .f32⟩
  | 38 => ⟨S34816x7168, .f32⟩
  | 39 => ⟨S34816x7168, .f32⟩
  | 40 => ⟨S_, .f32⟩
  | 41 => ⟨S34816x7168, .f32⟩
  | 42 => ⟨S34816x7168, .f32⟩
  | 43 => ⟨S_, .f32⟩
  | 44 => ⟨S34816x7168, .f32⟩
  | 45 => ⟨S34816x7168, .f32⟩
  | 46 => ⟨S34816x7168, .f32⟩
  | 47 => ⟨S34816x7168, .f32⟩
  | 48 => ⟨S34816x7168, .f32⟩
  | 49 => ⟨S34816x7168, .f32⟩
  | 50 => ⟨S34816x7168, .f32⟩
  | 51 => ⟨S34816x7168, .bf16⟩
  | _ => ⟨S34816x2048, .bf16⟩

abbrev hbmTy (i : Nat) : BufTy := match i / 128 with
  | 0 => hbmTy0_0 i
  | 1 => hbmTy0_1 i
  | _ => ⟨S34816x2048, .bf16⟩

abbrev bufTy : (tb : Table) → Fin (tcTables nBuf tb) → BufTy
  | .hbm, ⟨i, _⟩ => hbmTy i
  | _, _ => ⟨S34816x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v10 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call2_v0 : Ref sig .tc := ⟨.hbm, 33, rfl⟩
abbrev main_call2_v1 : Ref sig .tc := ⟨.hbm, 34, rfl⟩
abbrev main_call2_cst : Ref sig .tc := ⟨.hbm, 35, rfl⟩
abbrev main_call2_v2 : Ref sig .tc := ⟨.hbm, 36, rfl⟩
abbrev main_call2_v3 : Ref sig .tc := ⟨.hbm, 37, rfl⟩
abbrev main_call2_cst_0 : Ref sig .tc := ⟨.hbm, 38, rfl⟩
abbrev main_call2_v4 : Ref sig .tc := ⟨.hbm, 39, rfl⟩
abbrev main_call2_v5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call3_v0 : Ref sig .tc := ⟨.hbm, 52, rfl⟩
abbrev main_call3_v1 : Ref sig .tc := ⟨.hbm, 53, rfl⟩
abbrev main_call3_cst : Ref sig .tc := ⟨.hbm, 54, rfl⟩
abbrev main_call3_v2 : Ref sig .tc := ⟨.hbm, 55, rfl⟩
abbrev main_call3_v3 : Ref sig .tc := ⟨.hbm, 56, rfl⟩
abbrev main_call3_cst_0 : Ref sig .tc := ⟨.hbm, 57, rfl⟩
abbrev main_call3_v4 : Ref sig .tc := ⟨.hbm, 58, rfl⟩
abbrev main_call3_v5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_call4_v0 : Ref sig .tc := ⟨.hbm, 71, rfl⟩
abbrev main_call4_v1 : Ref sig .tc := ⟨.hbm, 72, rfl⟩
abbrev main_call4_cst : Ref sig .tc := ⟨.hbm, 73, rfl⟩
abbrev main_call4_v2 : Ref sig .tc := ⟨.hbm, 74, rfl⟩
abbrev main_call4_v3 : Ref sig .tc := ⟨.hbm, 75, rfl⟩
abbrev main_call4_cst_0 : Ref sig .tc := ⟨.hbm, 76, rfl⟩
abbrev main_call4_v4 : Ref sig .tc := ⟨.hbm, 77, rfl⟩
abbrev main_call4_v5 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_call5_v0 : Ref sig .tc := ⟨.hbm, 90, rfl⟩
abbrev main_call5_v1 : Ref sig .tc := ⟨.hbm, 91, rfl⟩
abbrev main_call5_cst : Ref sig .tc := ⟨.hbm, 92, rfl⟩
abbrev main_call5_v2 : Ref sig .tc := ⟨.hbm, 93, rfl⟩
abbrev main_call5_v3 : Ref sig .tc := ⟨.hbm, 94, rfl⟩
abbrev main_call5_cst_0 : Ref sig .tc := ⟨.hbm, 95, rfl⟩
abbrev main_call5_v4 : Ref sig .tc := ⟨.hbm, 96, rfl⟩
abbrev main_call5_v5 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_call6_v0 : Ref sig .tc := ⟨.hbm, 109, rfl⟩
abbrev main_call6_v1 : Ref sig .tc := ⟨.hbm, 110, rfl⟩
abbrev main_call6_cst : Ref sig .tc := ⟨.hbm, 111, rfl⟩
abbrev main_call6_v2 : Ref sig .tc := ⟨.hbm, 112, rfl⟩
abbrev main_call6_v3 : Ref sig .tc := ⟨.hbm, 113, rfl⟩
abbrev main_call6_cst_0 : Ref sig .tc := ⟨.hbm, 114, rfl⟩
abbrev main_call6_v4 : Ref sig .tc := ⟨.hbm, 115, rfl⟩
abbrev main_call6_v5 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_call7_v0 : Ref sig .tc := ⟨.hbm, 128, rfl⟩
abbrev main_call7_v1 : Ref sig .tc := ⟨.hbm, 129, rfl⟩
abbrev main_call7_cst : Ref sig .tc := ⟨.hbm, 130, rfl⟩
abbrev main_call7_v2 : Ref sig .tc := ⟨.hbm, 131, rfl⟩
abbrev main_call7_v3 : Ref sig .tc := ⟨.hbm, 132, rfl⟩
abbrev main_call7_cst_0 : Ref sig .tc := ⟨.hbm, 133, rfl⟩
abbrev main_call7_v4 : Ref sig .tc := ⟨.hbm, 134, rfl⟩
abbrev main_call7_v5 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_call8_v0 : Ref sig .tc := ⟨.hbm, 147, rfl⟩
abbrev main_call8_v1 : Ref sig .tc := ⟨.hbm, 148, rfl⟩
abbrev main_call8_cst : Ref sig .tc := ⟨.hbm, 149, rfl⟩
abbrev main_call8_v2 : Ref sig .tc := ⟨.hbm, 150, rfl⟩
abbrev main_call8_v3 : Ref sig .tc := ⟨.hbm, 151, rfl⟩
abbrev main_call8_cst_0 : Ref sig .tc := ⟨.hbm, 152, rfl⟩
abbrev main_call8_v4 : Ref sig .tc := ⟨.hbm, 153, rfl⟩
abbrev main_call8_v5 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_call9_v0 : Ref sig .tc := ⟨.hbm, 166, rfl⟩
abbrev main_call9_v1 : Ref sig .tc := ⟨.hbm, 167, rfl⟩
abbrev main_call9_cst : Ref sig .tc := ⟨.hbm, 168, rfl⟩
abbrev main_call9_v2 : Ref sig .tc := ⟨.hbm, 169, rfl⟩
abbrev main_call9_v3 : Ref sig .tc := ⟨.hbm, 170, rfl⟩
abbrev main_call9_cst_0 : Ref sig .tc := ⟨.hbm, 171, rfl⟩
abbrev main_call9_v4 : Ref sig .tc := ⟨.hbm, 172, rfl⟩
abbrev main_call9_v5 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩

abbrev nD : Nat := 1
abbrev τ : Topo := Topo.v7x

variable {F : FTy → Type} [FloatOps F]
-- ==== ExpertDown.lean ====
abbrev S34816x7168 : Shape := ⟨2, ![34816, 7168]⟩
abbrev S136 : Shape := ⟨1, ![136]⟩
abbrev S1 : Shape := ⟨1, ![1]⟩
abbrev S8x7168x2048 : Shape := ⟨3, ![8, 7168, 2048]⟩
abbrev S34816x2048 : Shape := ⟨2, ![34816, 2048]⟩
abbrev S256x7168 : Shape := ⟨2, ![256, 7168]⟩
abbrev S1x7168x512 : Shape := ⟨3, ![1, 7168, 512]⟩
abbrev S256x512 : Shape := ⟨2, ![256, 512]⟩
abbrev S7168x512 : Shape := ⟨2, ![7168, 512]⟩

abbrev nBuf : Space → Nat
  | .hbm => 3
  | .vmem => 7
  | .smem => 2
  | _ => 0

abbrev bufTy : (tb : Table) → Fin (tcTables nBuf tb) → BufTy
  | .hbm, ⟨0, _⟩ => ⟨S34816x7168, .bf16⟩
  | .hbm, ⟨1, _⟩ => ⟨S8x7168x2048, .f32⟩
  | .hbm, ⟨2, _⟩ => ⟨S34816x2048, .f32⟩
  | .local _ .vmem, ⟨0, _⟩ => ⟨S256x7168, .bf16⟩
  | .local _ .vmem, ⟨1, _⟩ => ⟨S256x7168, .bf16⟩
  | .local _ .vmem, ⟨2, _⟩ => ⟨S1x7168x512, .f32⟩
  | .local _ .vmem, ⟨3, _⟩ => ⟨S1x7168x512, .f32⟩
  | .local _ .vmem, ⟨4, _⟩ => ⟨S256x512, .f32⟩
  | .local _ .vmem, ⟨5, _⟩ => ⟨S256x512, .f32⟩
  | .local _ .vmem, ⟨6, _⟩ => ⟨S7168x512, .bf16⟩
  | .local _ .smem, ⟨0, _⟩ => ⟨S136, .i32⟩
  | .local _ .smem, ⟨1, _⟩ => ⟨S1, .i32⟩
  | _, _ => ⟨S34816x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_v0 : Ref sig .tc := ⟨.hbm, 2, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 136], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x7168x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ExpertDownRefIdeal.lean ====
abbrev S34816x7168 : Shape := ⟨2, ![34816, 7168]⟩
abbrev S136 : Shape := ⟨1, ![136]⟩
abbrev S1 : Shape := ⟨1, ![1]⟩
abbrev S8x7168x2048 : Shape := ⟨3, ![8, 7168, 2048]⟩
abbrev S_ : Shape := ⟨0, ![]⟩
abbrev S136x256 : Shape := ⟨2, ![136, 256]⟩
abbrev S34816 : Shape := ⟨1, ![34816]⟩
abbrev S34816x1 : Shape := ⟨2, ![34816, 1]⟩
abbrev S1x8 : Shape := ⟨2, ![1, 8]⟩
abbrev S34816x8 : Shape := ⟨2, ![34816, 8]⟩
abbrev S34816x2048 : Shape := ⟨2, ![34816, 2048]⟩
abbrev S1x7168x2048 : Shape := ⟨3, ![1, 7168, 2048]⟩
abbrev S7168x2048 : Shape := ⟨2, ![7168, 2048]⟩

abbrev nBuf : Space → Nat
  | .hbm => 83
  | .vmem => 0
  | .smem => 0
  | _ => 0

abbrev bufTy : (tb : Table) → Fin (tcTables nBuf tb) → BufTy
  | .hbm, ⟨0, _⟩ => ⟨S34816x7168, .bf16⟩
  | .hbm, ⟨1, _⟩ => ⟨S136, .i32⟩
  | .hbm, ⟨2, _⟩ => ⟨S1, .i32⟩
  | .hbm, ⟨3, _⟩ => ⟨S8x7168x2048, .f32⟩
  | .hbm, ⟨4, _⟩ => ⟨S34816x7168, .f32⟩
  | .hbm, ⟨5, _⟩ => ⟨S136, .i32⟩
  | .hbm, ⟨6, _⟩ => ⟨S_, .i32⟩
  | .hbm, ⟨7, _⟩ => ⟨S136, .i32⟩
  | .hbm, ⟨8, _⟩ => ⟨S136, .i1⟩
  | .hbm, ⟨9, _⟩ => ⟨S136x256, .i1⟩
  | .hbm, ⟨10, _⟩ => ⟨S34816, .i1⟩
  | .hbm, ⟨11, _⟩ => ⟨S34816x1, .i1⟩
  | .hbm, ⟨12, _⟩ => ⟨S136x256, .i32⟩
  | .hbm, ⟨13, _⟩ => ⟨S34816, .i32⟩
  | .hbm, ⟨14, _⟩ => ⟨S34816x1, .i32⟩
  | .hbm, ⟨15, _⟩ => ⟨S1x8, .i32⟩
  | .hbm, ⟨16, _⟩ => ⟨S34816x8, .i32⟩
  | .hbm, ⟨17, _⟩ => ⟨S34816x8, .i32⟩
  | .hbm, ⟨18, _⟩ => ⟨S34816x8, .i1⟩
  | .hbm, ⟨19, _⟩ => ⟨S34816x8, .f32⟩
  | .hbm, ⟨20, _⟩ => ⟨S_, .f32⟩
  | .hbm, ⟨21, _⟩ => ⟨S_, .f32⟩
  | .hbm, ⟨22, _⟩ => ⟨S34816x8, .i1⟩
  | .hbm, ⟨23, _⟩ => ⟨S34816x8, .f32⟩
  | .hbm, ⟨24, _⟩ => ⟨S34816x8, .f32⟩
  | .hbm, ⟨25, _⟩ => ⟨S_, .f32⟩
  | .hbm, ⟨26, _⟩ => ⟨S34816x2048, .f32⟩
  | .hbm, ⟨27, _⟩ => ⟨S34816x1, .f32⟩
  | .hbm, ⟨28, _⟩ => ⟨S1x7168x2048, .f32⟩
  | .hbm, ⟨29, _⟩ => ⟨S7168x2048, .f32⟩
  | .hbm, ⟨30, _⟩ => ⟨S34816x2048, .f32⟩
  | .hbm, ⟨31, _⟩ => ⟨S34816x2048, .f32⟩
  | .hbm, ⟨32, _⟩ => ⟨S34816x2048, .f32⟩
  | .hbm, ⟨33, _⟩ => ⟨S34816x2048, .f32⟩
  | .hbm, ⟨34, _⟩ => ⟨S34816x1, .f32⟩
  | .hbm, ⟨35, _⟩ => ⟨S1x7168x2048, .f32⟩
  | .hbm, ⟨36, _⟩ => ⟨S7168x2048, .f32⟩
  | .hbm, ⟨37, _⟩ => ⟨S34816x2048, .f32⟩
  | .hbm, ⟨38, _⟩ => ⟨S34816x2048, .f32⟩
  | .hbm, ⟨39, _⟩ => ⟨S34816x2048, .f32⟩
  | .hbm, ⟨40, _⟩ => ⟨S34816x2048, .f32⟩
  | .hbm, ⟨41, _⟩ => ⟨S34816x1, .f32⟩
  | .hbm, ⟨42, _⟩ => ⟨S1x7168x2048, .f32⟩
  | .hbm, ⟨43, _⟩ => ⟨S7168x2048, .f32⟩
  | .hbm, ⟨44, _⟩ => ⟨S34816x2048, .f32⟩
  | .hbm, ⟨45, _⟩ => ⟨S34816x2048, .f32⟩
  | .hbm, ⟨46, _⟩ => ⟨S34816x2048, .f32⟩
  | .hbm, ⟨47, _⟩ => ⟨S34816x2048, .f32⟩
  | .hbm, ⟨48, _⟩ => ⟨S34816x1, .f32⟩
  | .hbm, ⟨49, _⟩ => ⟨S1x7168x2048, .f32⟩
  | .hbm, ⟨50, _⟩ => ⟨S7168x2048, .f32⟩
  | .hbm, ⟨51, _⟩ => ⟨S34816x2048, .f32⟩
  | .hbm, ⟨52, _⟩ => ⟨S34816x2048, .f32⟩
  | .hbm, ⟨53, _⟩ => ⟨S34816x2048, .f32⟩
  | .hbm, ⟨54, _⟩ => ⟨S34816x2048, .f32⟩
  | .hbm, ⟨55, _⟩ => ⟨S34816x1, .f32⟩
  | .hbm, ⟨56, _⟩ => ⟨S1x7168x2048, .f32⟩
  | .hbm, ⟨57, _⟩ => ⟨S7168x2048, .f32⟩
  | .hbm, ⟨58, _⟩ => ⟨S34816x2048, .f32⟩
  | .hbm, ⟨59, _⟩ => ⟨S34816x2048, .f32⟩
  | .hbm, ⟨60, _⟩ => ⟨S34816x2048, .f32⟩
  | .hbm, ⟨61, _⟩ => ⟨S34816x2048, .f32⟩
  | .hbm, ⟨62, _⟩ => ⟨S34816x1, .f32⟩
  | .hbm, ⟨63, _⟩ => ⟨S1x7168x2048, .f32⟩
  | .hbm, ⟨64, _⟩ => ⟨S7168x2048, .f32⟩
  | .hbm, ⟨65, _⟩ => ⟨S34816x2048, .f32⟩
  | .hbm, ⟨66, _⟩ => ⟨S34816x2048, .f32⟩
  | .hbm, ⟨67, _⟩ => ⟨S34816x2048, .f32⟩
  | .hbm, ⟨68, _⟩ => ⟨S34816x2048, .f32⟩
  | .hbm, ⟨69, _⟩ => ⟨S34816x1, .f32⟩
  | .hbm, ⟨70, _⟩ => ⟨S1x7168x2048, .f32⟩
  | .hbm, ⟨71, _⟩ => ⟨S7168x2048, .f32⟩
  | .hbm, ⟨72, _⟩ => ⟨S34816x2048, .f32⟩
  | .hbm, ⟨73, _⟩ => ⟨S34816x2048, .f32⟩
  | .hbm, ⟨74, _⟩ => ⟨S34816x2048, .f32⟩
  | .hbm, ⟨75, _⟩ => ⟨S34816x2048, .f32⟩
  | .hbm, ⟨76, _⟩ => ⟨S34816x1, .f32⟩
  | .hbm, ⟨77, _⟩ => ⟨S1x7168x2048, .f32⟩
  | .hbm, ⟨78, _⟩ => ⟨S7168x2048, .f32⟩
  | .hbm, ⟨79, _⟩ => ⟨S34816x2048, .f32⟩
  | .hbm, ⟨80, _⟩ => ⟨S34816x2048, .f32⟩
  | .hbm, ⟨81, _⟩ => ⟨S34816x2048, .f32⟩
  | .hbm, ⟨82, _⟩ => ⟨S34816x2048, .f32⟩
  | _, _ => ⟨S34816x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v10 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩

abbrev nD : Nat := 1
abbrev τ : Topo := Topo.v7x

variable {F : FTy → Type} [FloatOps F]
-- ==== GdnIn.lean ====
abbrev S17408x2048 : Shape := ⟨2, ![17408, 2048]⟩
abbrev S2048x12416 : Shape := ⟨2, ![2048, 12416]⟩
abbrev S17408x12288 : Shape := ⟨2, ![17408, 12288]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S17408x2048, .bf16⟩
  | .hbm, ⟨1, _⟩ => ⟨S2048x12416, .f32⟩
  | .hbm, ⟨2, _⟩ => ⟨S17408x12288, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GdnInRefIdeal.lean ====
abbrev S17408x2048 : Shape := ⟨2, ![17408, 2048]⟩
abbrev S2048x12416 : Shape := ⟨2, ![2048, 12416]⟩
abbrev S17408x12416 : Shape := ⟨2, ![17408, 12416]⟩
abbrev S17408x12288 : Shape := ⟨2, ![17408, 12288]⟩

abbrev nBuf : Space → Nat
  | .hbm => 6
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x12416, .f32⟩
  | .hbm, ⟨2, _⟩ => ⟨S17408x2048, .f32⟩
  | .hbm, ⟨3, _⟩ => ⟨S17408x12416, .f32⟩
  | .hbm, ⟨4, _⟩ => ⟨S17408x12288, .f32⟩
  | .hbm, ⟨5, _⟩ => ⟨S17408x12288, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnUp.lean ====
abbrev S17408x2048 : Shape := ⟨2, ![17408, 2048]⟩
abbrev S2048x11264 : Shape := ⟨2, ![2048, 11264]⟩
abbrev S17408x5632 : Shape := ⟨2, ![17408, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 10
  | .smem => 0
  | _ => 0

abbrev bufTy : (tb : Table) → Fin (tcTables nBuf tb) → BufTy
  | .hbm, ⟨0, _⟩ => ⟨S17408x2048, .bf16⟩
  | .hbm, ⟨1, _⟩ => ⟨S2048x11264, .f32⟩
  | .hbm, ⟨2, _⟩ => ⟨S17408x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S17408x2048 : Shape := ⟨2, ![17408, 2048]⟩
abbrev S2048x11264 : Shape := ⟨2, ![2048, 11264]⟩
abbrev S17408x11264 : Shape := ⟨2, ![17408, 11264]⟩
abbrev S17408x5632 : Shape := ⟨2, ![17408, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x11264, .f32⟩
  | .hbm, ⟨2, _⟩ => ⟨S17408x2048, .f32⟩
  | .hbm, ⟨3, _⟩ => ⟨S17408x11264, .f32⟩
  | .hbm, ⟨4, _⟩ => ⟨S17408x5632, .f32⟩
  | .hbm, ⟨5, _⟩ => ⟨S17408x5632, .f32⟩
  | .hbm, ⟨6, _⟩ => ⟨S17408x5632, .f32⟩
  | .hbm, ⟨7, _⟩ => ⟨S17408x5632, .f32⟩
  | .hbm, ⟨8, _⟩ => ⟨S_, .f32⟩
  | .hbm, ⟨9, _⟩ => ⟨S17408x5632, .f32⟩
  | .hbm, ⟨10, _⟩ => ⟨S17408x5632, .f32⟩
  | .hbm, ⟨11, _⟩ => ⟨S_, .f32⟩
  | .hbm, ⟨12, _⟩ => ⟨S17408x5632, .f32⟩
  | .hbm, ⟨13, _⟩ => ⟨S17408x5632, .f32⟩
  | .hbm, ⟨14, _⟩ => ⟨S17408x5632, .f32⟩
  | .hbm, ⟨15, _⟩ => ⟨S17408x5632, .f32⟩
  | .hbm, ⟨16, _⟩ => ⟨S17408x5632, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== FfnDown.lean ====
abbrev S17408x5632 : Shape := ⟨2, ![17408, 5632]⟩
abbrev S5632x2048 : Shape := ⟨2, ![5632, 2048]⟩
abbrev S17408x2048 : Shape := ⟨2, ![17408, 2048]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S17408x5632, .bf16⟩
  | .hbm, ⟨1, _⟩ => ⟨S5632x2048, .f32⟩
  | .hbm, ⟨2, _⟩ => ⟨S17408x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .f32⟩
  | .local _ .vmem, ⟨3, _⟩ => ⟨S5632x512, .f32⟩
  | .local _ .vmem, ⟨4, _⟩ => ⟨S512x512, .f32⟩
  | .local _ .vmem, ⟨5, _⟩ => ⟨S512x512, .f32⟩
  | .local _ .vmem, ⟨6, _⟩ => ⟨S5632x512, .bf16⟩
  | _, _ => ⟨S17408x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 34], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownRefIdeal.lean ====
abbrev S17408x5632 : Shape := ⟨2, ![17408, 5632]⟩
abbrev S5632x2048 : Shape := ⟨2, ![5632, 2048]⟩
abbrev S17408x2048 : Shape := ⟨2, ![17408, 2048]⟩

abbrev nBuf : Space → Nat
  | .hbm => 4
  | .vmem => 0
  | .smem => 0
  | _ => 0

abbrev bufTy : (tb : Table) → Fin (tcTables nBuf tb) → BufTy
  | .hbm, ⟨0, _⟩ => ⟨S17408x5632, .bf16⟩
  | .hbm, ⟨1, _⟩ => ⟨S5632x2048, .f32⟩
  | .hbm, ⟨2, _⟩ => ⟨S17408x5632, .f32⟩
  | .hbm, ⟨3, _⟩ => ⟨S17408x2048, .f32⟩
  | _, _ => ⟨S17408x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GdnOut.lean ====
abbrev S17408x4096 : Shape := ⟨2, ![17408, 4096]⟩
abbrev S4096x2048 : Shape := ⟨2, ![4096, 2048]⟩
abbrev S17408x2048 : Shape := ⟨2, ![17408, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S17408x4096, .bf16⟩
  | .hbm, ⟨1, _⟩ => ⟨S4096x2048, .f32⟩
  | .hbm, ⟨2, _⟩ => ⟨S17408x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GdnOutRefIdeal.lean ====
abbrev S17408x4096 : Shape := ⟨2, ![17408, 4096]⟩
abbrev S4096x2048 : Shape := ⟨2, ![4096, 2048]⟩
abbrev S17408x2048 : Shape := ⟨2, ![17408, 2048]⟩

abbrev nBuf : Space → Nat
  | .hbm => 4
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S4096x2048, .f32⟩
  | .hbm, ⟨2, _⟩ => ⟨S17408x4096, .f32⟩
  | .hbm, ⟨3, _⟩ => ⟨S17408x2048, .f32⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DiffIn.lean ====
abbrev S17408x2048 : Shape := ⟨2, ![17408, 2048]⟩
abbrev S2048x6144 : Shape := ⟨2, ![2048, 6144]⟩
abbrev S17408x6144 : Shape := ⟨2, ![17408, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S17408x2048, .bf16⟩
  | .hbm, ⟨1, _⟩ => ⟨S2048x6144, .f32⟩
  | .hbm, ⟨2, _⟩ => ⟨S17408x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DiffInRefIdeal.lean ====
abbrev S17408x2048 : Shape := ⟨2, ![17408, 2048]⟩
abbrev S2048x6144 : Shape := ⟨2, ![2048, 6144]⟩
abbrev S17408x6144 : Shape := ⟨2, ![17408, 6144]⟩

abbrev nBuf : Space → Nat
  | .hbm => 5
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x6144, .f32⟩
  | .hbm, ⟨2, _⟩ => ⟨S17408x2048, .f32⟩
  | .hbm, ⟨3, _⟩ => ⟨S17408x6144, .f32⟩
  | .hbm, ⟨4, _⟩ => ⟨S17408x6144, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DiffOut.lean ====
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DiffOutRefIdeal.lean ====
abbrev S16384x2048 : Shape := ⟨2, ![16384, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GdnAb.lean ====
abbrev S17408x2048 : Shape := ⟨2, ![17408, 2048]⟩
abbrev S2048x12416 : Shape := ⟨2, ![2048, 12416]⟩
abbrev S17408x128 : Shape := ⟨2, ![17408, 128]⟩
abbrev S1024x2048 : Shape := ⟨2, ![1024, 2048]⟩
abbrev S2048x128 : Shape := ⟨2, ![2048, 128]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S17408x2048, .bf16⟩
  | .hbm, ⟨1, _⟩ => ⟨S2048x12416, .f32⟩
  | .hbm, ⟨2, _⟩ => ⟨S17408x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .f32⟩
  | .local _ .vmem, ⟨3, _⟩ => ⟨S1024x128, .f32⟩
  | .local _ .vmem, ⟨4, _⟩ => ⟨S1024x128, .f32⟩
  | .local _ .vmem, ⟨5, _⟩ => ⟨S2048x128, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c96_i32 : BitVec 32 := 96#32
  let v0 : BitVec 32 := Scalar.addi arg0 c96_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GdnAbRefIdeal.lean ====
abbrev S17408x2048 : Shape := ⟨2, ![17408, 2048]⟩
abbrev S2048x12416 : Shape := ⟨2, ![2048, 12416]⟩
abbrev S17408x12416 : Shape := ⟨2, ![17408, 12416]⟩
abbrev S17408x128 : Shape := ⟨2, ![17408, 128]⟩

abbrev nBuf : Space → Nat
  | .hbm => 5
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x12416, .f32⟩
  | .hbm, ⟨2, _⟩ => ⟨S17408x2048, .f32⟩
  | .hbm, ⟨3, _⟩ => ⟨S17408x12416, .f32⟩
  | .hbm, ⟨4, _⟩ => ⟨S17408x128, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ada.lean ====
abbrev S8x2048 : Shape := ⟨2, ![8, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x2048 : Shape := ⟨2, ![8, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 40
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x12288, .f32⟩
  | .hbm, ⟨13, _⟩ => ⟨S2048x12288, .f32⟩
  | .hbm, ⟨14, _⟩ => ⟨S8x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S8x12288, .f32⟩
  | .hbm, ⟨19, _⟩ => ⟨S8x12288, .f32⟩
  | .hbm, ⟨20, _⟩ => ⟨S8x2048, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x2048, .f32⟩
  | .hbm, ⟨29, _⟩ => ⟨S1x2048x12288, .f32⟩
  | .hbm, ⟨30, _⟩ => ⟨S2048x12288, .f32⟩
  | .hbm, ⟨31, _⟩ => ⟨S8x12288, .f32⟩
  | .hbm, ⟨32, _⟩ => ⟨S1x12288, .f32⟩
  | .hbm, ⟨33, _⟩ => ⟨S12288, .f32⟩
  | .hbm, ⟨34, _⟩ => ⟨S1x12288, .f32⟩
  | .hbm, ⟨35, _⟩ => ⟨S8x12288, .f32⟩
  | .hbm, ⟨36, _⟩ => ⟨S8x12288, .f32⟩
  | .hbm, ⟨37, _⟩ => ⟨S1x8x12288, .f32⟩
  | .hbm, ⟨38, _⟩ => ⟨S1x8x12288, .f32⟩
  | .hbm, ⟨39, _⟩ => ⟨S2x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== NormGate.lean ====
abbrev S2x17408x4096 : Shape := ⟨3, ![2, 17408, 4096]⟩
abbrev S17408x12288 : Shape := ⟨2, ![17408, 12288]⟩
abbrev S128 : Shape := ⟨1, ![128]⟩
abbrev S1x128 : Shape := ⟨2, ![1, 128]⟩
abbrev S17408x4096 : Shape := ⟨2, ![17408, 4096]⟩
abbrev S1x256x512 : Shape := ⟨3, ![1, 256, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S2x17408x4096, .bf16⟩
  | .hbm, ⟨1, _⟩ => ⟨S17408x12288, .bf16⟩
  | .hbm, ⟨2, _⟩ => ⟨S128, .f32⟩
  | .hbm, ⟨3, _⟩ => ⟨S1x128, .f32⟩
  | .hbm, ⟨4, _⟩ => ⟨S17408x4096, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S256x512, .bf16⟩
  | .local _ .vmem, ⟨5, _⟩ => ⟨S256x512, .bf16⟩
  | .local _ .vmem, ⟨6, _⟩ => ⟨S1x128, .f32⟩
  | .local _ .vmem, ⟨7, _⟩ => ⟨S256x512, .bf16⟩
  | .local _ .vmem, ⟨8, _⟩ => ⟨S256x512, .bf16⟩
  | _, _ => ⟨S2x17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![68, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NormGateRefIdeal.lean ====
abbrev S2x17408x4096 : Shape := ⟨3, ![2, 17408, 4096]⟩
abbrev S17408x12288 : Shape := ⟨2, ![17408, 12288]⟩
abbrev S128 : Shape := ⟨1, ![128]⟩
abbrev S1x17408x4096 : Shape := ⟨3, ![1, 17408, 4096]⟩
abbrev S17408x4096 : Shape := ⟨2, ![17408, 4096]⟩
abbrev S17408x32x128 : Shape := ⟨3, ![17408, 32, 128]⟩
abbrev S_ : Shape := ⟨0, ![]⟩
abbrev S17408x32 : Shape := ⟨2, ![17408, 32]⟩
abbrev S17408x32x1 : Shape := ⟨3, ![17408, 32, 1]⟩
abbrev S1x1x128 : Shape := ⟨3, ![1, 1, 128]⟩

abbrev nBuf : Space → Nat
  | .hbm => 42
  | .vmem => 0
  | .smem => 0
  | _ => 0

abbrev bufTy : (tb : Table) → Fin (tcTables nBuf tb) → BufTy
  | .hbm, ⟨0, _⟩ => ⟨S2x17408x4096, .bf16⟩
  | .hbm, ⟨1, _⟩ => ⟨S17408x12288, .bf16⟩
  | .hbm, ⟨2, _⟩ => ⟨S128, .f32⟩
  | .hbm, ⟨3, _⟩ => ⟨S1x17408x4096, .bf16⟩
  | .hbm, ⟨4, _⟩ => ⟨S17408x4096, .bf16⟩
  | .hbm, ⟨5, _⟩ => ⟨S17408x4096, .f32⟩
  | .hbm, ⟨6, _⟩ => ⟨S1x17408x4096, .bf16⟩
  | .hbm, ⟨7, _⟩ => ⟨S17408x4096, .bf16⟩
  | .hbm, ⟨8, _⟩ => ⟨S17408x4096, .f32⟩
  | .hbm, ⟨9, _⟩ => ⟨S17408x4096, .f32⟩
  | .hbm, ⟨10, _⟩ => ⟨S17408x32x128, .f32⟩
  | .hbm, ⟨11, _⟩ => ⟨S17408x4096, .bf16⟩
  | .hbm, ⟨12, _⟩ => ⟨S17408x4096, .f32⟩
  | .hbm, ⟨13, _⟩ => ⟨S17408x32x128, .f32⟩
  | .hbm, ⟨14, _⟩ => ⟨S17408x32x128, .f32⟩
  | .hbm, ⟨15, _⟩ => ⟨S_, .f32⟩
  | .hbm, ⟨16, _⟩ => ⟨S17408x32, .f32⟩
  | .hbm, ⟨17, _⟩ => ⟨S17408x32x1, .f32⟩
  | .hbm, ⟨18, _⟩ => ⟨S_, .f32⟩
  | .hbm, ⟨19, _⟩ => ⟨S17408x32x1, .f32⟩
  | .hbm, ⟨20, _⟩ => ⟨S17408x32x1, .f32⟩
  | .hbm, ⟨21, _⟩ => ⟨S_, .f32⟩
  | .hbm, ⟨22, _⟩ => ⟨S17408x32x1, .f32⟩
  | .hbm, ⟨23, _⟩ => ⟨S17408x32x1, .f32⟩
  | .hbm, ⟨24, _⟩ => ⟨S17408x32x1, .f32⟩
  | .hbm, ⟨25, _⟩ => ⟨S17408x32x128, .f32⟩
  | .hbm, ⟨26, _⟩ => ⟨S17408x32x128, .f32⟩
  | .hbm, ⟨27, _⟩ => ⟨S1x1x128, .f32⟩
  | .hbm, ⟨28, _⟩ => ⟨S17408x32x128, .f32⟩
  | .hbm, ⟨29, _⟩ => ⟨S17408x32x128, .f32⟩
  | .hbm, ⟨30, _⟩ => ⟨S17408x32x128, .f32⟩
  | .hbm, ⟨31, _⟩ => ⟨S17408x32x128, .f32⟩
  | .hbm, ⟨32, _⟩ => ⟨S_, .f32⟩
  | .hbm, ⟨33, _⟩ => ⟨S17408x32x128, .f32⟩
  | .hbm, ⟨34, _⟩ => ⟨S17408x32x128, .f32⟩
  | .hbm, ⟨35, _⟩ => ⟨S_, .f32⟩
  | .hbm, ⟨36, _⟩ => ⟨S17408x32x128, .f32⟩
  | .hbm, ⟨37, _⟩ => ⟨S17408x32x128, .f32⟩
  | .hbm, ⟨38, _⟩ => ⟨S17408x32x128, .f32⟩
  | .hbm, ⟨39, _⟩ => ⟨S17408x32x128, .f32⟩
  | .hbm, ⟨40, _⟩ => ⟨S17408x4096, .f32⟩
  | .hbm, ⟨41, _⟩ => ⟨S17408x4096, .bf16⟩
  | _, _ => ⟨S2x17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== ResLn.lean ====
abbrev S17408x2048 : Shape := ⟨2, ![17408, 2048]⟩
abbrev S5x6x2048 : Shape := ⟨3, ![5, 6, 2048]⟩
abbrev S2048 : Shape := ⟨1, ![2048]⟩
abbrev S1x2048 : Shape := ⟨2, ![1, 2048]⟩
abbrev S256x2048 : Shape := ⟨2, ![256, 2048]⟩
abbrev S1x6x2048 : Shape := ⟨3, ![1, 6, 2048]⟩
abbrev S6x2048 : Shape := ⟨2, ![6, 2048]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S5x6x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S17408x2048, .f32⟩
  | .hbm, ⟨8, _⟩ => ⟨S17408x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x6x2048, .f32⟩
  | .local _ .vmem, ⟨7, _⟩ => ⟨S1x6x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .slt v9 c1_i32_3
  let c17_i32_4 : BitVec 32 := 17#32
  let v11 : BitVec 32 := Scalar.divsi arg0 c17_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c17_i32_4 c0_i32_7
  let v18 : BitVec 32 := Scalar.extui v17
  let c0_i32_8 : BitVec 32 := 0#32
  let v19 : BitVec 1 := Scalar.cmpi .slt c17_i32_4 c0_i32_8
  let v20 : BitVec 32 := Scalar.extui v19
  let v21 : BitVec 32 := Scalar.subi v18 v20
  let v22 : BitVec 1 := Scalar.cmpi .ne v16 v21
  let v23 : BitVec 32 := Scalar.remsi arg0 c17_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c0_i32_11 : BitVec 32 := 0#32
  let c0_i32_12 : BitVec 32 := 0#32
  let c0_i32_13 : BitVec 32 := 0#32
  ![v28.toNat, c0_i32_11.toNat, c0_i32_12.toNat]

def cc0_transform_3 (i : grid0.Coords) : Fin 3 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .slt v9 c1_i32_3
  let c17_i32_4 : BitVec 32 := 17#32
  let v11 : BitVec 32 := Scalar.divsi arg0 c17_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c17_i32_4 c0_i32_7
  let v18 : BitVec 32 := Scalar.extui v17
  let c0_i32_8 : BitVec 32 := 0#32
  let v19 : BitVec 1 := Scalar.cmpi .slt c17_i32_4 c0_i32_8
  let v20 : BitVec 32 := Scalar.extui v19
  let v21 : BitVec 32 := Scalar.subi v18 v20
  let v22 : BitVec 1 := Scalar.cmpi .ne v16 v21
  let v23 : BitVec 32 := Scalar.remsi arg0 c17_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c0_i32_11 : BitVec 32 := 0#32
  let c0_i32_12 : BitVec 32 := 0#32
  let c0_i32_13 : BitVec 32 := 0#32
  ![v28.toNat, c0_i32_11.toNat, c0_i32_12.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResLnRefIdeal.lean ====
abbrev S17408x2048 : Shape := ⟨2, ![17408, 2048]⟩
abbrev S5x6x2048 : Shape := ⟨3, ![5, 6, 2048]⟩
abbrev S2048 : Shape := ⟨1, ![2048]⟩
abbrev S4x4352x2048 : Shape := ⟨3, ![4, 4352, 2048]⟩
abbrev S1x6x2048 : Shape := ⟨3, ![1, 6, 2048]⟩
abbrev S6x2048 : Shape := ⟨2, ![6, 2048]⟩
abbrev S1x6x1x2048 : Shape := ⟨4, ![1, 6, 1, 2048]⟩
abbrev S4x6x256x2048 : Shape := ⟨4, ![4, 6, 256, 2048]⟩
abbrev S4x6x2048 : Shape := ⟨3, ![4, 6, 2048]⟩
abbrev S4x6x1x2048 : Shape := ⟨4, ![4, 6, 1, 2048]⟩
abbrev S4x6x4096x2048 : Shape := ⟨4, ![4, 6, 4096, 2048]⟩
abbrev S4x6x4352x2048 : Shape := ⟨4, ![4, 6, 4352, 2048]⟩
abbrev S_ : Shape := ⟨0, ![]⟩
abbrev S4x1x4352x2048 : Shape := ⟨4, ![4, 1, 4352, 2048]⟩
abbrev S4x4352 : Shape := ⟨2, ![4, 4352]⟩
abbrev S4x4352x1 : Shape := ⟨3, ![4, 4352, 1]⟩
abbrev S1x1x2048 : Shape := ⟨3, ![1, 1, 2048]⟩

abbrev nBuf : Space → Nat
  | .hbm => 63
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S5x6x2048, .f32⟩
  | .hbm, ⟨3, _⟩ => ⟨S2048, .f32⟩
  | .hbm, ⟨4, _⟩ => ⟨S2048, .f32⟩
  | .hbm, ⟨5, _⟩ => ⟨S4x4352x2048, .f32⟩
  | .hbm, ⟨6, _⟩ => ⟨S4x4352x2048, .f32⟩
  | .hbm, ⟨7, _⟩ => ⟨S1x6x2048, .f32⟩
  | .hbm, ⟨8, _⟩ => ⟨S6x2048, .f32⟩
  | .hbm, ⟨9, _⟩ => ⟨S1x6x1x2048, .f32⟩
  | .hbm, ⟨10, _⟩ => ⟨S4x6x256x2048, .f32⟩
  | .hbm, ⟨11, _⟩ => ⟨S4x6x2048, .f32⟩
  | .hbm, ⟨12, _⟩ => ⟨S4x6x1x2048, .f32⟩
  | .hbm, ⟨13, _⟩ => ⟨S4x6x4096x2048, .f32⟩
  | .hbm, ⟨14, _⟩ => ⟨S4x6x4352x2048, .f32⟩
  | .hbm, ⟨15, _⟩ => ⟨S_, .f32⟩
  | .hbm, ⟨16, _⟩ => ⟨S4x4352x2048, .f32⟩
  | .hbm, ⟨17, _⟩ => ⟨S4x4352x2048, .f32⟩
  | .hbm, ⟨18, _⟩ => ⟨S4x1x4352x2048, .f32⟩
  | .hbm, ⟨19, _⟩ => ⟨S4x4352x2048, .f32⟩
  | .hbm, ⟨20, _⟩ => ⟨S4x4352x2048, .f32⟩
  | .hbm, ⟨21, _⟩ => ⟨S4x4352x2048, .f32⟩
  | .hbm, ⟨22, _⟩ => ⟨S_, .f32⟩
  | .hbm, ⟨23, _⟩ => ⟨S4x4352, .f32⟩
  | .hbm, ⟨24, _⟩ => ⟨S4x4352x1, .f32⟩
  | .hbm, ⟨25, _⟩ => ⟨S_, .f32⟩
  | .hbm, ⟨26, _⟩ => ⟨S4x4352x1, .f32⟩
  | .hbm, ⟨27, _⟩ => ⟨S4x4352x1, .f32⟩
  | .hbm, ⟨28, _⟩ => ⟨S4x4352x2048, .f32⟩
  | .hbm, ⟨29, _⟩ => ⟨S4x4352x2048, .f32⟩
  | .hbm, ⟨30, _⟩ => ⟨S4x4352x2048, .f32⟩
  | .hbm, ⟨31, _⟩ => ⟨S_, .f32⟩
  | .hbm, ⟨32, _⟩ => ⟨S4x4352, .f32⟩
  | .hbm, ⟨33, _⟩ => ⟨S4x4352x1, .f32⟩
  | .hbm, ⟨34, _⟩ => ⟨S_, .f32⟩
  | .hbm, ⟨35, _⟩ => ⟨S4x4352x1, .f32⟩
  | .hbm, ⟨36, _⟩ => ⟨S4x4352x1, .f32⟩
  | .hbm, ⟨37, _⟩ => ⟨S4x4352x2048, .f32⟩
  | .hbm, ⟨38, _⟩ => ⟨S4x4352x2048, .f32⟩
  | .hbm, ⟨39, _⟩ => ⟨S_, .f32⟩
  | .hbm, ⟨40, _⟩ => ⟨S4x4352x1, .f32⟩
  | .hbm, ⟨41, _⟩ => ⟨S4x4352x1, .f32⟩
  | .hbm, ⟨42, _⟩ => ⟨S4x4352x1, .f32⟩
  | .hbm, ⟨43, _⟩ => ⟨S4x4352x2048, .f32⟩
  | .hbm, ⟨44, _⟩ => ⟨S4x4352x2048, .f32⟩
  | .hbm, ⟨45, _⟩ => ⟨S1x1x2048, .f32⟩
  | .hbm, ⟨46, _⟩ => ⟨S4x4352x2048, .f32⟩
  | .hbm, ⟨47, _⟩ => ⟨S4x4352x2048, .f32⟩
  | .hbm, ⟨48, _⟩ => ⟨S1x1x2048, .f32⟩
  | .hbm, ⟨49, _⟩ => ⟨S4x4352x2048, .f32⟩
  | .hbm, ⟨50, _⟩ => ⟨S4x4352x2048, .f32⟩
  | .hbm, ⟨51, _⟩ => ⟨S4x1x4352x2048, .f32⟩
  | .hbm, ⟨52, _⟩ => ⟨S4x4352x2048, .f32⟩
  | .hbm, ⟨53, _⟩ => ⟨S_, .f32⟩
  | .hbm, ⟨54, _⟩ => ⟨S4x4352x2048, .f32⟩
  | .hbm, ⟨55, _⟩ => ⟨S4x4352x2048, .f32⟩
  | .hbm, ⟨56, _⟩ => ⟨S4x4352x2048, .f32⟩
  | .hbm, ⟨57, _⟩ => ⟨S4x1x4352x2048, .f32⟩
  | .hbm, ⟨58, _⟩ => ⟨S4x4352x2048, .f32⟩
  | .hbm, ⟨59, _⟩ => ⟨S4x4352x2048, .f32⟩
  | .hbm, ⟨60, _⟩ => ⟨S17408x2048, .f32⟩
  | .hbm, ⟨61, _⟩ => ⟨S17408x2048, .f32⟩
  | .hbm, ⟨62, _⟩ => ⟨S17408x2048, .bf16⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== Modulate.lean ====
abbrev S17408x2048 : Shape := ⟨2, ![17408, 2048]⟩
abbrev S5x6x2048 : Shape := ⟨3, ![5, 6, 2048]⟩
abbrev S256x2048 : Shape := ⟨2, ![256, 2048]⟩
abbrev S1x6x2048 : Shape := ⟨3, ![1, 6, 2048]⟩
abbrev S6x2048 : Shape := ⟨2, ![6, 2048]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S17408x2048, .f32⟩
  | .hbm, ⟨1, _⟩ => ⟨S5x6x2048, .f32⟩
  | .hbm, ⟨2, _⟩ => ⟨S17408x2048, .bf16⟩
  | .local _ .vmem, ⟨0, _⟩ => ⟨S256x2048, .f32⟩
  | .local _ .vmem, ⟨1, _⟩ => ⟨S256x2048, .f32⟩
  | .local _ .vmem, ⟨2, _⟩ => ⟨S1x6x2048, .f32⟩
  | .local _ .vmem, ⟨3, _⟩ => ⟨S1x6x2048, .f32⟩
  | .local _ .vmem, ⟨4, _⟩ => ⟨S256x2048, .bf16⟩
  | .local _ .vmem, ⟨5, _⟩ => ⟨S256x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .slt v9 c1_i32_3
  let c17_i32_4 : BitVec 32 := 17#32
  let v11 : BitVec 32 := Scalar.divsi arg0 c17_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c17_i32_4 c0_i32_7
  let v18 : BitVec 32 := Scalar.extui v17
  let c0_i32_8 : BitVec 32 := 0#32
  let v19 : BitVec 1 := Scalar.cmpi .slt c17_i32_4 c0_i32_8
  let v20 : BitVec 32 := Scalar.extui v19
  let v21 : BitVec 32 := Scalar.subi v18 v20
  let v22 : BitVec 1 := Scalar.cmpi .ne v16 v21
  let v23 : BitVec 32 := Scalar.remsi arg0 c17_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ModulateRefIdeal.lean ====
abbrev S17408x2048 : Shape := ⟨2, ![17408, 2048]⟩
abbrev S5x6x2048 : Shape := ⟨3, ![5, 6, 2048]⟩
abbrev S4x4352x2048 : Shape := ⟨3, ![4, 4352, 2048]⟩
abbrev S4x256x2048 : Shape := ⟨3, ![4, 256, 2048]⟩
abbrev S1x1x2048 : Shape := ⟨3, ![1, 1, 2048]⟩
abbrev S2048 : Shape := ⟨1, ![2048]⟩
abbrev S_ : Shape := ⟨0, ![]⟩
abbrev S4x4096x2048 : Shape := ⟨3, ![4, 4096, 2048]⟩
abbrev S4x1x2048 : Shape := ⟨3, ![4, 1, 2048]⟩
abbrev S4x2048 : Shape := ⟨2, ![4, 2048]⟩

abbrev nBuf : Space → Nat
  | .hbm => 34
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S5x6x2048, .f32⟩
  | .hbm, ⟨2, _⟩ => ⟨S4x4352x2048, .f32⟩
  | .hbm, ⟨3, _⟩ => ⟨S4x256x2048, .f32⟩
  | .hbm, ⟨4, _⟩ => ⟨S1x1x2048, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x1x2048, .f32⟩
  | .hbm, ⟨10, _⟩ => ⟨S4x256x2048, .f32⟩
  | .hbm, ⟨11, _⟩ => ⟨S4x256x2048, .f32⟩
  | .hbm, ⟨12, _⟩ => ⟨S1x1x2048, .f32⟩
  | .hbm, ⟨13, _⟩ => ⟨S2048, .f32⟩
  | .hbm, ⟨14, _⟩ => ⟨S1x1x2048, .f32⟩
  | .hbm, ⟨15, _⟩ => ⟨S4x256x2048, .f32⟩
  | .hbm, ⟨16, _⟩ => ⟨S4x256x2048, .f32⟩
  | .hbm, ⟨17, _⟩ => ⟨S4x4096x2048, .f32⟩
  | .hbm, ⟨18, _⟩ => ⟨S4x1x2048, .f32⟩
  | .hbm, ⟨19, _⟩ => ⟨S4x2048, .f32⟩
  | .hbm, ⟨20, _⟩ => ⟨S4x1x2048, .f32⟩
  | .hbm, ⟨21, _⟩ => ⟨S_, .f32⟩
  | .hbm, ⟨22, _⟩ => ⟨S4x1x2048, .f32⟩
  | .hbm, ⟨23, _⟩ => ⟨S4x1x2048, .f32⟩
  | .hbm, ⟨24, _⟩ => ⟨S4x4096x2048, .f32⟩
  | .hbm, ⟨25, _⟩ => ⟨S4x4096x2048, .f32⟩
  | .hbm, ⟨26, _⟩ => ⟨S4x1x2048, .f32⟩
  | .hbm, ⟨27, _⟩ => ⟨S4x2048, .f32⟩
  | .hbm, ⟨28, _⟩ => ⟨S4x1x2048, .f32⟩
  | .hbm, ⟨29, _⟩ => ⟨S4x4096x2048, .f32⟩
  | .hbm, ⟨30, _⟩ => ⟨S4x4096x2048, .f32⟩
  | .hbm, ⟨31, _⟩ => ⟨S4x4352x2048, .f32⟩
  | .hbm, ⟨32, _⟩ => ⟨S17408x2048, .f32⟩
  | .hbm, ⟨33, _⟩ => ⟨S17408x2048, .bf16⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Proof.AttnMath.lean ====
/- Differential attention on extended reals: one row of the softmax as the kernel writes it (exponentials
   times a reciprocal of their sum) and as the reference writes it (a quotient), equal when the scores of
   the row are finite. No program is mentioned here. -/
module

public import Idealize.ShloMosaic.Lib.Pointwise
public import Idealize.ShloMosaic.PureOps.Ideal

@[expose] public section

noncomputable section

namespace Cert.Proof.AttnMath

open Idealize.ShloMosaic

/-- An extended real that is a real number. -/
def IsReal (x : EReal) : Prop := ∃ r : ℝ, x = (r : EReal)

/-- The product of two real numbers is a real number. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {n : ℕ} (f : Fin n → EReal) (h : ∀ k, IsReal (f k)) : IsReal (∑ k, f k) := by
  refine Finset.sum_induction f IsReal ?_ ⟨0, rfl⟩ fun k _ => h k
  rintro _ _ ⟨a, rfl⟩ ⟨b, rfl⟩
  exact ⟨a + b, (EReal.coe_add a b).symm⟩

/-- The largest entry of a row, started from the pattern of minus infinity. -/
def top {n : ℕ} (s : Fin n → EReal) : EReal :=
  Finset.univ.fold max (Ideal.ofBits .f32 0xFF800000#32) s

/-- The exponential of an entry of a row minus the row's largest entry. -/
def ex {n : ℕ} (s : Fin n → EReal) (k : Fin n) : EReal := Ideal.exp (s k - top s)

/-- The pattern of minus infinity is minus infinity. -/
theorem negInf : Ideal.ofBits .f32 0xFF800000#32 = (⊥ : EReal) := by
  simp [Ideal.ofBits, Ideal.ieee]

/-- The pattern of plus infinity is plus infinity. -/
theorem posInf : Ideal.ofBits .f32 0x7F800000#32 = (⊤ : EReal) := by
  simp [Ideal.ofBits, Ideal.ieee]

/-- The largest entry is attained when the row has an entry. -/
theorem top_mem {n : ℕ} (s : Fin n → EReal) (k₀ : Fin n) : ∃ k, s k = top s := by
  obtain ⟨k, -, hk⟩ := Finset.exists_max_image Finset.univ s ⟨k₀, Finset.mem_univ k₀⟩
  refine ⟨k, le_antisymm ?_ ?_⟩
  · exact (Finset.le_fold_max _).2 (Or.inr ⟨k, Finset.mem_univ k, le_rfl⟩)
  · exact (Finset.fold_max_le _).2 ⟨by rw [negInf]; exact bot_le, hk⟩

/-- An exponential is not negative. -/
theorem exp_nonneg (x : EReal) : 0 ≤ Ideal.exp x := by
  induction x using EReal.rec with
  | bot => exact le_rfl
  | coe r => exact EReal.coe_nonneg.2 (Real.exp_pos r).le
  | top => exact le_top

/-- The exponentials of a row of real numbers do not sum to zero. -/
theorem sum_ex_ne_zero {n : ℕ} (s : Fin n → EReal) (k₀ : Fin n) (hs : ∀ k, IsReal (s k)) : ∑ k, ex s k ≠ 0 := by
  obtain ⟨k, hk⟩ := top_mem s k₀
  have h1 : ex s k = 1 := by
    obtain ⟨r, hr⟩ := hs k
    unfold ex
    rw [← hk, hr, ← EReal.coe_sub, sub_self, Ideal.exp_coe, Real.exp_zero]
    rfl
  have h2 : ex s k ≤ ∑ k, ex s k := Finset.single_le_sum (f := ex s) (fun i _ => exp_nonneg _) (Finset.mem_univ k)
  rw [h1] at h2
  exact (lt_of_lt_of_le zero_lt_one h2).ne'

/-- One weight of differential attention as the kernel writes it: each map's exponential times a reciprocal. -/
def coefK {n : ℕ} (s0 s1 : Fin n → EReal) (lam : EReal) (k : Fin n) : EReal :=
  ex s0 k * Ideal.div 1 (∑ l, ex s0 l) - ex s1 k * Ideal.div lam (∑ l, ex s1 l)

/-- The same weight as the reference writes it: a softmax minus `lam` times a softmax, the row's largest entry taken
    once more against minus infinity. -/
def coefR {n : ℕ} (s0 s1 : Fin n → EReal) (lam : EReal) (k : Fin n) : EReal :=
  Ideal.div (Ideal.exp (s0 k - max (Ideal.ofBits .f32 0xFF800000#32) (top s0)))
      (∑ l, Ideal.exp (s0 l - max (Ideal.ofBits .f32 0xFF800000#32) (top s0)))
    - lam * Ideal.div (Ideal.exp (s1 k - max (Ideal.ofBits .f32 0xFF800000#32) (top s1)))
      (∑ l, Ideal.exp (s1 l - max (Ideal.ofBits .f32 0xFF800000#32) (top s1)))

/-- The two weights agree on rows of real scores. -/
theorem coef_eq {n : ℕ} (s0 s1 : Fin n → EReal) (lam : EReal) (h0 : ∀ k, IsReal (s0 k)) (h1 : ∀ k, IsReal (s1 k)) :
    coefR s0 s1 lam = coefK s0 s1 lam := by
  funext k
  have e0 := sum_ex_ne_zero s0 k h0
  have e1 := sum_ex_ne_zero s1 k h1
  have b : ∀ x : EReal, max (Ideal.ofBits .f32 0xFF800000#32) x = x := fun x => by rw [negInf]; exact max_eq_right bot_le
  unfold coefR coefK
  rw [b, b]
  change Ideal.div (ex s0 k) (∑ l, ex s0 l) - lam * Ideal.div (ex s1 k) (∑ l, ex s1 l) = _
  simp only [Ideal.div, if_neg e0, if_neg e1, one_mul]
  rw [mul_left_comm]

/-- The row of an output head: the weighted sum of the values, divided by its root mean square, scaled by the norm's
    weight and by a constant. -/
def normRow {n d : ℕ} (a : Fin n → EReal) (V : Fin n → Fin d → EReal) (w : Fin d → EReal) (j : Fin d) : EReal :=
  (∑ k, a k * V k j) *
      Ideal.rsqrt (Ideal.div (∑ l, (∑ k, a k * V k l) * ∑ k, a k * V k l) (Ideal.ofBits .f32 0x43800000#32)
        + Ideal.ofBits .f32 0x358637BD#32) * w j * Ideal.ofBits .f32 0x3F24FD5C#32

/-- Equal scores, mixing weights, values and norm weights give equal rows. -/
theorem normRow_congr {n d : ℕ} {s0 s0' s1 s1' : Fin n → EReal} {lam lam' : EReal} {V V' : Fin n → Fin d → EReal}
    {w w' : Fin d → EReal} {j : Fin d} (h0 : ∀ k, s0 k = s0' k) (h1 : ∀ k, s1 k = s1' k) (hl : lam = lam')
    (hV : ∀ k j, V k j = V' k j) (hw : ∀ j, w j = w' j) :
    normRow (coefK s0 s1 lam) V w j = normRow (coefK s0' s1' lam') V' w' j := by
  obtain rfl : s0 = s0' := funext h0
  obtain rfl : s1 = s1' := funext h1
  obtain rfl : V = V' := funext fun k => funext (hV k)
  obtain rfl : w = w' := funext hw
  rw [hl]

end Cert.Proof.AttnMath

end
-- ==== Proof.AttnRef.lean ====
/- The reference's result at an index, for differential attention: the printed operations read one after another. -/
module

public import proofs.«01_k».proof.Proof.Gen.ReferenceIdeal.Read
public import proofs.«01_k».proof.Proof.AttnMath
public import Idealize.ShloMosaic.Lib.Pointwise
public import Idealize.ShloMosaic.PureOps.Ideal

@[expose] public section

set_option maxRecDepth 16384

noncomputable section

namespace Cert.Proof.AttnRef

open Idealize.ShloMosaic Idealize.ShloMosaic.TcCoe Idealize.SL.Sem
open Cert.ReferenceIdeal Cert.ReferenceIdeal.Gen Cert.ReferenceIdeal.Read Cert.Proof.AttnMath

/-- The score of query row `n` against key row `k` in map `i` of head `h`. -/
def score (x0 : FVec Ideal S4x4352x4096 .bf16) (b : Fin 4) (h : Fin 8) (i : Fin 2) (n : Fin 4096) (k : Fin 4352) : EReal :=
  ∑ d : Fin 128, x0 (ix3 b ⟨256 + n, by omega⟩ ⟨h * 256 + i * 128 + d, by omega⟩)
    * x0 (ix3 b k ⟨2048 + (h * 256 + i * 128 + d), by omega⟩)

/-- The value row `k` of head `h`. -/
def value (x1 : FVec Ideal S17408x6144 .bf16) (b : Fin 4) (h : Fin 8) (k : Fin 4352) (j : Fin 256) : EReal :=
  x1 (ix2 ⟨b * 4352 + k, by omega⟩ ⟨4096 + (h * 256 + j), by omega⟩)

/-- The mixing weight `exp (λ₀·λ₁) - exp (λ₂·λ₃) + const`. -/
def lam (x2 : FVec Ideal S4x128 .f32) : EReal :=
  Ideal.exp (∑ x : Fin 128, x2 (ix2 0 x) * x2 (ix2 1 x)) - Ideal.exp (∑ x : Fin 128, x2 (ix2 2 x) * x2 (ix2 3 x))
    + Ideal.ofBits .f32 0x3EB60549#32

/-- The reference's mixing weight is `lam`. -/
theorem lam_read (x2 : FVec Ideal S4x128 .f32) (i : S_.Idx) : val_main_v17 (F := Ideal) x2 i = lam x2 := by
  pointwise [val_main_v17, val_main_v16, val_main_v8, val_main_v7, val_main_v6, val_main_v5, val_main_v4, val_main_v3,
    val_main_v2, val_main_v9, val_main_v10, val_main_v11, val_main_v12, val_main_v13, val_main_v14, val_main_v15,
    val_main_cst_1, val_main_cst, val_main_cst_0]
  rfl

/-- The reference's scores are `score`. -/
theorem score_read (x0 : FVec Ideal S4x4352x4096 .bf16) (b : Fin 4) (h : Fin 8) (i : Fin 2) (n : Fin 4096) (k : Fin 4352) :
    val_main_v28 (F := Ideal) x0 (ix5 b h i n k) = score x0 b h i n k := by
  pointwise [val_main_v28, val_main_v20, val_main_v23, val_main_v22, val_main_v21, val_main_v0, val_main_v18, val_main_v19]
  rfl

/-- The reference's values are `value`. -/
theorem value_read (x1 : FVec Ideal S17408x6144 .bf16) (b : Fin 4) (h : Fin 8) (k : Fin 4352) (j : Fin 256) :
    val_main_v27 (F := Ideal) x1 (ix4 b h k j) = value x1 b h k j := by
  pointwise [val_main_v27, val_main_v26, val_main_v25, val_main_v24, val_main_v1]
  rfl

/-- The reference's row maximum. -/
theorem top_read (x0 : FVec Ideal S4x4352x4096 .bf16) (b : Fin 4) (h : Fin 8) (i : Fin 2) (n : Fin 4096) :
    val_main_v29 (F := Ideal) x0 (ix4 b h i n) = top (score x0 b h i n) := by
  have e : val_main_v29 (F := Ideal) x0 (ix4 b h i n) = top fun k : Fin 4352 => val_main_v28 (F := Ideal) x0 (ix5 b h i n k) := by
    unfold val_main_v29
    generalize val_main_v28 (F := Ideal) x0 = y
    pointwise [val_main_cst_2, top]
  rw [e]
  exact congrArg top (funext fun k => score_read x0 b h i n k)

/-- The reference's exponential of a score minus the row maximum. -/
theorem exp_read (x0 : FVec Ideal S4x4352x4096 .bf16) (b : Fin 4) (h : Fin 8) (i : Fin 2) (n : Fin 4096) (k : Fin 4352) :
    val_main_v35 (F := Ideal) x0 (ix5 b h i n k)
      = Ideal.exp (score x0 b h i n k - max (Ideal.ofBits .f32 0xFF800000#32) (top (score x0 b h i n))) := by
  rw [val_main_v35_apply, val_main_v34_apply, val_main_v33_apply, val_main_v32_apply, val_main_v31_apply,
    val_main_v30_apply, val_main_cst_3_apply]
  have e : idx_main_v32 (idx_main_v33 (ix5 b h i n k)) = ix4 b h i n := by idx_ext
  rw [e, score_read, top_read]; rfl

/-- The reference's softmax. -/
theorem prob_read (x0 : FVec Ideal S4x4352x4096 .bf16) (b : Fin 4) (h : Fin 8) (i : Fin 2) (n : Fin 4096) (k : Fin 4352) :
    val_main_v39 (F := Ideal) x0 (ix5 b h i n k)
      = Ideal.div (Ideal.exp (score x0 b h i n k - max (Ideal.ofBits .f32 0xFF800000#32) (top (score x0 b h i n))))
        (∑ l, Ideal.exp (score x0 b h i n l - max (Ideal.ofBits .f32 0xFF800000#32) (top (score x0 b h i n)))) := by
  have e : idx_main_v37 (idx_main_v38 (ix5 b h i n k)) = ix4 b h i n := by idx_ext
  have e' : ∀ l, idx_main_v36 (ix4 b h i n) l = ix5 b h i n l := fun l => by idx_ext
  rw [val_main_v39_apply, val_main_v38_apply, val_main_v37_apply, e, val_main_v36_apply, val_main_cst_4_apply, exp_read]
  refine congrArg (Ideal.div _) ((congrArg₂ (· + ·) Ideal.ofBits_zero_f32
    (Finset.sum_congr rfl fun l _ => ?_)).trans (zero_add _))
  rw [e', exp_read]

/-- The reference's weights: the first map's softmax minus `lam` times the second's. -/
theorem weight_read (x0 : FVec Ideal S4x4352x4096 .bf16) (x2 : FVec Ideal S4x128 .f32) (b : Fin 4) (h : Fin 8) (n : Fin 4096)
    (k : Fin 4352) :
    val_main_v46 (F := Ideal) x0 x2 (ix4 b h n k) = coefR (score x0 b h 0 n) (score x0 b h 1 n) (lam x2) k := by
  have e0 : idx_main_v40 (idx_main_v41 (ix4 b h n k)) = ix5 b h 0 n k := by idx_ext
  have e1 : idx_main_v42 (idx_main_v43 (ix4 b h n k)) = ix5 b h 1 n k := by idx_ext
  rw [val_main_v46_apply, val_main_v45_apply, val_main_v44_apply, val_main_v43_apply, val_main_v42_apply,
    val_main_v41_apply, val_main_v40_apply, e0, e1, prob_read, prob_read, lam_read]
  rfl

/-- The reference's weighted sum of the values. -/
theorem mix_read (x0 : FVec Ideal S4x4352x4096 .bf16) (x1 : FVec Ideal S17408x6144 .bf16) (x2 : FVec Ideal S4x128 .f32)
    (b : Fin 4) (n : Fin 4096) (h : Fin 8) (j : Fin 256) :
    val_main_v48 (F := Ideal) x0 x1 x2 (ix4 b n h j)
      = ∑ k : Fin 4352, coefR (score x0 b h 0 n) (score x0 b h 1 n) (lam x2) k * value x1 b h k j := by
  rw [val_main_v48_apply, val_main_v47_apply]
  refine Finset.sum_congr rfl fun k _ => congrArg₂ (· * ·) ?_ ?_
  · rw [← weight_read]
    refine congrArg _ ?_
    idx_ext
  · rw [← value_read]
    refine congrArg _ ?_
    idx_ext

/-- The reference's result: column `h·256 + j` of row `n` of batch `b` is the normalized row of head `h` at `j`. -/
theorem out_read (x0 : FVec Ideal S4x4352x4096 .bf16) (x1 : FVec Ideal S17408x6144 .bf16) (x2 : FVec Ideal S4x128 .f32)
    (x3 : FVec Ideal S256 .f32) (b : Fin 4) (n : Fin 4096) (c : Fin 2048) (h : Fin 8) (j : Fin 256)
    (hc : (c : ℕ) = h * 256 + j) :
    val_main_v65 (F := Ideal) x0 x1 x2 x3 (ix3 b n c)
      = normRow (coefR (score x0 b h 0 n) (score x0 b h 1 n) (lam x2)) (value x1 b h) (fun j => x3 (ix1 j)) j := by
  have e : idx_main_v64 (ix3 b n c) = ix4 b n h j := by
    idx_ext <;> simp [hc] <;> omega
  have e1 : ∀ l, idx_main_v50 (idx_main_v51 (idx_main_v57 (ix4 b n h j))) l = ix4 b n h l := fun l => by idx_ext
  have e2 : idx_main_v59 (idx_main_v60 (ix4 b n h j)) = ix1 j := by idx_ext
  rw [val_main_v65_apply, val_main_v64_apply, e, val_main_v63_apply, val_main_v62_apply, val_main_v61_apply,
    val_main_v60_apply, val_main_v59_apply, val_main_v58_apply, val_main_v57_apply, val_main_v56_apply,
    val_main_v55_apply, val_main_v54_apply, val_main_v53_apply, val_main_v52_apply, val_main_v51_apply,
    val_main_v50_apply, val_main_cst_5_apply, val_main_cst_6_apply, val_main_cst_7_apply, val_main_cst_8_apply, e2, mix_read]
  have es : FloatOps.ofBits (F := Ideal) .f32 0#32 + ∑ l : Fin 256, val_main_v49 (F := Ideal) x0 x1 x2
        (idx_main_v50 (idx_main_v51 (idx_main_v57 (ix4 b n h j))) l)
      = ∑ l : Fin 256, (∑ k : Fin 4352, coefR (score x0 b h 0 n) (score x0 b h 1 n) (lam x2) k * value x1 b h k l)
        * ∑ k : Fin 4352, coefR (score x0 b h 0 n) (score x0 b h 1 n) (lam x2) k * value x1 b h k l := by
    refine (congrArg₂ (· + ·) Ideal.ofBits_zero_f32 (Finset.sum_congr rfl fun l _ => ?_)).trans (zero_add _)
    rw [e1, val_main_v49_apply, mix_read]; rfl
  rw [es]; rfl

end Cert.Proof.AttnRef

end
-- ==== Proof.AttnPoint.lean ====
/- The kernel of differential attention: what one grid point stores, and so the whole result array, as one function
   of the four arguments. -/
module

public import proofs.«01_k».proof.Proof.Gen.KernelIdeal.Value
public import proofs.«01_k».proof.Proof.AttnRef
public import Idealize.ShloMosaic.Lib.Pointwise
public import Idealize.ShloMosaic.Lib.Pipeline.ValueKit
public import Idealize.ShloMosaic.PureOps.Ideal

@[expose] public section

set_option maxRecDepth 16384

noncomputable section

namespace Cert.Proof.AttnPoint

open Idealize.ShloMosaic Idealize.ShloMosaic.TcCoe Idealize.SL.Sem
open Idealize.ShloMosaic.Pipeline (Dat)
open Cert.KernelIdeal Cert.KernelIdeal.Gen Cert.Proof.AttnMath

/-- The score, value, mixing weight and norm weight of an output row, from blocks: the stored row is `normRow` of `coefK`. -/
theorem pay_read (x0 : FVec Ideal S4x128 .f32) (x1 : FVec Ideal S1x256 .f32) (x2 : FVec Ideal S1x256x256 .bf16)
    (x3 x4 : FVec Ideal S1x4352x256 .bf16) (r j : Fin 256) :
    k0_pay1 (F := Ideal) (k0_pay2 x0) (k0_pay5 x2 x3) (k0_pay6 x2 x3) (k0_pay7 x2 x3) (k0_pay8 x2 x3) x4 x1 (ix3 0 r j)
      = normRow (coefK
          (fun k : Fin 4352 => ∑ d : Fin 128, x2 (ix3 0 r ⟨d, by omega⟩) * x3 (ix3 0 k ⟨d, by omega⟩))
          (fun k : Fin 4352 => ∑ d : Fin 128, x2 (ix3 0 r ⟨128 + d, by omega⟩) * x3 (ix3 0 k ⟨128 + d, by omega⟩))
          (AttnRef.lam x0))
        (fun k j => x4 (ix3 0 k j)) (fun j => x1 (ix2 0 j)) j := by
  pointwise [k0_pay1, k0_pay2, k0_pay3, k0_pay4, k0_pay5, k0_pay6, k0_pay7, k0_pay8]
  rfl

/-- The result array as one function of the arguments, in the kernel's form. -/
def G (x0 : FVec Ideal S4x4352x4096 .bf16) (x1 : FVec Ideal S17408x6144 .bf16) (x2 : FVec Ideal S4x128 .f32)
    (x3 : FVec Ideal S256 .f32) (b : Fin 4) (n : Fin 4096) (h : Fin 8) (j : Fin 256) : EReal :=
  normRow (coefK (AttnRef.score x0 b h 0 n) (AttnRef.score x0 b h 1 n) (AttnRef.lam x2)) (AttnRef.value x1 b h)
    (fun j => x3 (ix1 j)) j

/-- `G` at an index of the result array: the column is a head and a lane. -/
def Gix (x0 : FVec Ideal S4x4352x4096 .bf16) (x1 : FVec Ideal S17408x6144 .bf16) (x2 : FVec Ideal S4x128 .f32)
    (x3 : FVec Ideal S256 .f32) (o : S4x4096x2048.Idx) : EReal :=
  G x0 x1 x2 x3 (o 0) (o 1) ⟨(o 2).val / 256, by have := (o 2).isLt; simp at this; omega⟩
    ⟨(o 2).val % 256, by omega⟩

/-- The block indices of the windows at a grid point. -/
theorem idx_val : ∀ t : Fin cfg0.N,
    win0_0.index t = ![0, 0] ∧ win0_1.index t = ![0, 0]
    ∧ win0_2.index t = ![t.val / 128, t.val % 16 + 1, t.val / 16 % 8]
    ∧ win0_3.index t = ![t.val / 128, 0, 8 + t.val / 16 % 8]
    ∧ win0_4.index t = ![t.val / 128, 0, 16 + t.val / 16 % 8]
    ∧ win0_5.index t = ![t.val / 128, t.val % 16, t.val / 16 % 8] :=
  (by decide +kernel : ∀ t : Fin grid0.N, _)

variable (m : (ℓ : Loc nD τ sig) → Buf (Elt Ideal) ℓ)

/-- What point `t` stores, at an index of its block, is `Gix` of the arguments at that index of the result. -/
theorem point (c : Dev nD) (t : Fin cfg0.N) (y : S1x256x256.Idx) :
    k0_pay1 (F := Ideal) (k0_pay2 (iblk m c 0 t)) (k0_pay5 (iblk m c 2 t) (iblk m c 3 t)) (k0_pay6 (iblk m c 2 t) (iblk m c 3 t))
        (k0_pay7 (iblk m c 2 t) (iblk m c 3 t)) (k0_pay8 (iblk m c 2 t) (iblk m c 3 t)) (iblk m c 4 t) (iblk m c 1 t) y
      = Gix (m ((c : Thread nD τ).loc main_arg0)) (m ((c : Thread nD τ).loc main_arg1)) (m ((c : Thread nD τ).loc main_arg2))
          (m ((c : Thread nD τ).loc main_arg3)) (((cfg0.win 5).blk t).view.emb y) := by
  obtain ⟨e0, e1, e2, e3, e4, e5⟩ := idx_val t
  have hb : t.val < 512 := t.isLt
  idx_vars y
  obtain rfl : y0 = 0 := Subsingleton.elim _ _
  rw [pay_read]
  have eo : ((cfg0.win 5).blk t).view.emb (ix3 0 y1 y2)
      = ix3 ⟨t.val / 128, by omega⟩ ⟨t.val % 16 * 256 + y1, by omega⟩ ⟨t.val / 16 % 8 * 256 + y2, by omega⟩ := by
    blk_ext [e5]
  rw [eo]
  have eG : Gix (m ((c : Thread nD τ).loc main_arg0)) (m ((c : Thread nD τ).loc main_arg1)) (m ((c : Thread nD τ).loc main_arg2))
      (m ((c : Thread nD τ).loc main_arg3))
      (ix3 ⟨t.val / 128, by omega⟩ ⟨t.val % 16 * 256 + y1, by omega⟩ ⟨t.val / 16 % 8 * 256 + y2, by omega⟩)
      = G (m ((c : Thread nD τ).loc main_arg0)) (m ((c : Thread nD τ).loc main_arg1)) (m ((c : Thread nD τ).loc main_arg2))
      (m ((c : Thread nD τ).loc main_arg3)) ⟨t.val / 128, by omega⟩ ⟨t.val % 16 * 256 + y1, by omega⟩ ⟨t.val / 16 % 8, by omega⟩ y2 := by
    unfold Gix
    congr 1
    · exact Fin.ext (by show (t.val / 16 % 8 * 256 + y2.val) / 256 = t.val / 16 % 8; omega)
    · exact Fin.ext (by show (t.val / 16 % 8 * 256 + y2.val) % 256 = y2.val; omega)
  rw [eG]
  unfold G
  refine normRow_congr (fun k => ?_) (fun k => ?_) ?_ (fun k j => ?_) fun j => ?_
  · refine Finset.sum_congr rfl fun d _ => Ideal.mul_congr ?_ ?_
    · blk_ext! [iblk, V, e2]
    · blk_ext! [iblk, V, e3]
  · refine Finset.sum_congr rfl fun d _ => Ideal.mul_congr ?_ ?_
    · blk_ext! [iblk, V, e2]
    · blk_ext! [iblk, V, e3]
  · refine congrArg AttnRef.lam (funext fun i => ?_)
    idx_vars i
    blk_ext! [iblk, V, e0]
  · unfold AttnRef.value
    blk_ext! [iblk, V, e4]
  · blk_ext! [iblk, V, e1]

/-- The result array after the run is `Gix` of the arguments. -/
theorem final (c : Dev nD) :
    (dats m 0 c).arrAt 5 (cfgs 0).N
      = Gix (m ((c : Thread nD τ).loc main_arg0)) (m ((c : Thread nD τ).loc main_arg1)) (m ((c : Thread nD τ).loc main_arg2))
          (m ((c : Thread nD τ).loc main_arg3)) := by
  refine (dats m 0 c).arrAt_eq_of_covers 5 _ (by decide +kernel) fun t _ y => ?_
  blk_simp
  rw [after0_5]
  frame_out
  exact point m c t y

end Cert.Proof.AttnPoint

end
-- ==== Proof.AttnClaim.lean ====
/- Differential attention: the reference's result is the kernel's result array when the queries and keys are real. -/
module

public import proofs.«01_k».proof.Defs
public import proofs.«01_k».proof.Proof.Gen.Pre_finite_qk
public import proofs.«01_k».proof.Proof.AttnPoint
public import proofs.«01_k».proof.Proof.Gen.ReferenceIdeal.Run
public import Idealize.ShloMosaic.Lib.ReduceAll
public import Idealize.ShloMosaic.Lib.WordCmp
public import Idealize.ShloMosaic.Lib.Quiescent

@[expose] public section

set_option maxRecDepth 16384

noncomputable section

namespace Cert.Proof.AttnClaim

open Idealize.ShloMosaic Idealize.ShloMosaic.TcCoe Idealize.SL.Sem
open Cert.Proof.AttnMath

/-- An extended real whose absolute value is below infinity is a real number. -/
theorem isReal_of_abs_lt {x : EReal} (h : max x (-x) < ⊤) : IsReal x := by
  induction x using EReal.rec with
  | bot => simp at h
  | coe r => exact ⟨r, rfl⟩
  | top => simp at h

/-- The precondition says that every query and key is a real number. -/
theorem finite_of_pre (x0 : FVec Ideal Cert.Pre_finite_qk.S4x4352x4096 .bf16) (x1 : FVec Ideal Cert.Pre_finite_qk.S17408x6144 .bf16)
    (x2 : FVec Ideal Cert.Pre_finite_qk.S4x128 .f32) (x3 : FVec Ideal Cert.Pre_finite_qk.S256 .f32)
    (h : Cert.Pre_finite_qk.fn (F := Ideal) x0 x1 x2 x3 = fun _ => 1#1) (i : Cert.Pre_finite_qk.S4x4352x4096.Idx) :
    IsReal (x0 i) := by
  have h1 := congrFun h ix0
  unfold Cert.Pre_finite_qk.fn at h1
  haveI : Subsingleton Cert.Pre_finite_qk.S_.Idx := ⟨fun a b => funext fun k => k.elim0⟩
  have h2 := Host.reduce_andi_all _ _ _ _ _ h1 i
  revert h2
  pointwise
  intro h2
  refine isReal_of_abs_lt ?_
  rw [← posInf]
  by_contra hn
  rw [show decide (FloatOps.absf (F := Ideal) (φ := .f32) (x0 i) < Ideal.ofBits .f32 0x7F800000#32) = false from
    decide_eq_false hn] at h2
  exact absurd h2 (by decide)

/-- The reference's result is the kernel's function of the arguments, when every query and key is real. -/
theorem ref_eq (x0 : FVec Ideal Cert.ReferenceIdeal.S4x4352x4096 .bf16) (x1 : FVec Ideal Cert.ReferenceIdeal.S17408x6144 .bf16)
    (x2 : FVec Ideal Cert.ReferenceIdeal.S4x128 .f32) (x3 : FVec Ideal Cert.ReferenceIdeal.S256 .f32)
    (h : ∀ i, IsReal (x0 i)) :
    Cert.ReferenceIdeal.Read.val_main_v65 (F := Ideal) x0 x1 x2 x3 = AttnPoint.Gix x0 x1 x2 x3 := by
  have hs : ∀ b hd i n k, IsReal (AttnRef.score x0 b hd i n k) :=
    fun b hd i n k => IsReal.sum _ fun d => (h _).mul (h _)
  funext o
  idx_vars o
  rw [AttnRef.out_read x0 x1 x2 x3 o0 o1 o2 ⟨o2 / 256, by omega⟩ ⟨o2 % 256, by omega⟩
    (by show o2.val = o2.val / 256 * 256 + o2.val % 256; omega), coef_eq _ _ _ (hs _ _ _ _) (hs _ _ _ _)]
  rfl

/-- `Cert.quiescent_ReferenceIdeal`: the reference's run read at its arguments; it declares no semaphore. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The algebraic claim: the kernel's result array and the reference's result are one function of equal arguments. -/
theorem agree : Cert.algebraic_KernelIdeal_ReferenceIdeal_pre_finite_qk := by
  intro m g m' g' hpre hargs
  refine ⟨fun c => (Cert.KernelIdeal.Gen.dats m 0 c).arrAt 5 Cert.KernelIdeal.cfg0.N, Cert.KernelIdeal.Value.run_blocks m g, ?_⟩
  refine (θ_run _ _ _).mono (fun r h c => ?_) (Cert.ReferenceIdeal.Value.run m' g')
  obtain ⟨h0, h1, h2, h3, h4⟩ := h c
  refine ⟨?_, h1, h2, h3, h4⟩
  obtain ⟨a0, a1, a2, a3⟩ := hargs c
  rw [h0, Cert.ReferenceIdeal.Read.val_main_v65_eq, a0, a1, a2, a3]
  exact (ref_eq _ _ _ _ (finite_of_pre _ _ _ _ (hpre c))).trans (AttnPoint.final m c).symm

end Cert.Proof.AttnClaim

end
-- ==== Proof.DownRun.lean ====
module

public import proofs.«01_k».proof.Proof.Gen.ExpertDownIdeal.Launch
public import proofs.«01_k».proof.Proof.Gen.ExpertDownIdeal.Skeleton
public import proofs.«01_k».proof.Proof.Gen.ExpertDownRefIdeal.Run
public import proofs.«01_k».proof.Proof.Gen.ExpertDownRefIdeal.Read
public import Idealize.ShloMosaic.Lib.Exec
public import Idealize.ShloMosaic.Lib.Tactic
public import Idealize.ShloMosaic.Lib.VecWindow
public import Idealize.ShloMosaic.Lib.Pipeline.TableIdle
public import Idealize.ShloMosaic.Lib.Pipeline.Quiescent
public import Idealize.ShloMosaic.Lib.Pipeline.FrameBody
public import Idealize.ShloMosaic.Lib.Quiescent

/-! The run of the down projection of the experts: at every grid point the body leaves the converted weight block in the
scratch buffer and the block's product in the output buffer, for whatever the two prefetched tables hold. -/

@[expose] public section

noncomputable section

namespace Cert.ExpertDownIdeal.Walk

open Cert.ExpertDownIdeal Cert.ExpertDownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- The table of expert numbers, as the body is handed it. -/
abbrev tb0 : Memref sig .tc .smem S136 .i32 := Memref.whole main_arg1

/-- The table that holds the number of tiles in use. -/
abbrev tb1 : Memref sig .tc .smem S1 .i32 := Memref.whole main_arg2

/-- The expert number of the tile the point works on, as the body loads it. -/
abbrev wordHere (i : grid0.Coords) (T0 : S136.Idx → Elt F .i32) : BitVec 32 :=
  View.readAt (Elt F) (tb0).view
    (Rect.unit (s := S136) (k0_off1 i) S1.size (k0_off1_inb i)).toLoadRect T0 (Shape.Idx.first (numel1_S1.symm ▸ Nat.one_pos))

/-- The expert number of the tile before it, as the body loads it. -/
abbrev wordPrev (i : grid0.Coords) (T0 : S136.Idx → Elt F .i32) : BitVec 32 :=
  View.readAt (Elt F) (tb0).view
    (Rect.unit (s := S136) (k0_off2 i) S1.size (k0_off2_inb i)).toLoadRect T0 (Shape.Idx.first (numel1_S1.symm ▸ Nat.one_pos))

/-- The number of tiles in use, as the body loads it. -/
abbrev wordUsed (T1 : S1.Idx → Elt F .i32) : BitVec 32 :=
  View.readAt (Elt F) (tb1).view
    (Rect.unit (s := S1) ![0] S1.size inb_S1_S1_0).toLoadRect T1 (Shape.Idx.first (numel1_S1.symm ▸ Nat.one_pos))

/-- The test under which the body converts a new weight block: the first tile of a column, or another expert than the tile before. -/
abbrev fresh (i : grid0.Coords) (T0 : S136.Idx → Elt F .i32) : Prop :=
  Scalar.cmpi .ne (Scalar.extui (Scalar.ori (Scalar.cmpi .eq (BitVec.ofNat 32 (i 1).val) 0#32)
    (Scalar.cmpi .ne (wordHere i T0) (wordPrev i T0)))) 0#32 = 1#1

/-- The test under which the body multiplies: the tile is in use. -/
abbrev used (i : grid0.Coords) (T1 : S1.Idx → Elt F .i32) : Prop := k0_cond2 i (wordUsed T1) = 1#1

/-- The two tests on the number of tiles exclude each other, and one of them holds. -/
theorem cond3_iff (i : grid0.Coords) (v : BitVec 32) : k0_cond3 i v = 1#1 ↔ ¬ k0_cond2 i v = 1#1 := by
  unfold k0_cond3 k0_cond2
  simp only [Scalar.cmpi, Scalar.extui, IntOp.cmpi, BitVec.sle_eq_not_slt]
  cases BitVec.slt (BitVec.ofNat 32 (i 1).val) v <;> decide

/-- What the scratch buffer holds after the body. -/
def scratchAfter (i : grid0.Coords) (T0 : S136.Idx → Elt F .i32) (x1 : S1x7168x512.Idx → Elt F .f32)
    (a : S7168x512.Idx → Elt F .bf16) : S7168x512.Idx → Elt F .bf16 :=
  open Classical in if fresh i T0 then k0_pay1 x1 else a

/-- What the output buffer holds after the body, from what the scratch buffer then holds. -/
def outAfter (i : grid0.Coords) (T1 : S1.Idx → Elt F .i32) (x0 : S256x7168.Idx → Elt F .bf16)
    (b : S7168x512.Idx → Elt F .bf16) : S256x512.Idx → Elt F .f32 :=
  open Classical in if used i T1 then k0_pay2 x0 b else k0_pay3

set_option maxHeartbeats 4000000 in
/-- The body at a point: it reads the activations' block, the weights' block and the tables, leaves them, and leaves the scratch
and the output buffer as `scratchAfter` and `outAfter` state. -/
theorem body_run (c : Dev nD) (i : grid0.Coords) (arg4 : Memref sig .tc .vmem S256x7168 .bf16) (harg4 : arg4.IsWhole)
    (arg5 : Memref sig .tc .vmem S1x7168x512 .f32) (harg5 : arg5.IsWhole) (arg6 : Memref sig .tc .vmem S256x512 .f32)
    (harg6 : arg6.IsWhole) (arg7 : Memref sig .tc .vmem S7168x512 .bf16) (harg7 : arg7.IsWhole)
    (T0 : S136.Idx → Elt F .i32) (T1 : S1.Idx → Elt F .i32) (x0 : S256x7168.Idx → Elt F .bf16)
    (x1 : S1x7168x512.Idx → Elt F .f32) (a : S7168x512.Idx → Elt F .bf16) (K : PUnit → sProp 𝕄) :
    iprop(owns (c : Thread nD τ) arg4 fullShare x0 ∗ owns (c : Thread nD τ) arg5 fullShare x1
        ∗ (tb0.view.loc (c : Thread nD τ) ↦{fullShare.right} T0) ∗ (tb1.view.loc (c : Thread nD τ) ↦{fullShare.right} T1)
        ∗ (∃ d, owns (c : Thread nD τ) arg6 fullShare d) ∗ owns (c : Thread nD τ) arg7 fullShare a
        ∗ (iprop(owns (c : Thread nD τ) arg4 fullShare x0 ∗ owns (c : Thread nD τ) arg5 fullShare x1
            ∗ (tb0.view.loc (c : Thread nD τ) ↦{fullShare.right} T0) ∗ (tb1.view.loc (c : Thread nD τ) ↦{fullShare.right} T1)
            ∗ owns (c : Thread nD τ) arg6 fullShare (outAfter i T1 x0 (scratchAfter i T0 x1 a))
            ∗ owns (c : Thread nD τ) arg7 fullShare (scratchAfter i T0 x1 a)) -∗ K ⟨⟩))
      ⊢ wp frame (wpE (defs₀ (F := F)) Variants.none c none) Set.univ
          (cc0_moe_expert_down i tb0 (Memref.isWhole_whole _) tb1 (Memref.isWhole_whole _)
            arg4 harg4 arg5 harg5 arg6 harg6 arg7 harg7) K := by
  have e4 : (owns (c : Thread nD τ) arg4 fullShare x0 : sProp 𝕄) = _ := owns_eq_rep _ _ _ _
  have e5 : (owns (c : Thread nD τ) arg5 fullShare x1 : sProp 𝕄) = _ := owns_eq_rep _ _ _ _
  have e7 : (owns (c : Thread nD τ) arg7 fullShare a : sProp 𝕄) = _ := owns_eq_rep _ _ _ _
  rw [e4, e5, e7]
  rw [cc0_moe_expert_down_eq_skeleton]; unfold cc0_moe_expert_down_skel
  unfold owns
  iintro ⟨H0, H1, HT0, HT1, ⟨%d2, %f2, -, HO⟩, HS, Hk⟩
  have hT0 : tb0.IsWhole := Memref.isWhole_whole _
  have hT1 : tb1.IsWhole := Memref.isWhole_whole _
  by_cases hc0 : fresh i T0 <;> by_cases hc2 : used i T1
  · have hc3 : ¬ k0_cond3 i (wordUsed T1) = 1#1 := fun h => (cond3_iff i _).1 h hc2
    sl_exec (disch := first | (guard_target = Scalar.cmpi _ _ _ = _; exact hc0) | (guard_target = k0_cond2 _ _ = _; exact hc2) | (guard_target = ¬(k0_cond3 _ _ = _); exact hc3))
    sl_step
    iapply Hk
    isplitl [H0]; · iexact H0
    isplitl [H1]; · iexact H1
    isplitl [HT0]; · iexact HT0
    isplitl [HT1]; · iexact HT1
    isplitl [HO]
    · iexists _; isplitr; swap
      · iexact HO
      · ipureintro
        refine (View.read_writes_full _ _ _ _ _).trans ?_
        unfold outAfter scratchAfter
        rw [if_pos hc2, if_pos hc0]
        exact congrArg₂ k0_pay2 (View.readAt_rep_full _ _ _) ((View.readCov_full _ _ _ _ _).trans (congrArg k0_pay1 (View.readAt_rep_full _ _ _)))
    iexists _; isplitr; swap
    · iexact HS
    · ipureintro
      unfold scratchAfter
      rw [if_pos hc0]
      exact (View.read_writes_full _ _ _ _ _).trans (congrArg k0_pay1 (View.readAt_rep_full _ _ _))
  · have hc3 : k0_cond3 i (wordUsed T1) = 1#1 := (cond3_iff i _).2 hc2
    sl_exec (disch := first | (guard_target = Scalar.cmpi _ _ _ = _; exact hc0) | (guard_target = ¬(k0_cond2 _ _ = _); exact hc2) | (guard_target = k0_cond3 _ _ = _; exact hc3))
    sl_step
    iapply Hk
    isplitl [H0]; · iexact H0
    isplitl [H1]; · iexact H1
    isplitl [HT0]; · iexact HT0
    isplitl [HT1]; · iexact HT1
    isplitl [HO]
    · iexists _; isplitr; swap
      · iexact HO
      · ipureintro
        refine (View.read_writes_full _ _ _ _ _).trans ?_
        unfold outAfter scratchAfter
        rw [if_neg hc2]
    iexists _; isplitr; swap
    · iexact HS
    · ipureintro
      unfold scratchAfter
      rw [if_pos hc0]
      exact (View.read_writes_full _ _ _ _ _).trans (congrArg k0_pay1 (View.readAt_rep_full _ _ _))
  · have hc3 : ¬ k0_cond3 i (wordUsed T1) = 1#1 := fun h => (cond3_iff i _).1 h hc2
    sl_exec (disch := first | (guard_target = ¬(Scalar.cmpi _ _ _ = _); exact hc0) | (guard_target = k0_cond2 _ _ = _; exact hc2) | (guard_target = ¬(k0_cond3 _ _ = _); exact hc3))
    sl_step
    iapply Hk
    isplitl [H0]; · iexact H0
    isplitl [H1]; · iexact H1
    isplitl [HT0]; · iexact HT0
    isplitl [HT1]; · iexact HT1
    isplitl [HO]
    · iexists _; isplitr; swap
      · iexact HO
      · ipureintro
        refine (View.read_writes_full _ _ _ _ _).trans ?_
        unfold outAfter scratchAfter
        rw [if_pos hc2, if_neg hc0]
        exact congrArg₂ k0_pay2 (View.readAt_rep_full _ _ _) (View.readAt_rep_full _ _ _)
    iexists _; isplitr; swap
    · iexact HS
    · ipureintro
      unfold scratchAfter
      rw [if_neg hc0]
      exact View.read_rep _ _
  · have hc3 : k0_cond3 i (wordUsed T1) = 1#1 := (cond3_iff i _).2 hc2
    sl_exec (disch := first | (guard_target = ¬(Scalar.cmpi _ _ _ = _); exact hc0) | (guard_target = ¬(k0_cond2 _ _ = _); exact hc2) | (guard_target = k0_cond3 _ _ = _; exact hc3))
    sl_step
    iapply Hk
    isplitl [H0]; · iexact H0
    isplitl [H1]; · iexact H1
    isplitl [HT0]; · iexact HT0
    isplitl [HT1]; · iexact HT1
    isplitl [HO]
    · iexists _; isplitr; swap
      · iexact HO
      · ipureintro
        refine (View.read_writes_full _ _ _ _ _).trans ?_
        unfold outAfter scratchAfter
        rw [if_neg hc2]
    iexists _; isplitr; swap
    · iexact HS
    · ipureintro
      unfold scratchAfter
      rw [if_neg hc0]
      exact View.read_rep _ _

end Cert.ExpertDownIdeal.Walk
-- ==== Proof.DownFrame.lean ====
module

public import proofs.«01_k».proof.Proof.DownRun

/-! The launch of the down projection of the experts: from the body's run at a point to the whole run, with the contents of
the output array. -/

@[expose] public section

set_option maxRecDepth 16384

noncomputable section

namespace Cert.ExpertDownIdeal.Walk

open Cert.ExpertDownIdeal Cert.ExpertDownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- The rounds library's algebra, embedded whole. -/
abbrev EP : Emb (UR sig nD τ) 𝕄 := emb₁

variable (a : (pcfg0 (F := F)).Adm)
variable (m : (ℓ : Loc nD τ sig) → Buf (Elt F) ℓ) (ρ : Dev nD → PrngReg)

/-- The pipeline at the tables' contents `a`. -/
abbrev cfgA : Pipeline.Cfg sig Λ₀ := cfg0 (F := F) a
/-- The program's pipelines at those contents. -/
abbrev pcs : Fin 1 → Pipeline.Cfg sig Λ₀ := Pipeline.pin (pcfgs (F := F)) fun _ => a

/-- A point's coordinates. -/
abbrev crd (t : Fin (cfgA a).N) : grid0.Coords := (cfgA a).grid.coords t

/-- The coordinates of a point: the column block, then the tile. -/
theorem crd_val : ∀ t : Fin grid0.N, (grid0.coords t 0).val = t.val / 136 ∧ (grid0.coords t 1).val = t.val % 136 := by decide +kernel

/-- The table of expert numbers. -/
abbrev tab0 : S136.Idx → Elt F .i32 := a.1 0
/-- The number of tiles in use, as a table. -/
abbrev tab1 : S1.Idx → Elt F .i32 := a.1 1

/-- The block of a window at a point, in the array as it is before the run. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-- The activations' block at a point. -/
abbrev xblk (c : Dev nD) (t : Fin (cfgA a).N) : S256x7168.Idx → Elt F .bf16 := iblk a m c (0 : Fin 3) t
/-- The weights' block at a point. -/
abbrev wblk (c : Dev nD) (t : Fin (cfgA a).N) : S1x7168x512.Idx → Elt F .f32 := iblk a m c (1 : Fin 3) t

/-- The weights' block depends on the point through its place in the array alone. -/
theorem wblk_congr (c : Dev nD) (t t' : Fin (cfgA a).N)
    (h : cc0_transform_1 k0_off1_inb numel1_S1 a.1 (crd a t) = cc0_transform_1 k0_off1_inb numel1_S1 a.1 (crd a t')) :
    wblk a m c t = wblk a m c t' := by
  funext y
  refine congrArg (m ((c : Thread nD τ).loc main_arg3)) (funext fun d => Fin.ext ?_)
  show cc0_transform_1 k0_off1_inb numel1_S1 a.1 (crd a t) d * S1x7168x512.size d + 1 * (y d).val
    = cc0_transform_1 k0_off1_inb numel1_S1 a.1 (crd a t') d * S1x7168x512.size d + 1 * (y d).val
  rw [h]

/-- A tile's index in the table of expert numbers. -/
abbrev tile (i : grid0.Coords) : S136.Idx := fun d => ⟨(i 1).val, by fin_cases d; exact (i 1).isLt⟩

/-- The body's first word is the table's entry at the tile. -/
theorem wordHere_eq (i : grid0.Coords) (T : S136.Idx → Elt F .i32) : wordHere i T = T (tile i) := by
  refine congrArg T (funext fun d => Fin.ext ?_)
  show k0_off1 i d + 1 * 0 = (i 1).val
  rw [k0_off1_eq]
  fin_cases d
  rfl

theorem off2_val : ∀ n : Fin 136, (Scalar.indexCast (Scalar.maxsi (Scalar.subi (BitVec.ofNat 32 n.val) 1#32) 0#32)).toNat = n.val - 1 := by
  decide +kernel

/-- The body's second word is the table's entry one tile before. -/
theorem wordPrev_eq (i i' : grid0.Coords) (h : (i' 1).val + 1 = (i 1).val) (T : S136.Idx → Elt F .i32) : wordPrev i T = T (tile i') := by
  refine congrArg T (funext fun d => Fin.ext ?_)
  show k0_off2 i d + 1 * 0 = (i' 1).val
  have e : k0_off2 i = ![(i 1).val - 1] := by
    unfold k0_off2
    exact congrArg (fun n => ![n]) (off2_val (i 1))
  rw [e]
  fin_cases d
  show (i 1).val - 1 + 1 * 0 = (i' 1).val
  omega

/-- An entry of the table of expert numbers, as a word. -/
abbrev word (pf : pre0.Contents (Elt F)) (x : S136.Idx) : BitVec 32 := pf 0 x

/-- The place of the weights' block: the tile's expert, all rows, the point's column block. -/
theorem place1 (pf : pre0.Contents (Elt F)) (i : grid0.Coords) :
    cc0_transform_1 k0_off1_inb numel1_S1 pf i = ![(word pf (tile i)).toNat, 0, (i 0).val] := by
  have e : word pf ((Rect.unit (s := S136) (k0_off1 i) S1.size (k0_off1_inb i)).emb (Shape.Idx.first (numel1_S1.symm ▸ Nat.one_pos)))
      = word pf (tile i) := wordHere_eq i (pf 0)
  have h0 : (BitVec.ofNat 32 (i 0).val).toNat = (i 0).val := by
    have := (i 0).isLt
    rw [BitVec.toNat_ofNat, Nat.mod_eq_of_lt]
    exact lt_trans this (by decide)
  exact (congrArg₂ (fun (w : BitVec 32) n => ![w.toNat, 0, n]) e h0)

theorem fresh_bits : ∀ p q : BitVec 1, (Scalar.cmpi .ne (Scalar.extui (Scalar.ori p q)) 0#32 = 1#1) ↔ p = 1#1 ∨ q = 1#1 := by decide

/-- Where the body does not convert a new block, the point before had the same block. -/
theorem wblk_prev (c : Dev nD) (t : Fin (cfgA a).N) (hf : ¬ fresh (crd a t) (tab0 a)) :
    ∃ t' : Fin (cfgA a).N, t'.val + 1 = t.val ∧ wblk a m c t = wblk a m c t' := by
  unfold fresh at hf
  rw [fresh_bits, not_or] at hf
  obtain ⟨h1, h2⟩ := hf
  have c0 := (crd_val t).1
  have c1 := (crd_val t).2
  have hi : t.val % 136 ≠ 0 := by
    intro h
    apply h1
    show Scalar.cmpi .eq (BitVec.ofNat 32 (grid0.coords t 1).val) 0#32 = 1#1
    rw [c1, h]
    decide
  have ht : t.val - 1 < (cfgA a).N := by have := t.isLt; omega
  have d0 := (crd_val ⟨t.val - 1, ht⟩).1
  have d1 := (crd_val ⟨t.val - 1, ht⟩).2
  have hs : (crd a ⟨t.val - 1, ht⟩ 1).val + 1 = (crd a t 1).val := by
    refine (congrArg (· + 1) d1).trans (Eq.trans ?_ c1.symm)
    show (t.val - 1) % 136 + 1 = t.val % 136
    omega
  refine ⟨⟨t.val - 1, ht⟩, by show t.val - 1 + 1 = t.val; omega, wblk_congr a m c _ _ ?_⟩
  rw [place1, place1]
  have ew : tab0 a (tile (crd a t)) = tab0 a (tile (crd a ⟨t.val - 1, ht⟩)) := by
    by_contra hne
    apply h2
    rw [wordHere_eq, wordPrev_eq (crd a t) (crd a ⟨t.val - 1, ht⟩) hs]
    exact congrArg BitVec.ofBool (bne_iff_ne.2 hne)
  have e0 : (crd a t 0).val = (crd a ⟨t.val - 1, ht⟩ 0).val := by
    refine c0.trans (Eq.trans ?_ d0.symm)
    show t.val / 136 = (t.val - 1) / 136
    omega
  rw [e0]
  exact congrArg (fun w : BitVec 32 => ![w.toNat, 0, (crd a ⟨t.val - 1, ht⟩ 0).val]) ew

/-- What the scratch buffer holds after a point: the point's weight block, converted. -/
abbrev conv (c : Dev nD) (t : Fin (cfgA a).N) : S7168x512.Idx → Elt F .bf16 := k0_pay1 (wblk a m c t)

/-- The contents `b` are the converted block of the point before position `n`, if there is one. -/
def Held (c : Dev nD) (n : ℕ) (b : S7168x512.Idx → Elt F .bf16) : Prop :=
  ∀ t : Fin (cfgA a).N, t.val + 1 = n → b = conv a m c t

/-- The invariant before a point: the scratch buffer at the converted block of the point before, and the tables. -/
def Phi (c : Dev nD) (t : Fin ((cfgA a).N + 1)) : sProp 𝕄 :=
  iprop((∃ b, ⌜Held a m c t.val b⌝
      ∗ owns (c : Thread nD τ) (Memref.whole cc0_scratch0 : Memref sig .tc .vmem S7168x512 .bf16) fullShare b)
    ∗ (tb0.view.loc (c : Thread nD τ) ↦{fullShare.right} tab0 a) ∗ (tb1.view.loc (c : Thread nD τ) ↦{fullShare.right} tab1 a))

/-- The proof data of the pipeline. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 3) t
    | ⟨1, _⟩ => iblk a m c (1 : Fin 3) t
    | ⟨2, _⟩ => outAfter (crd a t) (tab1 a) (xblk a m c t) (conv a m c t)
  Φ t := Phi a m c t
  q _ := fullShare
  owed _ := 0

theorem after0_0 (c : Dev nD) (t : Fin (cfgA a).N) : (dats a m 0 c).after (0 : Fin 3) t = iblk a m c (0 : Fin 3) t := rfl
theorem after0_1 (c : Dev nD) (t : Fin (cfgA a).N) : (dats a m 0 c).after (1 : Fin 3) t = iblk a m c (1 : Fin 3) t := rfl
theorem after0_2 (c : Dev nD) (t : Fin (cfgA a).N) :
    (dats a m 0 c).after (2 : Fin 3) t = outAfter (crd a t) (tab1 a) (xblk a m c t) (conv a m c t) := rfl

/-- The activations' buffer holds its block when the body runs. -/
theorem before0_0 (c : Dev nD) (t : Fin (cfgA a).N) (d) : (dats a m 0 c).before (0 : Fin 3) t d = iblk a m c (0 : Fin 3) t :=
  ((dats a m 0 c).before_in_eq_fetched (0 : Fin 3) rfl (fun _ => rfl) (fun _ _ _ => rfl) (fun t => by rw [after0_0]; unfold Dat.blockOf iblk; rfl) t d).trans
    (by unfold Dat.fetched Dat.blockOf iblk; rfl)

/-- The weights' buffer holds its block when the body runs. -/
theorem before0_1 (c : Dev nD) (t : Fin (cfgA a).N) (d) : (dats a m 0 c).before (1 : Fin 3) t d = iblk a m c (1 : Fin 3) t :=
  ((dats a m 0 c).before_in_eq_fetched (1 : Fin 3) rfl (fun _ => rfl) (fun _ _ _ => rfl) (fun t => by rw [after0_1]; unfold Dat.blockOf iblk; rfl) t d).trans
    (by unfold Dat.fetched Dat.blockOf iblk; rfl)

/-- The body stores its output at every point. -/
theorem idle2 (t : Fin (cfgA a).N) : (cfgA a).idle (2 : Fin 3) ((cfgA a).grid.coords t) = false := by
  show (!(k0_cond2 (crd a t) (a.1.atD 1 ![0]) == 1#1) && !(k0_cond3 (crd a t) (a.1.atD 1 ![0]) == 1#1)) = false
  by_cases h : k0_cond2 (crd a t) (a.1.atD 1 ![0]) = 1#1
  · simp [h]
  · simp [(cond3_iff _ _).2 h]

/-- The body at a point, as the pipeline calls it. -/
abbrev bodyAt (t : Fin (cfgA a).N) : Prog (TpuEff nD τ sig (Elt F) Λ₀ .tc) PUnit :=
  cc0_moe_expert_down (crd a t) tb0 (Memref.isWhole_whole _) tb1 (Memref.isWhole_whole _)
    (spec0_0.stage ((cfgA a).slots t (0 : Fin 3))) (hstage0_0 (((cfgA a).slots t (0 : Fin 3)).cast nbuf0_0))
    (spec0_1.stage ((cfgA a).slots t (1 : Fin 3))) (hstage0_1 (((cfgA a).slots t (1 : Fin 3)).cast nbuf0_1))
    (spec0_2.stage ((cfgA a).slots t (2 : Fin 3))) (hstage0_2 (((cfgA a).slots t (2 : Fin 3)).cast nbuf0_2))
    (Memref.whole cc0_scratch0) (Memref.isWhole_whole _)

/-- The scratch buffer after the body is the converted block of the point. -/
theorem scratch_step (c : Dev nD) (t : Fin (cfgA a).N) (b : S7168x512.Idx → Elt F .bf16)
    (hb : Held a m c t.val b) :
    scratchAfter (crd a t) (tab0 a) (wblk a m c t) b = conv a m c t := by
  unfold scratchAfter
  by_cases hf : fresh (crd a t) (tab0 a)
  · rw [if_pos hf]
  · obtain ⟨t', h, e⟩ := wblk_prev a m c t hf
    rw [if_neg hf, hb t' h]
    exact congrArg k0_pay1 e.symm

/-- After a point its converted block is the one of the point before the next position. -/
theorem held_succ (c : Dev nD) (t : Fin (cfgA a).N) : Held a m c t.succ.val (conv a m c t) := by
  intro t' h
  have e : t' = t := Fin.ext (by rw [Fin.val_succ] at h; omega)
  rw [e]

/-- The staging memrefs at a point. -/
abbrev st0 (t : Fin (cfgA a).N) : Memref sig .tc .vmem S256x7168 .bf16 := spec0_0.stage ((cfgA a).slots t (0 : Fin 3))
abbrev st1 (t : Fin (cfgA a).N) : Memref sig .tc .vmem S1x7168x512 .f32 := spec0_1.stage ((cfgA a).slots t (1 : Fin 3))
abbrev st2 (t : Fin (cfgA a).N) : Memref sig .tc .vmem S256x512 .f32 := spec0_2.stage ((cfgA a).slots t (2 : Fin 3))

/-- The body at a point keeps the invariant and fills the output block. -/
theorem body_sound (c : Dev nD) (t : Fin (cfgA a).N) (O : sProp 𝕄) :
    iprop(Phi a m c t.castSucc ∗ O
        ∗ owns (c : Thread nD τ) (st0 a t) fullShare (xblk a m c t)
        ∗ owns (c : Thread nD τ) (st1 a t) fullShare (wblk a m c t)
        ∗ (∃ d, owns (c : Thread nD τ) (st2 a t) fullShare d))
      ⊢ wp frame (wpE (defs₀ (F := F)) Variants.none c none) Set.univ (bodyAt a t) fun _ =>
        iprop(Phi a m c t.succ ∗ O
          ∗ owns (c : Thread nD τ) (st0 a t) fullShare (xblk a m c t)
          ∗ owns (c : Thread nD τ) (st1 a t) fullShare (wblk a m c t)
          ∗ owns (c : Thread nD τ) (st2 a t) fullShare (outAfter (crd a t) (tab1 a) (xblk a m c t) (conv a m c t))) := by
  unfold Phi
  iintro ⟨⟨⟨%b, %hb, HS⟩, HT0, HT1⟩, Ho, H0, H1, H2⟩
  rw [Fin.val_castSucc] at hb
  have es := scratch_step a m c t b hb
  iapply (body_run c (crd a t) (st0 a t) _ (st1 a t) _ (st2 a t) _ (Memref.whole cc0_scratch0) _ (tab0 a) (tab1 a) (xblk a m c t) (wblk a m c t) b _)
  isplitl [H0]; · iexact H0
  isplitl [H1]; · iexact H1
  isplitl [HT0]; · iexact HT0
  isplitl [HT1]; · iexact HT1
  isplitl [H2]; · iexact H2
  isplitl [HS]; · iexact HS
  rw [es]
  iintro ⟨H0, H1, HT0, HT1, H2, HS⟩
  isplitl [HS HT0 HT1]
  · isplitl [HS]
    · iexists _; isplitr; swap
      · iexact HS
      · ipureintro; exact held_succ a m c t
    isplitl [HT0]
    · iexact HT0
    iexact HT1
  isplitl [Ho]; · iexact Ho
  isplitl [H0]; · iexact H0
  isplitl [H1]; · iexact H1
  iexact H2

/-- The body's obligation at a point, the windows' buffers before and after as the library states them. -/
theorem body_at (c : Dev nD) (t : Fin (cfgA a).N) :
    iprop((dats a m 0 c).Φ t.castSucc ∗ (dats a m 0 c).owesAt () t.castSucc
        ∗ (∃ d, owns (c : Thread nD τ) (st0 a t) fullShare ((dats a m 0 c).before (0 : Fin 3) t d))
        ∗ (∃ d, owns (c : Thread nD τ) (st1 a t) fullShare ((dats a m 0 c).before (1 : Fin 3) t d))
        ∗ (∃ d, owns (c : Thread nD τ) (st2 a t) fullShare ((dats a m 0 c).before (2 : Fin 3) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle2 a t]
  simp only [before0_0, before0_1, after0_0, after0_1, after0_2]
  rewrite [show (dats a m 0 c).Φ t.succ = Phi a m c t.succ from rfl, show (dats a m 0 c).Φ t.castSucc = Phi a m c t.castSucc from rfl,
    show (dats a m 0 c).owesAt () t.succ = (dats a m 0 c).owesAt () t.castSucc from rfl]
  refine BIBase.Entails.trans ?_ (body_sound a m c t ((dats a m 0 c).owesAt () t.castSucc))
  iintro ⟨HP, Ho, ⟨%d0, H0⟩, ⟨%d1, H1⟩, ⟨%d2, H2⟩⟩
  isplitl [HP]; · iexact HP
  isplitl [Ho]; · iexact Ho
  isplitl [H0]; · iexact H0
  isplitl [H1]; · iexact H1
  iexists _; iexact H2

/-- The library's body obligation. -/
theorem body_obligation (c : Dev nD) : BodyObligation (dats a m 0 c) (defs₀ (F := F)) Variants.none () Set.univ := fun t => by
  rw [bigSep_W0]
  exact body_at a m c t

/-- The launch element of the rounds library. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m 0 c).share w = fullShare := by unfold Dat.share; split <;> rfl

/-- The tables one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant holds before the first point. -/
theorem phi_in (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a m c 0 from rfl]
  unfold Phi
  iintro ⟨-, ⟨HT0, HT1⟩, ⟨%b, HS⟩⟩
  isplitl [HS]
  · iexists b; isplitr; swap
    · have e : (owns (c : Thread nD τ) (Memref.whole cc0_scratch0 : Memref sig .tc .vmem S7168x512 .bf16) fullShare b : sProp 𝕄) = _ := owns_whole _ _ _ _
      rw [e]; iexact HS
    · ipureintro; intro t h; exact absurd h (Nat.succ_ne_zero _)
  isplitl [HT0]
  · iexact HT0
  iexact HT1

/-- After the last point the invariant gives the scratch buffer back. -/
theorem phi_out (c : Dev nD) : (dats a m 0 c).Φ (Fin.last (cfgA a).N) ⊢ iprop(BI.emp ∗ Pipeline.scopedRest spec0 c) := by
  rw [scopedRest0_eq, show (dats a m 0 c).Φ (Fin.last (cfgA a).N) = Phi a m c (Fin.last _) from rfl]
  unfold Phi
  iintro ⟨⟨%b, -, HS⟩, -, -⟩
  isplitr; · iempintro
  have e : (owns (c : Thread nD τ) (Memref.whole cc0_scratch0 : Memref sig .tc .vmem S7168x512 .bf16) fullShare b : sProp 𝕄) = _ := owns_whole _ _ _ _
  iexists b
  rw [← e]
  iexact HS

/-- What a final state satisfies: the arrays at the computed contents, the tables as they were. -/
def Post : PUnit × MemSt nD τ sig (Elt F) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
/-- Every execution from a memory with those tables ends in such a state, the semaphores at zero. -/
theorem run (hp : ∀ (c : Dev nD) (j : Fin 2), m ((c : Thread nD τ).loc (pre0.ref j)) = a.1 j) :
    θ_run (defs (F := F)) (onTc (τ := τ) (main (F := F))) ⟨m, fun _ => 0, ρ⟩ (fun r => Post a m r ∧ r.2.sem = fun _ => 0) :=
  Pipeline.θ_run_region_noSem_pf_quiescent pcfgs (fun _ => a) (dats a m) () ((launch0 (F := F)).cellOf_inj fun _ => a) (0 : Fin 1)
    (launch0 (F := F)).win.to₀ (launch0 (F := F)).pre EP defs₀ Variants.none m ρ main
    (hbody := fun c => (body_obligation a m c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := F)).win.arr_inj c (launch0 (F := F)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_in a m)
    (hout := phi_out a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run with the output array at its computed contents and the arguments unchanged. -/
theorem run_frame (hp : ∀ (c : Dev nD) (j : Fin 2), m ((c : Thread nD τ).loc (pre0.ref j)) = a.1 j) :
    θ_run (defs (F := F)) (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v0) = (dats a m 0 c).arrAt (2 : Fin 3) (cfgA a).N)
      ∧ r.2.sem = fun _ => 0) :=
  (θ_run defs _ _).mono (fun _ h => ⟨fun c => ⟨⟨((h.1 c).1 (0 : Fin 3)).trans ((dats a m 0 c).arrAt_in (0 : Fin 3) rfl _),
    ((h.1 c).2 0).trans (hp c 0).symm, ((h.1 c).2 1).trans (hp c 1).symm,
    ((h.1 c).1 (1 : Fin 3)).trans ((dats a m 0 c).arrAt_in (1 : Fin 3) rfl _)⟩, (h.1 c).1 (2 : Fin 3)⟩, h.2⟩) (run a m ρ hp)

/-- Tables whose expert numbers are below eight place every weight block inside its array. -/
theorem ok_of_lt (pf : pre0.Contents (Elt F)) (h : ∀ x, (word pf x).toNat < 8) : ok0 pf := fun i => by
  have hi : (i 0).val < 4 := (i 0).isLt
  have hw := h (tile i)
  refine ⟨fun d => ?_, .inl rfl⟩
  rw [place1]
  fin_cases d
  · show ((word pf (tile i)).toNat + 1) * 1 ≤ 8
    omega
  · show (0 + 1) * 7168 ≤ 7168
    omega
  · show ((i 0).val + 1) * 512 ≤ 2048
    omega

/-- The tables a memory holds, as contents the pipeline admits. -/
def admOf (h : ∀ (c : Dev nD) (x : S136.Idx), (word (F := F) (fun j => m ((c : Thread nD τ).loc (pre0.ref j))) x).toNat < 8) :
    (pcfg0 (F := F)).Adm :=
  ⟨fun j => m (((0 : Dev nD) : Thread nD τ).loc (pre0.ref j)), ok_of_lt _ (h 0)⟩

/-- There is one device: the tables are the ones every device holds. -/
theorem admOf_eq (h : ∀ (c : Dev nD) (x : S136.Idx), (word (F := F) (fun j => m ((c : Thread nD τ).loc (pre0.ref j))) x).toNat < 8)
    (c : Dev nD) (j : Fin 2) : m ((c : Thread nD τ).loc (pre0.ref j)) = (admOf m h).1 j := by
  obtain rfl : c = 0 := Subsingleton.elim _ _
  rfl

end Cert.ExpertDownIdeal.Walk
-- ==== Proof.ExpertMath.lean ====
/- What the two matmuls of the experts and their references share: the gate of a row, the sum over the experts of which one
   alone counts, and the range of the expert numbers. -/
module

public import Idealize.ShloMosaic.Lib.Pointwise
public import Idealize.ShloMosaic.Lib.ReduceAll
public import Idealize.ShloMosaic.Lib.WordCmp
public import Idealize.ShloMosaic.PureOps.Ideal

@[expose] public section

noncomputable section

namespace Cert.Proof.ExpertMath

open Idealize.ShloMosaic

/-- Tile `i` is in use: its number is below the number of tiles. -/
abbrev inUse (n : BitVec 32) (i : ℕ) : Prop := (BitVec.ofNat 32 i).slt n = true

/-- The gate of expert `e` on a tile whose expert number is `w`: one for that expert on a tile in use, else zero. -/
def gate (n w : BitVec 32) (i : ℕ) (e : ℕ) : EReal :=
  Scalar.select (IntOp.cmpi .slt (BitVec.ofNat 32 i) n)
    (((IntOp.cmpi .eq w (BitVec.ofNat 32 e)).toNat : ℝ) : EReal) (Ideal.ofBits .f32 0x00000000#32)

/-- A gate is one for the tile's expert when the tile is in use, and zero otherwise. -/
theorem gate_eq (n w : BitVec 32) (i : ℕ) (e p : Fin 8) (hw : w = BitVec.ofNat 32 p) :
    gate n w i e = if inUse n i ∧ e = p then 1 else 0 := by
  have hc : IntOp.cmpi .eq w (BitVec.ofNat 32 e) = if e = p then 1#1 else 0#1 := by
    subst hw
    revert e p
    decide
  unfold gate
  rw [hc, Ideal.ofBits_zero_f32]
  unfold inUse
  show Scalar.select (BitVec.ofBool ((BitVec.ofNat 32 i).slt n)) _ _ = _
  cases (BitVec.ofNat 32 i).slt n
  · simp [Scalar.select]
  · by_cases h : e = p <;> simp [Scalar.select, h]

/-- A sum over the experts of gate times value is the tile's expert's value on a tile in use, and zero otherwise. -/
theorem gated_sum (n w : BitVec 32) (i : ℕ) (p : Fin 8) (hw : w = BitVec.ofNat 32 p) (M : Fin 8 → EReal) :
    Ideal.ofBits .f32 0x00000000#32 + gate n w i 0 * M 0 + gate n w i 1 * M 1 + gate n w i 2 * M 2 + gate n w i 3 * M 3
        + gate n w i 4 * M 4 + gate n w i 5 * M 5 + gate n w i 6 * M 6 + gate n w i 7 * M 7
      = open Classical in if inUse n i then M p else 0 := by
  have e : ∀ e : Fin 8, gate n w i e = if inUse n i ∧ e = p then 1 else 0 := fun e => gate_eq n w i e p hw
  have e' : ∑ e : Fin 8, gate n w i e * M e = if inUse n i then M p else 0 := by
    by_cases h : inUse n i
    · rw [if_pos h, Finset.sum_eq_single p]
      · rw [e, if_pos ⟨h, rfl⟩, one_mul]
      · intro q _ hq
        rw [e, if_neg fun x => hq x.2, zero_mul]
      · exact fun hp => absurd (Finset.mem_univ p) hp
    · simp [e, h]
  rw [Ideal.ofBits_zero_f32, zero_add]
  refine (Fin.sum_univ_eight (fun e : Fin 8 => gate n w i e * M e)).symm.trans (e'.trans ?_)
  congr

/-- A word that is at least zero and below eight, as a signed number, is an expert number. -/
theorem word_lt {w : BitVec 32} (h0 : IntOp.cmpi .sge w 0#32 = 1#1) (h8 : IntOp.cmpi .slt w 8#32 = 1#1) : w.toNat < 8 := by
  have e0 : (0#32).sle w = true := by
    revert h0; show BitVec.ofBool ((0#32).sle w) = 1#1 → _
    cases (0#32).sle w <;> decide
  have e8 : w.slt 8#32 = true := by
    revert h8; show BitVec.ofBool (w.slt 8#32) = 1#1 → _
    cases w.slt 8#32 <;> decide
  rw [BitVec.sle_iff_toInt_le] at e0
  rw [BitVec.slt_iff_toInt_lt] at e8
  have := BitVec.toInt_eq_toNat_cond w
  have := w.isLt
  simp at e0 e8
  omega

end Cert.Proof.ExpertMath

end
-- ==== Proof.DownClaim.lean ====
/- The down projection of the experts: the result array and the reference's result are one function of the arguments, when
   every expert number is one of the eight. -/
module

public import proofs.«01_k».proof.Defs
public import proofs.«01_k».proof.Proof.Gen.Pre_tables_down
public import proofs.«01_k».proof.Proof.DownFrame
public import proofs.«01_k».proof.Proof.DownFrameF
public import proofs.«01_k».proof.Proof.ExpertMath
public import Idealize.ShloMosaic.Lib.Pipeline.ValueKit

@[expose] public section

set_option maxRecDepth 16384

noncomputable section

namespace Cert.Proof.DownClaim

open Idealize.ShloMosaic Idealize.ShloMosaic.TcCoe Idealize.SL.Sem
open Idealize.ShloMosaic.Pipeline (Dat)
open Cert.Proof.ExpertMath

section Reference

open Cert.ExpertDownRefIdeal Cert.ExpertDownRefIdeal.Gen Cert.ExpertDownRefIdeal.Read

/-- The product of row `r` with column `j` of expert `e`'s weights. -/
def dotRow (x0 : FVec Ideal S34816x7168 .bf16) (x3 : FVec Ideal S8x7168x2048 .f32) (r : Fin 34816) (j : Fin 2048) (e : Fin 8) : EReal :=
  ∑ k : Fin 7168, x0 (ix2 r k) * x3 (ix3 e k j)

/-- The reference's gates. -/
theorem gate_read (x1 : IVec S136 32) (x2 : IVec S1 32) (r : Fin 34816) (e : Fin 8) :
    val_main_v11 (F := Ideal) x1 x2 (ix2 r e) = gate (x2 (ix1 0)) (x1 (ix1 ⟨r / 256, by omega⟩)) (r / 256) e := by
  pointwise [val_main_v11, val_main_call1_v1, val_main_v7, val_main_v6, val_main_v5, val_main_v4, val_main_v3, val_main_v2,
    val_main_v1, val_main_v10, val_main_call0_v4, val_main_call0_v3, val_main_call0_v2, val_main_call0_v1, val_main_call0_v0,
    val_main_v9, val_main_v8, val_main_call1_v2, val_main_call1_v0, val_main_cst]
  rfl

/-- The reference's result: zero plus, expert after expert, the gate times the product. -/
theorem ref_read (x0 : FVec Ideal S34816x7168 .bf16) (x1 : IVec S136 32) (x2 : IVec S1 32)
    (x3 : FVec Ideal S8x7168x2048 .f32) (r : Fin 34816) (j : Fin 2048) :
    val_main_v68 (F := Ideal) x0 x1 x2 x3 (ix2 r j)
      = Ideal.ofBits .f32 0x00000000#32 + val_main_v11 (F := Ideal) x1 x2 (ix2 r 0) * dotRow x0 x3 r j 0
        + val_main_v11 (F := Ideal) x1 x2 (ix2 r 1) * dotRow x0 x3 r j 1 + val_main_v11 (F := Ideal) x1 x2 (ix2 r 2) * dotRow x0 x3 r j 2
        + val_main_v11 (F := Ideal) x1 x2 (ix2 r 3) * dotRow x0 x3 r j 3 + val_main_v11 (F := Ideal) x1 x2 (ix2 r 4) * dotRow x0 x3 r j 4
        + val_main_v11 (F := Ideal) x1 x2 (ix2 r 5) * dotRow x0 x3 r j 5 + val_main_v11 (F := Ideal) x1 x2 (ix2 r 6) * dotRow x0 x3 r j 6
        + val_main_v11 (F := Ideal) x1 x2 (ix2 r 7) * dotRow x0 x3 r j 7 := by
  unfold dotRow
  pointwise [val_main_v68, val_main_v67, val_main_v66, val_main_v65, val_main_v64, val_main_v63, val_main_v62, val_main_v61,
    val_main_v60, val_main_v59, val_main_v58, val_main_v57, val_main_v56, val_main_v55, val_main_v54, val_main_v53,
    val_main_v52, val_main_v51, val_main_v50, val_main_v49, val_main_v48, val_main_v47, val_main_v46, val_main_v45,
    val_main_v44, val_main_v43, val_main_v42, val_main_v41, val_main_v40, val_main_v39, val_main_v38, val_main_v37,
    val_main_v36, val_main_v35, val_main_v34, val_main_v33, val_main_v32, val_main_v31, val_main_v30, val_main_v29,
    val_main_v28, val_main_v27, val_main_v26, val_main_v25, val_main_v24, val_main_v23, val_main_v22, val_main_v21,
    val_main_v20, val_main_v19, val_main_v18, val_main_v17, val_main_v16, val_main_v15, val_main_v14, val_main_v13,
    val_main_v12, val_main_cst_0, val_main_v0]

/-- The expert of a tile. -/
def expert (x1 : IVec S136 32) (i : Fin 136) : Fin 8 := ⟨(x1 (ix1 i)).toNat % 8, Nat.mod_lt _ (by decide)⟩

/-- The result array as one function of the arguments: on a tile in use the row times the tile's expert's weights, else zero. -/
def D (x0 : FVec Ideal S34816x7168 .bf16) (x1 : IVec S136 32) (x2 : IVec S1 32) (x3 : FVec Ideal S8x7168x2048 .f32)
    (o : S34816x2048.Idx) : EReal :=
  open Classical in if inUse (x2 (ix1 0)) ((o 0).val / 256) then
    dotRow x0 x3 (o 0) (o 1) (expert x1 ⟨(o 0).val / 256, by have := (o 0).isLt; simp at this; omega⟩) else 0

/-- The reference's result is `D` when every expert number is below eight. -/
theorem ref_eq (x0 : FVec Ideal S34816x7168 .bf16) (x1 : IVec S136 32) (x2 : IVec S1 32)
    (x3 : FVec Ideal S8x7168x2048 .f32) (h : ∀ i, (x1 i).toNat < 8) : val_main_v68 (F := Ideal) x0 x1 x2 x3 = D x0 x1 x2 x3 := by
  funext o
  idx_vars o
  rw [ref_read]
  simp only [gate_read]
  refine (gated_sum (x2 (ix1 0)) (x1 (ix1 ⟨o0 / 256, by omega⟩)) (o0 / 256) (expert x1 ⟨o0 / 256, by omega⟩) ?_ (dotRow x0 x3 o0 o1)).trans rfl
  refine BitVec.eq_of_toNat_eq ?_
  have := h (ix1 ⟨o0 / 256, by omega⟩)
  rw [BitVec.toNat_ofNat]
  show (x1 (ix1 ⟨o0 / 256, by omega⟩)).toNat = ((x1 (ix1 ⟨o0 / 256, by omega⟩)).toNat % 8) % 2 ^ 32
  omega

end Reference

section Kernel

open Cert.ExpertDownIdeal Cert.ExpertDownIdeal.Gen Cert.ExpertDownIdeal.Walk

/-- What a point stores when it multiplies: its rows times its weight block. -/
theorem pay_read (x0 : FVec Ideal S256x7168 .bf16) (w : FVec Ideal S1x7168x512 .f32) (r : Fin 256) (j : Fin 512) :
    k0_pay2 (F := Ideal) x0 (k0_pay1 (F := Ideal) w) (ix2 r j) = ∑ k : Fin 7168, x0 (ix2 r k) * w (ix3 0 k j) := by
  pointwise [k0_pay2, k0_pay1]

/-- What a point stores when it does not: zero. -/
theorem zero_read (y : S256x512.Idx) : k0_pay3 (F := Ideal) y = 0 := Ideal.ofBits_zero_f32

/-- The body's test is that the tile is in use. -/
theorem used_iff (i : grid0.Coords) (T : IVec S1 32) : used (F := Ideal) i T ↔ inUse (T (ix1 0)) (i 1).val := by
  have e : wordUsed (F := Ideal) T = T (ix1 0) := congrArg T (funext fun d => Fin.ext (by fin_cases d; rfl))
  unfold used inUse k0_cond2
  rw [e]
  simp only [Scalar.cmpi, Scalar.extui, IntOp.cmpi]
  cases (BitVec.ofNat 32 (i 1).val).slt (T (ix1 0)) <;> decide

variable (a : (pcfg0 (F := Ideal)).Adm) (m : (ℓ : Loc nD τ sig) → Buf (Elt Ideal) ℓ)

/-- The place of the activations' block: the tile's rows, all columns. -/
theorem place0 : ∀ i : grid0.Coords, cc0_transform_0 i = ![(i 1).val, 0] := by decide +kernel
/-- The place of the output block: the tile's rows, the point's columns. -/
theorem place2 : ∀ i : grid0.Coords, cc0_transform_2 i = ![(i 1).val, (i 0).val] := by decide +kernel

/-- An entry of the activations' block. -/
theorem xblk_read (c : Dev nD) (t : Fin (cfgA a).N) (r : Fin 256) (k : Fin 7168) (hr : (crd a t 1).val * 256 + r.val < 34816) :
    xblk a m c t (ix2 r k) = m ((c : Thread nD τ).loc main_arg0) (ix2 ⟨(crd a t 1).val * 256 + r, hr⟩ k) := by
  refine congrArg (m ((c : Thread nD τ).loc main_arg0)) (funext fun d => Fin.ext ?_)
  show cc0_transform_0 (crd a t) d * S256x7168.size d + 1 * (ix2 r k d).val = _
  rw [place0]
  fin_cases d
  · show (crd a t 1).val * 256 + 1 * r.val = (crd a t 1).val * 256 + r.val
    omega
  · show 0 * 7168 + 1 * k.val = k.val
    omega

/-- An entry of the weights' block. -/
theorem wblk_read (c : Dev nD) (t : Fin (cfgA a).N) (k : Fin 7168) (j : Fin 512) (e : Fin 8) (he : e.val = (word a.1 (tile (crd a t))).toNat)
    (hj : (crd a t 0).val * 512 + j.val < 2048) :
    wblk a m c t (ix3 0 k j) = m ((c : Thread nD τ).loc main_arg3) (ix3 e k ⟨(crd a t 0).val * 512 + j, hj⟩) := by
  refine congrArg (m ((c : Thread nD τ).loc main_arg3)) (funext fun d => Fin.ext ?_)
  show cc0_transform_1 k0_off1_inb numel1_S1 a.1 (crd a t) d * S1x7168x512.size d + 1 * (ix3 (n0 := 1) 0 k j d).val = _
  rw [place1]
  fin_cases d
  · show (word a.1 (tile (crd a t))).toNat * 1 + 1 * 0 = e.val
    omega
  · show 0 * 7168 + 1 * k.val = k.val
    omega
  · show (crd a t 0).val * 512 + 1 * j.val = (crd a t 0).val * 512 + j.val
    omega

/-- What point `t` stores is `D` of the arguments at the place of its block. -/
theorem point (c : Dev nD) (h : ∀ x, (word a.1 x).toNat < 8) (t : Fin (cfgA a).N) (y : S256x512.Idx) :
    outAfter (crd a t) (tab1 a) (xblk a m c t) (conv a m c t) y
      = D (m ((c : Thread nD τ).loc main_arg0)) (tab0 a) (tab1 a) (m ((c : Thread nD τ).loc main_arg3))
          ((((cfgA a).win (2 : Fin 3)).blk t).view.emb y) := by
  idx_vars y
  have h0 : (crd a t 0).val < 4 := (crd a t 0).isLt
  have h1 : (crd a t 1).val < 136 := (crd a t 1).isLt
  have eo : (((cfgA a).win (2 : Fin 3)).blk t).view.emb (ix2 y0 y1)
      = ix2 (⟨(crd a t 1).val * 256 + y0, by omega⟩ : Fin 34816) (⟨(crd a t 0).val * 512 + y1, by omega⟩ : Fin 2048) := by
    refine funext fun d => Fin.ext ?_
    show cc0_transform_2 (crd a t) d * S256x512.size d + 1 * (ix2 y0 y1 d).val = _
    rw [place2]
    fin_cases d
    · show (crd a t 1).val * 256 + 1 * y0.val = (crd a t 1).val * 256 + y0.val
      omega
    · show (crd a t 0).val * 512 + 1 * y1.val = (crd a t 0).val * 512 + y1.val
      omega
  rw [eo]
  have ed : ((crd a t 1).val * 256 + y0.val) / 256 = (crd a t 1).val := by omega
  unfold outAfter D
  by_cases hu : used (crd a t) (tab1 a)
  · have hn := (used_iff _ _).1 hu
    rw [← ed] at hn
    refine (congrFun (if_pos hu) _).trans (Eq.trans ?_ (if_pos hn).symm)
    refine (pay_read _ _ _ _).trans (Finset.sum_congr rfl fun k _ => Ideal.mul_congr ?_ ?_)
    · exact xblk_read a m c t y0 k _
    · refine wblk_read a m c t k y1 _ ?_ _
      have hw := h (tile (crd a t))
      have et : tile (crd a t) = ix1 ⟨((crd a t 1).val * 256 + y0.val) / 256, by omega⟩ := by
        refine funext fun d => Fin.ext ?_
        fin_cases d
        exact ed.symm
      rw [et] at hw ⊢
      exact Nat.mod_eq_of_lt hw
  · have hn : ¬ inUse (tab1 a (ix1 0)) (((crd a t 1).val * 256 + y0.val) / 256) := by
      rw [ed]; exact fun x => hu ((used_iff _ _).2 x)
    refine (congrFun (if_neg hu) _).trans (Eq.trans ?_ (if_neg hn).symm)
    exact zero_read _

/-- The contents of the tables that are zero everywhere. -/
def zeroTables : (pcfg0 (F := Ideal)).Adm :=
  ⟨fun j => match j with | ⟨0, _⟩ => (fun _ => 0#32 : S136.Idx → BitVec 32) | ⟨1, _⟩ => (fun _ => 0#32 : S1.Idx → BitVec 32), ok_of_lt _ fun _ => (by decide : (0#32).toNat < 8)⟩

/-- The output blocks cover the result array, whatever the tables hold. -/
theorem covers : ((cfgA a).win (2 : Fin 3)).Covers :=
  (by decide +kernel : ((cfgA zeroTables).win (2 : Fin 3)).Covers)

/-- The result array after the run is `D` of the arguments. -/
theorem final (c : Dev nD) (h : ∀ x, (word a.1 x).toNat < 8) :
    (dats a m 0 c).arrAt (2 : Fin 3) (cfgA a).N
      = D (m ((c : Thread nD τ).loc main_arg0)) (tab0 a) (tab1 a) (m ((c : Thread nD τ).loc main_arg3)) := by
  refine (dats a m 0 c).arrAt_eq_of_covers (2 : Fin 3) _ (covers a) fun t _ y => ?_
  exact point a m c h t y

end Kernel

/-- The precondition, read at an entry of the table: it is below eight. -/
theorem lt_of_pre {F : FTy → Type} [FloatOps F] (x0 : FVec F Cert.Pre_tables_down.S34816x7168 .bf16)
    (x1 : IVec Cert.Pre_tables_down.S136 32) (x2 : IVec Cert.Pre_tables_down.S1 32)
    (x3 : FVec F Cert.Pre_tables_down.S8x7168x2048 .f32)
    (h : Cert.Pre_tables_down.fn (F := F) x0 x1 x2 x3 = fun _ => 1#1) (i : Cert.Pre_tables_down.S136.Idx) : (x1 i).toNat < 8 := by
  have h1 := congrFun h ix0
  unfold Cert.Pre_tables_down.fn at h1
  haveI : Subsingleton Cert.Pre_tables_down.S_.Idx := ⟨fun a b => funext fun k => k.elim0⟩
  have hand : ∀ p q : BitVec 1, IntOp.andi p q = 1#1 → p = 1#1 ∧ q = 1#1 := by decide
  obtain ⟨ha, hb⟩ := hand _ _ h1
  exact word_lt (Host.reduce_andi_all _ _ _ _ _ ha i) (Host.reduce_andi_all _ _ _ _ _ hb i)

/-- `Cert.quiescent_ExpertDownRefIdeal`: the reference's run read at its arguments; it declares no semaphore. -/
theorem frame_ref : Cert.quiescent_ExpertDownRefIdeal := fun m g _ =>
  (θ_run Cert.ExpertDownRefIdeal.defs _ _).mono (fun r h => ⟨fun c => (h c).2, sem_eq_zero_of_no_sems (by decide) r.2⟩)
    (Cert.ExpertDownRefIdeal.Value.run m g)

/-- `Cert.quiescent_ExpertDown`: the kernel as compiled leaves its arguments as they were. -/
theorem frame : Cert.quiescent_ExpertDown := fun m g hpre =>
  have h : ∀ c x, _ := fun c x => lt_of_pre _ _ _ _ (hpre c) x
  (θ_run _ _ _).mono (fun _ r => ⟨fun c => (r.1 c).1, r.2⟩)
    (Cert.ExpertDown.Walk.run_frame (Cert.ExpertDown.Walk.admOf m h) m g (Cert.ExpertDown.Walk.admOf_eq m h))

/-- `Cert.quiescent_ExpertDownIdeal`: so does the idealized kernel. -/
theorem frame_ideal : Cert.quiescent_ExpertDownIdeal := fun m g hpre =>
  have h : ∀ c x, _ := fun c x => lt_of_pre _ _ _ _ (hpre c) x
  (θ_run _ _ _).mono (fun _ r => ⟨fun c => (r.1 c).1, r.2⟩)
    (Cert.ExpertDownIdeal.Walk.run_frame (Cert.ExpertDownIdeal.Walk.admOf m h) m g (Cert.ExpertDownIdeal.Walk.admOf_eq m h))

/-- The algebraic claim: the kernel's result array and the reference's result are one function of equal arguments. -/
theorem agree : Cert.algebraic_ExpertDownIdeal_ExpertDownRefIdeal := by
  intro m g m' g' hpre hargs
  have h : ∀ (c : Dev Cert.ExpertDownIdeal.nD) x, (Cert.ExpertDownIdeal.Walk.word (F := Ideal)
      (fun j => m ((c : Thread Cert.ExpertDownIdeal.nD Cert.ExpertDownIdeal.τ).loc (Cert.ExpertDownIdeal.pre0.ref j))) x).toNat < 8 :=
    fun c x => lt_of_pre _ _ _ _ (hpre c) x
  refine ⟨fun c => (Cert.ExpertDownIdeal.Walk.dats (Cert.ExpertDownIdeal.Walk.admOf m h) m 0 c).arrAt (2 : Fin 3)
    (Cert.ExpertDownIdeal.Walk.cfgA (Cert.ExpertDownIdeal.Walk.admOf m h)).N, ?_, ?_⟩
  · refine (θ_run _ _ _).mono (fun _ r c => ⟨(r.1 c).2, (r.1 c).1⟩)
      (Cert.ExpertDownIdeal.Walk.run_frame (Cert.ExpertDownIdeal.Walk.admOf m h) m g (Cert.ExpertDownIdeal.Walk.admOf_eq m h))
  refine (θ_run _ _ _).mono (fun r hr c => ?_) (Cert.ExpertDownRefIdeal.Value.run m' g')
  obtain ⟨h0, h1, h2, h3, h4⟩ := hr c
  refine ⟨?_, h1, h2, h3, h4⟩
  obtain ⟨a0, a1, a2, a3⟩ := hargs c
  rw [h0, Cert.ExpertDownRefIdeal.Read.val_main_v68_eq, a0, a1, a2, a3]
  refine (ref_eq _ _ _ _ (fun x => h c x)).trans (Eq.trans ?_ (final (Cert.ExpertDownIdeal.Walk.admOf m h) m c (h 0)).symm)
  obtain rfl : c = 0 := Subsingleton.elim _ _
  rfl

end Cert.Proof.DownClaim

end
-- ==== Proof.UpRun.lean ====
module

public import proofs.«01_k».proof.Proof.Gen.ExpertUpIdeal.Launch
public import proofs.«01_k».proof.Proof.Gen.ExpertUpIdeal.Skeleton
public import proofs.«01_k».proof.Proof.Gen.ExpertUpRefIdeal.Run
public import proofs.«01_k».proof.Proof.Gen.ExpertUpRefIdeal.Read
public import Idealize.ShloMosaic.Lib.Exec
public import Idealize.ShloMosaic.Lib.Tactic
public import Idealize.ShloMosaic.Lib.VecWindow
public import Idealize.ShloMosaic.Lib.Pipeline.TableIdle
public import Idealize.ShloMosaic.Lib.Pipeline.Quiescent
public import Idealize.ShloMosaic.Lib.Pipeline.FrameBody
public import Idealize.ShloMosaic.Lib.Quiescent

/-! The run of the up projection of the experts: at every grid point the body leaves the two converted weight blocks in the
scratch buffers and the gated product in the output buffer, for whatever the two prefetched tables hold. -/

@[expose] public section

noncomputable section

namespace Cert.ExpertUpIdeal.Walk

open Cert.ExpertUpIdeal Cert.ExpertUpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- The table of expert numbers, as the body is handed it. -/
abbrev tb0 : Memref sig .tc .smem S136 .i32 := Memref.whole main_arg1

/-- The table that holds the number of tiles in use. -/
abbrev tb1 : Memref sig .tc .smem S1 .i32 := Memref.whole main_arg2

/-- The expert number of the tile the point works on, as the body loads it. -/
abbrev wordHere (i : grid0.Coords) (T0 : S136.Idx → Elt F .i32) : BitVec 32 :=
  View.readAt (Elt F) (tb0).view
    (Rect.unit (s := S136) (k0_off1 i) S1.size (k0_off1_inb i)).toLoadRect T0 (Shape.Idx.first (numel1_S1.symm ▸ Nat.one_pos))

/-- The expert number of the tile before it, as the body loads it. -/
abbrev wordPrev (i : grid0.Coords) (T0 : S136.Idx → Elt F .i32) : BitVec 32 :=
  View.readAt (Elt F) (tb0).view
    (Rect.unit (s := S136) (k0_off2 i) S1.size (k0_off2_inb i)).toLoadRect T0 (Shape.Idx.first (numel1_S1.symm ▸ Nat.one_pos))

/-- The number of tiles in use, as the body loads it. -/
abbrev wordUsed (T1 : S1.Idx → Elt F .i32) : BitVec 32 :=
  View.readAt (Elt F) (tb1).view
    (Rect.unit (s := S1) ![0] S1.size inb_S1_S1_0).toLoadRect T1 (Shape.Idx.first (numel1_S1.symm ▸ Nat.one_pos))

/-- The test under which the body converts a new weight block: the first tile of a column, or another expert than the tile before. -/
abbrev fresh (i : grid0.Coords) (T0 : S136.Idx → Elt F .i32) : Prop :=
  Scalar.cmpi .ne (Scalar.extui (Scalar.ori (Scalar.cmpi .eq (BitVec.ofNat 32 (i 1).val) 0#32)
    (Scalar.cmpi .ne (wordHere i T0) (wordPrev i T0)))) 0#32 = 1#1

/-- The test under which the body multiplies: the tile is in use. -/
abbrev used (i : grid0.Coords) (T1 : S1.Idx → Elt F .i32) : Prop := k0_cond2 i (wordUsed T1) = 1#1

/-- The two tests on the number of tiles exclude each other, and one of them holds. -/
theorem cond3_iff (i : grid0.Coords) (v : BitVec 32) : k0_cond3 i v = 1#1 ↔ ¬ k0_cond2 i v = 1#1 := by
  unfold k0_cond3 k0_cond2
  simp only [Scalar.cmpi, Scalar.extui, IntOp.cmpi, BitVec.sle_eq_not_slt]
  cases BitVec.slt (BitVec.ofNat 32 (i 1).val) v <;> decide

/-- What the gate's scratch buffer holds after the body. -/
def gateAfter (i : grid0.Coords) (T0 : S136.Idx → Elt F .i32) (x1 : S1x2048x512.Idx → Elt F .f32)
    (a : S2048x512.Idx → Elt F .bf16) : S2048x512.Idx → Elt F .bf16 :=
  open Classical in if fresh i T0 then k0_pay1 x1 else a

/-- What the up projection's scratch buffer holds after the body. -/
def upAfter (i : grid0.Coords) (T0 : S136.Idx → Elt F .i32) (x2 : S1x2048x512.Idx → Elt F .f32)
    (b : S2048x512.Idx → Elt F .bf16) : S2048x512.Idx → Elt F .bf16 :=
  open Classical in if fresh i T0 then k0_pay2 x2 else b

/-- What the output buffer holds after the body, from what the scratch buffers then hold. -/
def outAfter (i : grid0.Coords) (T1 : S1.Idx → Elt F .i32) (x0 : S256x2048.Idx → Elt F .bf16)
    (g u : S2048x512.Idx → Elt F .bf16) : S256x512.Idx → Elt F .bf16 :=
  open Classical in if used i T1 then k0_pay3 x0 g u else k0_pay4

/-- The gated product is one function of its three blocks. -/
theorem gated_congr {x x' : S256x2048.Idx → Elt F .bf16} {g g' u u' : S2048x512.Idx → Elt F .bf16} (hx : x = x') (hg : g = g')
    (hu : u = u') : k0_pay3 x g u = k0_pay3 x' g' u' := by
  rw [hx, hg, hu]

set_option maxHeartbeats 4000000 in
/-- The body at a point: it reads the activations' block, the two weight blocks and the tables, leaves them, and leaves the
scratch buffers and the output buffer as `gateAfter`, `upAfter` and `outAfter` state. -/
theorem body_run (c : Dev nD) (i : grid0.Coords) (arg4 : Memref sig .tc .vmem S256x2048 .bf16) (harg4 : arg4.IsWhole)
    (arg5 : Memref sig .tc .vmem S1x2048x512 .f32) (harg5 : arg5.IsWhole) (arg6 : Memref sig .tc .vmem S1x2048x512 .f32)
    (harg6 : arg6.IsWhole) (arg7 : Memref sig .tc .vmem S256x512 .bf16) (harg7 : arg7.IsWhole)
    (arg8 : Memref sig .tc .vmem S2048x512 .bf16) (harg8 : arg8.IsWhole)
    (arg9 : Memref sig .tc .vmem S2048x512 .bf16) (harg9 : arg9.IsWhole)
    (T0 : S136.Idx → Elt F .i32) (T1 : S1.Idx → Elt F .i32) (x0 : S256x2048.Idx → Elt F .bf16)
    (x1 x2 : S1x2048x512.Idx → Elt F .f32) (a b : S2048x512.Idx → Elt F .bf16) (K : PUnit → sProp 𝕄) :
    iprop(owns (c : Thread nD τ) arg4 fullShare x0 ∗ owns (c : Thread nD τ) arg5 fullShare x1 ∗ owns (c : Thread nD τ) arg6 fullShare x2
        ∗ (tb0.view.loc (c : Thread nD τ) ↦{fullShare.right} T0) ∗ (tb1.view.loc (c : Thread nD τ) ↦{fullShare.right} T1)
        ∗ (∃ d, owns (c : Thread nD τ) arg7 fullShare d) ∗ owns (c : Thread nD τ) arg8 fullShare a ∗ owns (c : Thread nD τ) arg9 fullShare b
        ∗ (iprop(owns (c : Thread nD τ) arg4 fullShare x0 ∗ owns (c : Thread nD τ) arg5 fullShare x1 ∗ owns (c : Thread nD τ) arg6 fullShare x2
            ∗ (tb0.view.loc (c : Thread nD τ) ↦{fullShare.right} T0) ∗ (tb1.view.loc (c : Thread nD τ) ↦{fullShare.right} T1)
            ∗ owns (c : Thread nD τ) arg7 fullShare (outAfter i T1 x0 (gateAfter i T0 x1 a) (upAfter i T0 x2 b))
            ∗ owns (c : Thread nD τ) arg8 fullShare (gateAfter i T0 x1 a) ∗ owns (c : Thread nD τ) arg9 fullShare (upAfter i T0 x2 b)) -∗ K ⟨⟩))
      ⊢ wp frame (wpE (defs₀ (F := F)) Variants.none c none) Set.univ
          (cc0_moe_expert_up i tb0 (Memref.isWhole_whole _) tb1 (Memref.isWhole_whole _)
            arg4 harg4 arg5 harg5 arg6 harg6 arg7 harg7 arg8 harg8 arg9 harg9) K := by
  have e4 : (owns (c : Thread nD τ) arg4 fullShare x0 : sProp 𝕄) = _ := owns_eq_rep _ _ _ _
  have e5 : (owns (c : Thread nD τ) arg5 fullShare x1 : sProp 𝕄) = _ := owns_eq_rep _ _ _ _
  have e6 : (owns (c : Thread nD τ) arg6 fullShare x2 : sProp 𝕄) = _ := owns_eq_rep _ _ _ _
  have e8 : (owns (c : Thread nD τ) arg8 fullShare a : sProp 𝕄) = _ := owns_eq_rep _ _ _ _
  have e9 : (owns (c : Thread nD τ) arg9 fullShare b : sProp 𝕄) = _ := owns_eq_rep _ _ _ _
  rw [e4, e5, e6, e8, e9]
  rw [cc0_moe_expert_up_eq_skeleton]; unfold cc0_moe_expert_up_skel
  unfold owns
  iintro ⟨H0, H1, H2, HT0, HT1, ⟨%d2, %f2, -, HO⟩, HG, HU, Hk⟩
  have hT0 : tb0.IsWhole := Memref.isWhole_whole _
  have hT1 : tb1.IsWhole := Memref.isWhole_whole _
  by_cases hc0 : fresh i T0 <;> by_cases hc2 : used i T1
  · have hc3 : ¬ k0_cond3 i (wordUsed T1) = 1#1 := fun h => (cond3_iff i _).1 h hc2
    sl_exec (disch := first | (guard_target = Scalar.cmpi _ _ _ = _; exact hc0) | (guard_target = k0_cond2 _ _ = _; exact hc2) | (guard_target = ¬(k0_cond3 _ _ = _); exact hc3))
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; swap
      · iexact HO
      · ipureintro
        refine (View.read_writes_full _ _ _ _ _).trans ?_
        unfold outAfter gateAfter upAfter
        rw [if_pos hc2, if_pos hc0, if_pos hc0]
        exact gated_congr (View.readAt_rep_full _ _ _) ((View.readCov_full _ _ _ _ _).trans (congrArg k0_pay1 (View.readAt_rep_full _ _ _)))
          ((View.readCov_full _ _ _ _ _).trans (congrArg k0_pay2 (View.readAt_rep_full _ _ _)))
    isplitl [HG]
    · iexists _; isplitr; swap
      · iexact HG
      · ipureintro
        unfold gateAfter
        rw [if_pos hc0]
        exact (View.read_writes_full _ _ _ _ _).trans (congrArg k0_pay1 (View.readAt_rep_full _ _ _))
    · iexists _; isplitr; swap
      · iexact HU
      · ipureintro
        unfold upAfter
        rw [if_pos hc0]
        exact (View.read_writes_full _ _ _ _ _).trans (congrArg k0_pay2 (View.readAt_rep_full _ _ _))
  · have hc3 : k0_cond3 i (wordUsed T1) = 1#1 := (cond3_iff i _).2 hc2
    sl_exec (disch := first | (guard_target = Scalar.cmpi _ _ _ = _; exact hc0) | (guard_target = ¬(k0_cond2 _ _ = _); exact hc2) | (guard_target = k0_cond3 _ _ = _; exact hc3))
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; swap
      · iexact HO
      · ipureintro
        refine (View.read_writes_full _ _ _ _ _).trans ?_
        unfold outAfter
        rw [if_neg hc2]
    isplitl [HG]
    · iexists _; isplitr; swap
      · iexact HG
      · ipureintro
        unfold gateAfter
        rw [if_pos hc0]
        exact (View.read_writes_full _ _ _ _ _).trans (congrArg k0_pay1 (View.readAt_rep_full _ _ _))
    · iexists _; isplitr; swap
      · iexact HU
      · ipureintro
        unfold upAfter
        rw [if_pos hc0]
        exact (View.read_writes_full _ _ _ _ _).trans (congrArg k0_pay2 (View.readAt_rep_full _ _ _))
  · have hc3 : ¬ k0_cond3 i (wordUsed T1) = 1#1 := fun h => (cond3_iff i _).1 h hc2
    sl_exec (disch := first | (guard_target = ¬(Scalar.cmpi _ _ _ = _); exact hc0) | (guard_target = k0_cond2 _ _ = _; exact hc2) | (guard_target = ¬(k0_cond3 _ _ = _); exact hc3))
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; swap
      · iexact HO
      · ipureintro
        refine (View.read_writes_full _ _ _ _ _).trans ?_
        unfold outAfter gateAfter upAfter
        rw [if_pos hc2, if_neg hc0, if_neg hc0]
        exact gated_congr (View.readAt_rep_full _ _ _) (View.readAt_rep_full _ _ _) (View.readAt_rep_full _ _ _)
    isplitl [HG]
    · iexists _; isplitr; swap
      · iexact HG
      · ipureintro
        unfold gateAfter
        rw [if_neg hc0]
        exact View.read_rep _ _
    · iexists _; isplitr; swap
      · iexact HU
      · ipureintro
        unfold upAfter
        rw [if_neg hc0]
        exact View.read_rep _ _
  · have hc3 : k0_cond3 i (wordUsed T1) = 1#1 := (cond3_iff i _).2 hc2
    sl_exec (disch := first | (guard_target = ¬(Scalar.cmpi _ _ _ = _); exact hc0) | (guard_target = ¬(k0_cond2 _ _ = _); exact hc2) | (guard_target = k0_cond3 _ _ = _; exact hc3))
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; swap
      · iexact HO
      · ipureintro
        refine (View.read_writes_full _ _ _ _ _).trans ?_
        unfold outAfter
        rw [if_neg hc2]
    isplitl [HG]
    · iexists _; isplitr; swap
      · iexact HG
      · ipureintro
        unfold gateAfter
        rw [if_neg hc0]
        exact View.read_rep _ _
    · iexists _; isplitr; swap
      · iexact HU
      · ipureintro
        unfold upAfter
        rw [if_neg hc0]
        exact View.read_rep _ _

end Cert.ExpertUpIdeal.Walk
-- ==== Proof.UpFrame.lean ====
module

public import proofs.«01_k».proof.Proof.UpRun

/-! The launch of the up projection of the experts: from the body's run at a point to the whole run, with the contents of
the output array. -/

@[expose] public section

set_option maxRecDepth 16384

noncomputable section

namespace Cert.ExpertUpIdeal.Walk

open Cert.ExpertUpIdeal Cert.ExpertUpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- The rounds library's algebra, embedded whole. -/
abbrev EP : Emb (UR sig nD τ) 𝕄 := emb₁

variable (a : (pcfg0 (F := F)).Adm)
variable (m : (ℓ : Loc nD τ sig) → Buf (Elt F) ℓ) (ρ : Dev nD → PrngReg)

/-- The pipeline at the tables' contents `a`. -/
abbrev cfgA : Pipeline.Cfg sig Λ₀ := cfg0 (F := F) a
/-- The program's pipelines at those contents. -/
abbrev pcs : Fin 1 → Pipeline.Cfg sig Λ₀ := Pipeline.pin (pcfgs (F := F)) fun _ => a

/-- A point's coordinates. -/
abbrev crd (t : Fin (cfgA a).N) : grid0.Coords := (cfgA a).grid.coords t

/-- The coordinates of a point: the column block, then the tile. -/
theorem crd_val : ∀ t : Fin grid0.N, (grid0.coords t 0).val = t.val / 136 ∧ (grid0.coords t 1).val = t.val % 136 := by decide +kernel

/-- The table of expert numbers. -/
abbrev tab0 : S136.Idx → Elt F .i32 := a.1 0
/-- The number of tiles in use, as a table. -/
abbrev tab1 : S1.Idx → Elt F .i32 := a.1 1

/-- The block of a window at a point, in the array as it is before the run. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-- The activations' block at a point. -/
abbrev xblk (c : Dev nD) (t : Fin (cfgA a).N) : S256x2048.Idx → Elt F .bf16 := iblk a m c (0 : Fin 4) t
/-- The gate weights' block at a point. -/
abbrev gblk (c : Dev nD) (t : Fin (cfgA a).N) : S1x2048x512.Idx → Elt F .f32 := iblk a m c (1 : Fin 4) t
/-- The up weights' block at a point. -/
abbrev ublk (c : Dev nD) (t : Fin (cfgA a).N) : S1x2048x512.Idx → Elt F .f32 := iblk a m c (2 : Fin 4) t

/-- The gate weights' block depends on the point through its place in the array alone. -/
theorem gblk_congr (c : Dev nD) (t t' : Fin (cfgA a).N)
    (h : cc0_transform_1 k0_off1_inb numel1_S1 a.1 (crd a t) = cc0_transform_1 k0_off1_inb numel1_S1 a.1 (crd a t')) :
    gblk a m c t = gblk a m c t' := by
  funext y
  refine congrArg (m ((c : Thread nD τ).loc main_arg3)) (funext fun d => Fin.ext ?_)
  show cc0_transform_1 k0_off1_inb numel1_S1 a.1 (crd a t) d * S1x2048x512.size d + 1 * (y d).val
    = cc0_transform_1 k0_off1_inb numel1_S1 a.1 (crd a t') d * S1x2048x512.size d + 1 * (y d).val
  rw [h]

/-- The up weights' block depends on the point through its place in the array alone. -/
theorem ublk_congr (c : Dev nD) (t t' : Fin (cfgA a).N)
    (h : cc0_transform_2 k0_off1_inb numel1_S1 a.1 (crd a t) = cc0_transform_2 k0_off1_inb numel1_S1 a.1 (crd a t')) :
    ublk a m c t = ublk a m c t' := by
  funext y
  refine congrArg (m ((c : Thread nD τ).loc main_arg3)) (funext fun d => Fin.ext ?_)
  show cc0_transform_2 k0_off1_inb numel1_S1 a.1 (crd a t) d * S1x2048x512.size d + 1 * (y d).val
    = cc0_transform_2 k0_off1_inb numel1_S1 a.1 (crd a t') d * S1x2048x512.size d + 1 * (y d).val
  rw [h]

/-- A tile's index in the table of expert numbers. -/
abbrev tile (i : grid0.Coords) : S136.Idx := fun d => ⟨(i 1).val, by fin_cases d; exact (i 1).isLt⟩

/-- The body's first word is the table's entry at the tile. -/
theorem wordHere_eq (i : grid0.Coords) (T : S136.Idx → Elt F .i32) : wordHere i T = T (tile i) := by
  refine congrArg T (funext fun d => Fin.ext ?_)
  show k0_off1 i d + 1 * 0 = (i 1).val
  rw [k0_off1_eq]
  fin_cases d
  rfl

theorem off2_val : ∀ n : Fin 136, (Scalar.indexCast (Scalar.maxsi (Scalar.subi (BitVec.ofNat 32 n.val) 1#32) 0#32)).toNat = n.val - 1 := by
  decide +kernel

/-- The body's second word is the table's entry one tile before. -/
theorem wordPrev_eq (i i' : grid0.Coords) (h : (i' 1).val + 1 = (i 1).val) (T : S136.Idx → Elt F .i32) : wordPrev i T = T (tile i') := by
  refine congrArg T (funext fun d => Fin.ext ?_)
  show k0_off2 i d + 1 * 0 = (i' 1).val
  have e : k0_off2 i = ![(i 1).val - 1] := by
    unfold k0_off2
    exact congrArg (fun n => ![n]) (off2_val (i 1))
  rw [e]
  fin_cases d
  show (i 1).val - 1 + 1 * 0 = (i' 1).val
  omega

/-- An entry of the table of expert numbers, as a word. -/
abbrev word (pf : pre0.Contents (Elt F)) (x : S136.Idx) : BitVec 32 := pf 0 x

/-- The place of the gate weights' block: the tile's expert, all rows, the point's column block. -/
theorem place1 (pf : pre0.Contents (Elt F)) (i : grid0.Coords) :
    cc0_transform_1 k0_off1_inb numel1_S1 pf i = ![(word pf (tile i)).toNat, 0, (i 0).val] := by
  have e : word pf ((Rect.unit (s := S136) (k0_off1 i) S1.size (k0_off1_inb i)).emb (Shape.Idx.first (numel1_S1.symm ▸ Nat.one_pos)))
      = word pf (tile i) := wordHere_eq i (pf 0)
  have h0 : (BitVec.ofNat 32 (i 0).val).toNat = (i 0).val := by
    have := (i 0).isLt
    rw [BitVec.toNat_ofNat, Nat.mod_eq_of_lt]
    exact lt_trans this (by decide)
  exact (congrArg₂ (fun (w : BitVec 32) n => ![w.toNat, 0, n]) e h0)

theorem shift_val : ∀ n : Fin 14, (Scalar.addi (BitVec.ofNat 32 n.val) 14#32).toNat = n.val + 14 := by decide

/-- The place of the up weights' block: fourteen column blocks further. -/
theorem place2 (pf : pre0.Contents (Elt F)) (i : grid0.Coords) :
    cc0_transform_2 k0_off1_inb numel1_S1 pf i = ![(word pf (tile i)).toNat, 0, (i 0).val + 14] := by
  have e : word pf ((Rect.unit (s := S136) (k0_off1 i) S1.size (k0_off1_inb i)).emb (Shape.Idx.first (numel1_S1.symm ▸ Nat.one_pos)))
      = word pf (tile i) := wordHere_eq i (pf 0)
  exact (congrArg₂ (fun (w : BitVec 32) n => ![w.toNat, 0, n]) e (shift_val (i 0)))

theorem fresh_bits : ∀ p q : BitVec 1, (Scalar.cmpi .ne (Scalar.extui (Scalar.ori p q)) 0#32 = 1#1) ↔ p = 1#1 ∨ q = 1#1 := by decide

/-- Where the body does not convert a new block, the point before had the same blocks. -/
theorem blk_prev (c : Dev nD) (t : Fin (cfgA a).N) (hf : ¬ fresh (crd a t) (tab0 a)) :
    ∃ t' : Fin (cfgA a).N, t'.val + 1 = t.val ∧ gblk a m c t = gblk a m c t' ∧ ublk a m c t = ublk a m c t' := by
  unfold fresh at hf
  rw [fresh_bits, not_or] at hf
  obtain ⟨h1, h2⟩ := hf
  have c0 := (crd_val t).1
  have c1 := (crd_val t).2
  have hi : t.val % 136 ≠ 0 := by
    intro h
    apply h1
    show Scalar.cmpi .eq (BitVec.ofNat 32 (grid0.coords t 1).val) 0#32 = 1#1
    rw [c1, h]
    decide
  have ht : t.val - 1 < (cfgA a).N := by have := t.isLt; omega
  have d0 := (crd_val ⟨t.val - 1, ht⟩).1
  have d1 := (crd_val ⟨t.val - 1, ht⟩).2
  have hs : (crd a ⟨t.val - 1, ht⟩ 1).val + 1 = (crd a t 1).val := by
    refine (congrArg (· + 1) d1).trans (Eq.trans ?_ c1.symm)
    show (t.val - 1) % 136 + 1 = t.val % 136
    omega
  have ew : tab0 a (tile (crd a t)) = tab0 a (tile (crd a ⟨t.val - 1, ht⟩)) := by
    by_contra hne
    apply h2
    rw [wordHere_eq, wordPrev_eq (crd a t) (crd a ⟨t.val - 1, ht⟩) hs]
    exact congrArg BitVec.ofBool (bne_iff_ne.2 hne)
  have e0 : (crd a t 0).val = (crd a ⟨t.val - 1, ht⟩ 0).val := by
    refine c0.trans (Eq.trans ?_ d0.symm)
    show t.val / 136 = (t.val - 1) / 136
    omega
  refine ⟨⟨t.val - 1, ht⟩, by show t.val - 1 + 1 = t.val; omega, gblk_congr a m c _ _ ?_, ublk_congr a m c _ _ ?_⟩
  · rw [place1, place1, e0]
    exact congrArg (fun w : BitVec 32 => ![w.toNat, 0, (crd a ⟨t.val - 1, ht⟩ 0).val]) ew
  · rw [place2, place2, e0]
    exact congrArg (fun w : BitVec 32 => ![w.toNat, 0, (crd a ⟨t.val - 1, ht⟩ 0).val + 14]) ew

/-- What the gate's scratch buffer holds after a point: the point's gate weight block, converted. -/
abbrev convG (c : Dev nD) (t : Fin (cfgA a).N) : S2048x512.Idx → Elt F .bf16 := k0_pay1 (gblk a m c t)
/-- What the up projection's scratch buffer holds after a point: the point's up weight block, converted. -/
abbrev convU (c : Dev nD) (t : Fin (cfgA a).N) : S2048x512.Idx → Elt F .bf16 := k0_pay2 (ublk a m c t)

/-- The contents `g` and `u` are the converted blocks of the point before position `n`, if there is one. -/
def Held (c : Dev nD) (n : ℕ) (g u : S2048x512.Idx → Elt F .bf16) : Prop :=
  ∀ t : Fin (cfgA a).N, t.val + 1 = n → g = convG a m c t ∧ u = convU a m c t

/-- The invariant before a point: the scratch buffers at the converted blocks of the point before, and the tables. -/
def Phi (c : Dev nD) (t : Fin ((cfgA a).N + 1)) : sProp 𝕄 :=
  iprop((∃ g u, ⌜Held a m c t.val g u⌝
      ∗ owns (c : Thread nD τ) (Memref.whole cc0_scratch0 : Memref sig .tc .vmem S2048x512 .bf16) fullShare g
      ∗ owns (c : Thread nD τ) (Memref.whole cc0_scratch1 : Memref sig .tc .vmem S2048x512 .bf16) fullShare u)
    ∗ (tb0.view.loc (c : Thread nD τ) ↦{fullShare.right} tab0 a) ∗ (tb1.view.loc (c : Thread nD τ) ↦{fullShare.right} tab1 a))

/-- The proof data of the pipeline. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 4) t
    | ⟨1, _⟩ => iblk a m c (1 : Fin 4) t
    | ⟨2, _⟩ => iblk a m c (2 : Fin 4) t
    | ⟨3, _⟩ => outAfter (crd a t) (tab1 a) (xblk a m c t) (convG a m c t) (convU a m c t)
  Φ t := Phi a m c t
  q w := Pipeline.shareOf spec0 w
  owed _ := 0

theorem after0_0 (c : Dev nD) (t : Fin (cfgA a).N) : (dats a m 0 c).after (0 : Fin 4) t = iblk a m c (0 : Fin 4) t := rfl
theorem after0_1 (c : Dev nD) (t : Fin (cfgA a).N) : (dats a m 0 c).after (1 : Fin 4) t = iblk a m c (1 : Fin 4) t := rfl
theorem after0_2 (c : Dev nD) (t : Fin (cfgA a).N) : (dats a m 0 c).after (2 : Fin 4) t = iblk a m c (2 : Fin 4) t := rfl
theorem after0_3 (c : Dev nD) (t : Fin (cfgA a).N) :
    (dats a m 0 c).after (3 : Fin 4) t = outAfter (crd a t) (tab1 a) (xblk a m c t) (convG a m c t) (convU a m c t) := rfl

/-- The activations' buffer holds its block when the body runs. -/
theorem before0_0 (c : Dev nD) (t : Fin (cfgA a).N) (d) : (dats a m 0 c).before (0 : Fin 4) t d = iblk a m c (0 : Fin 4) t :=
  ((dats a m 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- The gate weights' buffer holds its block when the body runs. -/
theorem before0_1 (c : Dev nD) (t : Fin (cfgA a).N) (d) : (dats a m 0 c).before (1 : Fin 4) t d = iblk a m c (1 : Fin 4) t :=
  ((dats a m 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- The up weights' buffer holds its block when the body runs. -/
theorem before0_2 (c : Dev nD) (t : Fin (cfgA a).N) (d) : (dats a m 0 c).before (2 : Fin 4) t d = iblk a m c (2 : Fin 4) t :=
  ((dats a m 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- The body stores its output at every point. -/
theorem idle3 (t : Fin (cfgA a).N) : (cfgA a).idle (3 : Fin 4) ((cfgA a).grid.coords t) = false := by
  show (!(k0_cond2 (crd a t) (a.1.atD 1 ![0]) == 1#1) && !(k0_cond3 (crd a t) (a.1.atD 1 ![0]) == 1#1)) = false
  by_cases h : k0_cond2 (crd a t) (a.1.atD 1 ![0]) = 1#1
  · simp [h]
  · simp [(cond3_iff _ _).2 h]

/-- The body at a point, as the pipeline calls it. -/
abbrev bodyAt (t : Fin (cfgA a).N) : Prog (TpuEff nD τ sig (Elt F) Λ₀ .tc) PUnit :=
  cc0_moe_expert_up (crd a t) tb0 (Memref.isWhole_whole _) tb1 (Memref.isWhole_whole _)
    (spec0_0.stage ((cfgA a).slots t (0 : Fin 4))) (hstage0_0 (((cfgA a).slots t (0 : Fin 4)).cast nbuf0_0))
    (spec0_1.stage ((cfgA a).slots t (1 : Fin 4))) (hstage0_1 (((cfgA a).slots t (1 : Fin 4)).cast nbuf0_1))
    (spec0_2.stage ((cfgA a).slots t (2 : Fin 4))) (hstage0_2 (((cfgA a).slots t (2 : Fin 4)).cast nbuf0_2))
    (spec0_3.stage ((cfgA a).slots t (3 : Fin 4))) (hstage0_3 (((cfgA a).slots t (3 : Fin 4)).cast nbuf0_3))
    (Memref.whole cc0_scratch0) (Memref.isWhole_whole _) (Memref.whole cc0_scratch1) (Memref.isWhole_whole _)

/-- The scratch buffers after the body are the converted blocks of the point. -/
theorem scratch_step (c : Dev nD) (t : Fin (cfgA a).N) (g u : S2048x512.Idx → Elt F .bf16) (hb : Held a m c t.val g u) :
    gateAfter (crd a t) (tab0 a) (gblk a m c t) g = convG a m c t ∧ upAfter (crd a t) (tab0 a) (ublk a m c t) u = convU a m c t := by
  unfold gateAfter upAfter
  by_cases hf : fresh (crd a t) (tab0 a)
  · rw [if_pos hf, if_pos hf]
    exact ⟨rfl, rfl⟩
  · obtain ⟨t', h, eg, eu⟩ := blk_prev a m c t hf
    rw [if_neg hf, if_neg hf, (hb t' h).1, (hb t' h).2]
    exact ⟨congrArg k0_pay1 eg.symm, congrArg k0_pay2 eu.symm⟩

/-- After a point its converted blocks are the ones of the point before the next position. -/
theorem held_succ (c : Dev nD) (t : Fin (cfgA a).N) : Held a m c t.succ.val (convG a m c t) (convU a m c t) := by
  intro t' h
  have e : t' = t := Fin.ext (by rw [Fin.val_succ] at h; omega)
  rw [e]
  exact ⟨rfl, rfl⟩

/-- The staging memrefs at a point. -/
abbrev st0 (t : Fin (cfgA a).N) : Memref sig .tc .vmem S256x2048 .bf16 := spec0_0.stage ((cfgA a).slots t (0 : Fin 4))
abbrev st1 (t : Fin (cfgA a).N) : Memref sig .tc .vmem S1x2048x512 .f32 := spec0_1.stage ((cfgA a).slots t (1 : Fin 4))
abbrev st2 (t : Fin (cfgA a).N) : Memref sig .tc .vmem S1x2048x512 .f32 := spec0_2.stage ((cfgA a).slots t (2 : Fin 4))
abbrev st3 (t : Fin (cfgA a).N) : Memref sig .tc .vmem S256x512 .bf16 := spec0_3.stage ((cfgA a).slots t (3 : Fin 4))

/-- The body at a point keeps the invariant and fills the output block. -/
theorem body_sound (c : Dev nD) (t : Fin (cfgA a).N) (O : sProp 𝕄) :
    iprop(Phi a m c t.castSucc ∗ O
        ∗ owns (c : Thread nD τ) (st0 a t) fullShare (xblk a m c t)
        ∗ owns (c : Thread nD τ) (st1 a t) fullShare (gblk a m c t)
        ∗ owns (c : Thread nD τ) (st2 a t) fullShare (ublk a m c t)
        ∗ (∃ d, owns (c : Thread nD τ) (st3 a t) fullShare d))
      ⊢ wp frame (wpE (defs₀ (F := F)) Variants.none c none) Set.univ (bodyAt a t) fun _ =>
        iprop(Phi a m c t.succ ∗ O
          ∗ owns (c : Thread nD τ) (st0 a t) fullShare (xblk a m c t)
          ∗ owns (c : Thread nD τ) (st1 a t) fullShare (gblk a m c t)
          ∗ owns (c : Thread nD τ) (st2 a t) fullShare (ublk a m c t)
          ∗ owns (c : Thread nD τ) (st3 a t) fullShare (outAfter (crd a t) (tab1 a) (xblk a m c t) (convG a m c t) (convU a m c t))) := by
  unfold Phi
  iintro ⟨⟨⟨%g, %u, %hb, HG, HU⟩, HT0, HT1⟩, Ho, H0, H1, H2, H3⟩
  rw [Fin.val_castSucc] at hb
  have es := scratch_step a m c t g u hb
  iapply (body_run c (crd a t) (st0 a t) _ (st1 a t) _ (st2 a t) _ (st3 a t) _ (Memref.whole cc0_scratch0) _ (Memref.whole cc0_scratch1) _
    (tab0 a) (tab1 a) (xblk a m c t) (gblk a m c t) (ublk a m c t) g u _)
  isplitl [H0]; · iexact H0
  isplitl [H1]; · iexact H1
  isplitl [H2]; · iexact H2
  isplitl [HT0]; · iexact HT0
  isplitl [HT1]; · iexact HT1
  isplitl [H3]; · iexact H3
  isplitl [HG]; · iexact HG
  isplitl [HU]; · iexact HU
  rw [es.1, es.2]
  iintro ⟨H0, H1, H2, HT0, HT1, H3, HG, HU⟩
  isplitl [HG HU HT0 HT1]
  · isplitl [HG HU]
    · iexists _; iexists _; isplitr; swap
      · isplitl [HG]
        · iexact HG
        iexact HU
      · ipureintro; exact held_succ a m c t
    isplitl [HT0]
    · iexact HT0
    iexact HT1
  isplitl [Ho]; · iexact Ho
  isplitl [H0]; · iexact H0
  isplitl [H1]; · iexact H1
  isplitl [H2]; · iexact H2
  iexact H3

/-- The body's obligation at a point, the windows' buffers before and after as the library states them. -/
theorem body_at (c : Dev nD) (t : Fin (cfgA a).N) :
    iprop((dats a m 0 c).Φ t.castSucc ∗ (dats a m 0 c).owesAt () t.castSucc
        ∗ (∃ d, owns (c : Thread nD τ) (st0 a t) fullShare ((dats a m 0 c).before (0 : Fin 4) t d))
        ∗ (∃ d, owns (c : Thread nD τ) (st1 a t) fullShare ((dats a m 0 c).before (1 : Fin 4) t d))
        ∗ (∃ d, owns (c : Thread nD τ) (st2 a t) fullShare ((dats a m 0 c).before (2 : Fin 4) t d))
        ∗ (∃ d, owns (c : Thread nD τ) (st3 a t) fullShare ((dats a m 0 c).before (3 : Fin 4) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle3 a t]
  simp only [before0_0, before0_1, before0_2, after0_0, after0_1, after0_2, after0_3]
  rewrite [show (dats a m 0 c).Φ t.succ = Phi a m c t.succ from rfl, show (dats a m 0 c).Φ t.castSucc = Phi a m c t.castSucc from rfl,
    show (dats a m 0 c).owesAt () t.succ = (dats a m 0 c).owesAt () t.castSucc from rfl]
  refine BIBase.Entails.trans ?_ (body_sound a m c t ((dats a m 0 c).owesAt () t.castSucc))
  iintro ⟨HP, Ho, ⟨%d0, H0⟩, ⟨%d1, H1⟩, ⟨%d2, H2⟩, ⟨%d3, H3⟩⟩
  isplitl [HP]; · iexact HP
  isplitl [Ho]; · iexact Ho
  isplitl [H0]; · iexact H0
  isplitl [H1]; · iexact H1
  isplitl [H2]; · iexact H2
  iexists _; iexact H3

/-- The library's body obligation. -/
theorem body_obligation (c : Dev nD) : BodyObligation (dats a m 0 c) (defs₀ (F := F)) Variants.none () Set.univ := fun t => by
  rw [bigSep_W0]
  exact body_at a m c t

/-- The launch element of the rounds library. -/
def u₀ : UR sig nD τ :=
  initOf (Pipeline.cells (pcs a) ((launch₀0 (F := F)).cellOf_inj fun _ => a))
    (Pipeline.launchToks (pcs a) ((launch₀0 (F := F)).cellOf_inj fun _ => a))

/-- The tables one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant holds before the first point. -/
theorem phi_in (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a m c 0 from rfl]
  unfold Phi
  iintro ⟨-, ⟨HT0, HT1⟩, ⟨%g, HG⟩, ⟨%u, HU⟩⟩
  isplitl [HG HU]
  · iexists g; iexists u; isplitr; swap
    · have eg : (owns (c : Thread nD τ) (Memref.whole cc0_scratch0 : Memref sig .tc .vmem S2048x512 .bf16) fullShare g : sProp 𝕄) = _ := owns_whole _ _ _ _
      have eu : (owns (c : Thread nD τ) (Memref.whole cc0_scratch1 : Memref sig .tc .vmem S2048x512 .bf16) fullShare u : sProp 𝕄) = _ := owns_whole _ _ _ _
      rw [eg, eu]
      isplitl [HG]
      · iexact HG
      iexact HU
    · ipureintro; intro t h; exact absurd h (Nat.succ_ne_zero _)
  isplitl [HT0]
  · iexact HT0
  iexact HT1

/-- After the last point the invariant gives the scratch buffers back. -/
theorem phi_out (c : Dev nD) : (dats a m 0 c).Φ (Fin.last (cfgA a).N) ⊢ iprop(BI.emp ∗ Pipeline.scopedRest spec0 c) := by
  rw [scopedRest0_eq, show (dats a m 0 c).Φ (Fin.last (cfgA a).N) = Phi a m c (Fin.last _) from rfl]
  unfold Phi
  iintro ⟨⟨%g, %u, -, HG, HU⟩, -, -⟩
  isplitr; · iempintro
  have eg : (owns (c : Thread nD τ) (Memref.whole cc0_scratch0 : Memref sig .tc .vmem S2048x512 .bf16) fullShare g : sProp 𝕄) = _ := owns_whole _ _ _ _
  have eu : (owns (c : Thread nD τ) (Memref.whole cc0_scratch1 : Memref sig .tc .vmem S2048x512 .bf16) fullShare u : sProp 𝕄) = _ := owns_whole _ _ _ _
  isplitl [HG]
  · iexists g
    rw [← eg]
    iexact HG
  iexists u
  rw [← eu]
  iexact HU

/-- What a final state satisfies: the arrays at the computed contents, the tables as they were. -/
def Post : PUnit × MemSt nD τ sig (Elt F) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
/-- Every execution from a memory with those tables ends in such a state, the semaphores at zero. -/
theorem run (hp : ∀ (c : Dev nD) (j : Fin 2), m ((c : Thread nD τ).loc (pre0.ref j)) = a.1 j) :
    θ_run (defs (F := F)) (onTc (τ := τ) (main (F := F))) ⟨m, fun _ => 0, ρ⟩ (fun r => Post a m r ∧ r.2.sem = fun _ => 0) :=
  Pipeline.θ_run_region_noSem_pf_quiescent pcfgs (fun _ => a) (dats a m) () ((launch₀0 (F := F)).cellOf_inj fun _ => a) (0 : Fin 1)
    (launch₀0 (F := F)).win (launch₀0 (F := F)).pre EP defs₀ Variants.none m ρ main
    (hbody := fun c => (body_obligation a m c).loose) (hne := (launch₀0 (F := F)).block_pos)
    (harr := (launch₀0 (F := F)).arr_whole) (hstage := (launch₀0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => (dats a m 0 c).arrays_split_shared sharedIn0 arr_whole0 (fun _ _ => rfl) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_in a m)
    (hout := phi_out a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run with the output array at its computed contents and the arguments unchanged. -/
theorem run_frame (hp : ∀ (c : Dev nD) (j : Fin 2), m ((c : Thread nD τ).loc (pre0.ref j)) = a.1 j) :
    θ_run (defs (F := F)) (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v0) = (dats a m 0 c).arrAt (3 : Fin 4) (cfgA a).N)
      ∧ r.2.sem = fun _ => 0) :=
  (θ_run defs _ _).mono (fun _ h => ⟨fun c => ⟨⟨((h.1 c).1 (0 : Fin 4)).trans ((dats a m 0 c).arrAt_in (0 : Fin 4) rfl _),
    ((h.1 c).2 0).trans (hp c 0).symm, ((h.1 c).2 1).trans (hp c 1).symm,
    ((h.1 c).1 (1 : Fin 4)).trans ((dats a m 0 c).arrAt_in (1 : Fin 4) rfl _)⟩, (h.1 c).1 (3 : Fin 4)⟩, h.2⟩) (run a m ρ hp)

/-- Tables whose expert numbers are below eight place every weight block inside its array. -/
theorem ok_of_lt (pf : pre0.Contents (Elt F)) (h : ∀ x, (word pf x).toNat < 8) : ok0 pf := by
  have hi : ∀ i : grid0.Coords, (i 0).val < 14 := fun i => (i 0).isLt
  refine ⟨fun i => ⟨fun d => ?_, .inl rfl⟩, fun i => ⟨fun d => ?_, .inl rfl⟩⟩
  · have hj := hi i
    have hw := h (tile i)
    rw [place1]
    fin_cases d
    · show ((word pf (tile i)).toNat + 1) * 1 ≤ 8
      omega
    · show (0 + 1) * 2048 ≤ 2048
      omega
    · show ((i 0).val + 1) * 512 ≤ 14336
      omega
  · have hj := hi i
    have hw := h (tile i)
    rw [place2]
    fin_cases d
    · show ((word pf (tile i)).toNat + 1) * 1 ≤ 8
      omega
    · show (0 + 1) * 2048 ≤ 2048
      omega
    · show ((i 0).val + 14 + 1) * 512 ≤ 14336
      omega

/-- The tables a memory holds, as contents the pipeline admits. -/
def admOf (h : ∀ (c : Dev nD) (x : S136.Idx), (word (F := F) (fun j => m ((c : Thread nD τ).loc (pre0.ref j))) x).toNat < 8) :
    (pcfg0 (F := F)).Adm :=
  ⟨fun j => m (((0 : Dev nD) : Thread nD τ).loc (pre0.ref j)), ok_of_lt _ (h 0)⟩

/-- There is one device: the tables are the ones every device holds. -/
theorem admOf_eq (h : ∀ (c : Dev nD) (x : S136.Idx), (word (F := F) (fun j => m ((c : Thread nD τ).loc (pre0.ref j))) x).toNat < 8)
    (c : Dev nD) (j : Fin 2) : m ((c : Thread nD τ).loc (pre0.ref j)) = (admOf m h).1 j := by
  obtain rfl : c = 0 := Subsingleton.elim _ _
  rfl

end Cert.ExpertUpIdeal.Walk
-- ==== Proof.UpClaim.lean ====
/- The up projection of the experts: the result array and the reference's result are one function of the arguments, when
   every expert number is one of the eight. -/
module

public import proofs.«01_k».proof.Defs
public import proofs.«01_k».proof.Proof.Gen.Pre_tables_up
public import proofs.«01_k».proof.Proof.UpFrame
public import proofs.«01_k».proof.Proof.UpFrameF
public import proofs.«01_k».proof.Proof.ExpertMath
public import Idealize.ShloMosaic.Lib.Pipeline.ValueKit

@[expose] public section

set_option maxRecDepth 16384

noncomputable section

namespace Cert.Proof.UpClaim

open Idealize.ShloMosaic Idealize.ShloMosaic.TcCoe Idealize.SL.Sem
open Idealize.ShloMosaic.Pipeline (Dat)
open Cert.Proof.ExpertMath

section Reference

open Cert.ExpertUpRefIdeal Cert.ExpertUpRefIdeal.Gen Cert.ExpertUpRefIdeal.Read

/-- The product of row `r` with column `j` of expert `e`'s weights. -/
def dotRow (x0 : FVec Ideal S34816x2048 .bf16) (x3 : FVec Ideal S8x2048x14336 .f32) (r : Fin 34816) (j : Fin 14336) (e : Fin 8) : EReal :=
  ∑ k : Fin 2048, x0 (ix2 r k) * x3 (ix3 e k j)

/-- The gated product of row `r` at column `j`: the gate column's product through the sigmoid unit, times the up column's. -/
def swiglu (x0 : FVec Ideal S34816x2048 .bf16) (x3 : FVec Ideal S8x2048x14336 .f32) (r : Fin 34816) (j : Fin 7168) (e : Fin 8) : EReal :=
  dotRow x0 x3 r ⟨j, by omega⟩ e * Ideal.logistic (dotRow x0 x3 r ⟨j, by omega⟩ e) * dotRow x0 x3 r ⟨7168 + j, by omega⟩ e

/-- The reference's gates. -/
theorem gate_read (x1 : IVec S136 32) (x2 : IVec S1 32) (r : Fin 34816) (e : Fin 8) :
    val_main_v11 (F := Ideal) x1 x2 (ix2 r e) = gate (x2 (ix1 0)) (x1 (ix1 ⟨r / 256, by omega⟩)) (r / 256) e := by
  pointwise [val_main_v11, val_main_call1_v1, val_main_v7, val_main_v6, val_main_v5, val_main_v4, val_main_v3, val_main_v2,
    val_main_v1, val_main_v10, val_main_call0_v4, val_main_call0_v3, val_main_call0_v2, val_main_call0_v1, val_main_call0_v0,
    val_main_v9, val_main_v8, val_main_call1_v2, val_main_call1_v0, val_main_cst]
  rfl

/-- The reference's result: zero plus, expert after expert, the gate times the gated product. -/
theorem ref_read (x0 : FVec Ideal S34816x2048 .bf16) (x1 : IVec S136 32) (x2 : IVec S1 32)
    (x3 : FVec Ideal S8x2048x14336 .f32) (r : Fin 34816) (j : Fin 7168) :
    val_main_v101 (F := Ideal) x0 x1 x2 x3 (ix2 r j)
      = Ideal.ofBits .f32 0x00000000#32
        + val_main_v11 (F := Ideal) x1 x2 (ix2 r 0) * swiglu x0 x3 r j 0
        + val_main_v11 (F := Ideal) x1 x2 (ix2 r 1) * swiglu x0 x3 r j 1
        + val_main_v11 (F := Ideal) x1 x2 (ix2 r 2) * swiglu x0 x3 r j 2
        + val_main_v11 (F := Ideal) x1 x2 (ix2 r 3) * swiglu x0 x3 r j 3
        + val_main_v11 (F := Ideal) x1 x2 (ix2 r 4) * swiglu x0 x3 r j 4
        + val_main_v11 (F := Ideal) x1 x2 (ix2 r 5) * swiglu x0 x3 r j 5
        + val_main_v11 (F := Ideal) x1 x2 (ix2 r 6) * swiglu x0 x3 r j 6
        + val_main_v11 (F := Ideal) x1 x2 (ix2 r 7) * swiglu x0 x3 r j 7 := by
  unfold swiglu dotRow Ideal.logistic
  pointwise [val_main_v101, val_main_v100, val_main_v99, val_main_v98, val_main_v97, val_main_v96, val_main_v95, val_main_v94,
    val_main_v93, val_main_v92, val_main_v91, val_main_v90, val_main_call9_v5, val_main_call9_v4, val_main_call9_cst_0,
    val_main_call9_v3, val_main_call9_v2, val_main_call9_cst, val_main_call9_v1, val_main_call9_v0, val_main_v89, val_main_v88,
    val_main_v87, val_main_v86, val_main_v85, val_main_v84, val_main_v83, val_main_v82, val_main_v81, val_main_v80,
    val_main_v79, val_main_call8_v5, val_main_call8_v4, val_main_call8_cst_0, val_main_call8_v3, val_main_call8_v2,
    val_main_call8_cst, val_main_call8_v1, val_main_call8_v0, val_main_v78, val_main_v77, val_main_v76, val_main_v75,
    val_main_v74, val_main_v73, val_main_v72, val_main_v71, val_main_v70, val_main_v69, val_main_v68, val_main_call7_v5,
    val_main_call7_v4, val_main_call7_cst_0, val_main_call7_v3, val_main_call7_v2, val_main_call7_cst, val_main_call7_v1,
    val_main_call7_v0, val_main_v67, val_main_v66, val_main_v65, val_main_v64, val_main_v63, val_main_v62, val_main_v61,
    val_main_v60, val_main_v59, val_main_v58, val_main_v57, val_main_call6_v5, val_main_call6_v4, val_main_call6_cst_0,
    val_main_call6_v3, val_main_call6_v2, val_main_call6_cst, val_main_call6_v1, val_main_call6_v0, val_main_v56, val_main_v55,
    val_main_v54, val_main_v53, val_main_v52, val_main_v51, val_main_v50, val_main_v49, val_main_v48, val_main_v47,
    val_main_v46, val_main_call5_v5, val_main_call5_v4, val_main_call5_cst_0, val_main_call5_v3, val_main_call5_v2,
    val_main_call5_cst, val_main_call5_v1, val_main_call5_v0, val_main_v45, val_main_v44, val_main_v43, val_main_v42,
    val_main_v41, val_main_v40, val_main_v39, val_main_v38, val_main_v37, val_main_v36, val_main_v35, val_main_call4_v5,
    val_main_call4_v4, val_main_call4_cst_0, val_main_call4_v3, val_main_call4_v2, val_main_call4_cst, val_main_call4_v1,
    val_main_call4_v0, val_main_v34, val_main_v33, val_main_v32, val_main_v31, val_main_v30, val_main_v29, val_main_v28,
    val_main_v27, val_main_v26, val_main_v25, val_main_v24, val_main_call3_v5, val_main_call3_v4, val_main_call3_cst_0,
    val_main_call3_v3, val_main_call3_v2, val_main_call3_cst, val_main_call3_v1, val_main_call3_v0, val_main_v23, val_main_v22,
    val_main_v21, val_main_v20, val_main_v19, val_main_v18, val_main_v17, val_main_v16, val_main_v15, val_main_v14,
    val_main_v13, val_main_call2_v5, val_main_call2_v4, val_main_call2_cst_0, val_main_call2_v3, val_main_call2_v2,
    val_main_call2_cst, val_main_call2_v1, val_main_call2_v0, val_main_v12, val_main_cst_0, val_main_v0]

/-- The expert of a tile. -/
def expert (x1 : IVec S136 32) (i : Fin 136) : Fin 8 := ⟨(x1 (ix1 i)).toNat % 8, Nat.mod_lt _ (by decide)⟩

/-- The result array as one function of the arguments: on a tile in use the gated product with the tile's expert's weights, else zero. -/
def D (x0 : FVec Ideal S34816x2048 .bf16) (x1 : IVec S136 32) (x2 : IVec S1 32) (x3 : FVec Ideal S8x2048x14336 .f32)
    (o : S34816x7168.Idx) : EReal :=
  open Classical in if inUse (x2 (ix1 0)) ((o 0).val / 256) then
    swiglu x0 x3 (o 0) (o 1) (expert x1 ⟨(o 0).val / 256, by have := (o 0).isLt; simp at this; omega⟩) else 0

/-- The reference's result is `D` when every expert number is below eight. -/
theorem ref_eq (x0 : FVec Ideal S34816x2048 .bf16) (x1 : IVec S136 32) (x2 : IVec S1 32)
    (x3 : FVec Ideal S8x2048x14336 .f32) (h : ∀ i, (x1 i).toNat < 8) : val_main_v101 (F := Ideal) x0 x1 x2 x3 = D x0 x1 x2 x3 := by
  funext o
  idx_vars o
  rw [ref_read]
  simp only [gate_read]
  refine (gated_sum (x2 (ix1 0)) (x1 (ix1 ⟨o0 / 256, by omega⟩)) (o0 / 256) (expert x1 ⟨o0 / 256, by omega⟩) ?_ (swiglu x0 x3 o0 o1)).trans rfl
  refine BitVec.eq_of_toNat_eq ?_
  have := h (ix1 ⟨o0 / 256, by omega⟩)
  rw [BitVec.toNat_ofNat]
  show (x1 (ix1 ⟨o0 / 256, by omega⟩)).toNat = ((x1 (ix1 ⟨o0 / 256, by omega⟩)).toNat % 8) % 2 ^ 32
  omega

end Reference

section Kernel

open Cert.ExpertUpIdeal Cert.ExpertUpIdeal.Gen Cert.ExpertUpIdeal.Walk

/-- What a point stores when it multiplies: the gated product of its rows with its two weight blocks. -/
theorem pay_read (x0 : FVec Ideal S256x2048 .bf16) (wg wu : FVec Ideal S1x2048x512 .f32) (r : Fin 256) (j : Fin 512) :
    k0_pay3 (F := Ideal) x0 (k0_pay1 (F := Ideal) wg) (k0_pay2 (F := Ideal) wu) (ix2 r j)
      = (∑ k : Fin 2048, x0 (ix2 r k) * wg (ix3 0 k j)) * Ideal.logistic (∑ k : Fin 2048, x0 (ix2 r k) * wg (ix3 0 k j))
        * ∑ k : Fin 2048, x0 (ix2 r k) * wu (ix3 0 k j) := by
  pointwise [k0_pay3, k0_pay2, k0_pay1]

/-- What a point stores when it does not: zero. -/
theorem zero_read (y : S256x512.Idx) : k0_pay4 (F := Ideal) y = 0 := Ideal.ofBits_zero_bf16

/-- The body's test is that the tile is in use. -/
theorem used_iff (i : grid0.Coords) (T : IVec S1 32) : used (F := Ideal) i T ↔ inUse (T (ix1 0)) (i 1).val := by
  have e : wordUsed (F := Ideal) T = T (ix1 0) := congrArg T (funext fun d => Fin.ext (by fin_cases d; rfl))
  unfold used inUse k0_cond2
  rw [e]
  simp only [Scalar.cmpi, Scalar.extui, IntOp.cmpi]
  cases (BitVec.ofNat 32 (i 1).val).slt (T (ix1 0)) <;> decide

variable (a : (pcfg0 (F := Ideal)).Adm) (m : (ℓ : Loc nD τ sig) → Buf (Elt Ideal) ℓ)

/-- The place of the activations' block: the tile's rows, all columns. -/
theorem place0 : ∀ i : grid0.Coords, cc0_transform_0 i = ![(i 1).val, 0] := by decide +kernel
/-- The place of the output block: the tile's rows, the point's columns. -/
theorem place3 : ∀ i : grid0.Coords, cc0_transform_3 i = ![(i 1).val, (i 0).val] := by decide +kernel

/-- An entry of the activations' block. -/
theorem xblk_read (c : Dev nD) (t : Fin (cfgA a).N) (r : Fin 256) (k : Fin 2048) (hr : (crd a t 1).val * 256 + r.val < 34816) :
    xblk a m c t (ix2 r k) = m ((c : Thread nD τ).loc main_arg0) (ix2 ⟨(crd a t 1).val * 256 + r, hr⟩ k) := by
  refine congrArg (m ((c : Thread nD τ).loc main_arg0)) (funext fun d => Fin.ext ?_)
  show cc0_transform_0 (crd a t) d * S256x2048.size d + 1 * (ix2 r k d).val = _
  rw [place0]
  fin_cases d
  · show (crd a t 1).val * 256 + 1 * r.val = (crd a t 1).val * 256 + r.val
    omega
  · show 0 * 2048 + 1 * k.val = k.val
    omega

/-- An entry of the gate weights' block. -/
theorem gblk_read (c : Dev nD) (t : Fin (cfgA a).N) (k : Fin 2048) (j : Fin 512) (e : Fin 8) (he : e.val = (word a.1 (tile (crd a t))).toNat)
    (hj : (crd a t 0).val * 512 + j.val < 14336) :
    gblk a m c t (ix3 0 k j) = m ((c : Thread nD τ).loc main_arg3) (ix3 e k ⟨(crd a t 0).val * 512 + j, hj⟩) := by
  refine congrArg (m ((c : Thread nD τ).loc main_arg3)) (funext fun d => Fin.ext ?_)
  show cc0_transform_1 k0_off1_inb numel1_S1 a.1 (crd a t) d * S1x2048x512.size d + 1 * (ix3 (n0 := 1) 0 k j d).val = _
  rw [place1]
  fin_cases d
  · show (word a.1 (tile (crd a t))).toNat * 1 + 1 * 0 = e.val
    omega
  · show 0 * 2048 + 1 * k.val = k.val
    omega
  · show (crd a t 0).val * 512 + 1 * j.val = (crd a t 0).val * 512 + j.val
    omega

/-- An entry of the up weights' block. -/
theorem ublk_read (c : Dev nD) (t : Fin (cfgA a).N) (k : Fin 2048) (j : Fin 512) (e : Fin 8) (he : e.val = (word a.1 (tile (crd a t))).toNat)
    (hj : ((crd a t 0).val + 14) * 512 + j.val < 14336) :
    ublk a m c t (ix3 0 k j) = m ((c : Thread nD τ).loc main_arg3) (ix3 e k ⟨((crd a t 0).val + 14) * 512 + j, hj⟩) := by
  refine congrArg (m ((c : Thread nD τ).loc main_arg3)) (funext fun d => Fin.ext ?_)
  show cc0_transform_2 k0_off1_inb numel1_S1 a.1 (crd a t) d * S1x2048x512.size d + 1 * (ix3 (n0 := 1) 0 k j d).val = _
  rw [place2]
  fin_cases d
  · show (word a.1 (tile (crd a t))).toNat * 1 + 1 * 0 = e.val
    omega
  · show 0 * 2048 + 1 * k.val = k.val
    omega
  · show ((crd a t 0).val + 14) * 512 + 1 * j.val = ((crd a t 0).val + 14) * 512 + j.val
    omega

/-- What point `t` stores is `D` of the arguments at the place of its block. -/
theorem point (c : Dev nD) (h : ∀ x, (word a.1 x).toNat < 8) (t : Fin (cfgA a).N) (y : S256x512.Idx) :
    outAfter (crd a t) (tab1 a) (xblk a m c t) (convG a m c t) (convU a m c t) y
      = D (m ((c : Thread nD τ).loc main_arg0)) (tab0 a) (tab1 a) (m ((c : Thread nD τ).loc main_arg3))
          ((((cfgA a).win (3 : Fin 4)).blk t).view.emb y) := by
  idx_vars y
  have h0 : (crd a t 0).val < 14 := (crd a t 0).isLt
  have h1 : (crd a t 1).val < 136 := (crd a t 1).isLt
  have eo : (((cfgA a).win (3 : Fin 4)).blk t).view.emb (ix2 y0 y1)
      = ix2 (⟨(crd a t 1).val * 256 + y0, by omega⟩ : Fin 34816) (⟨(crd a t 0).val * 512 + y1, by omega⟩ : Fin 7168) := by
    refine funext fun d => Fin.ext ?_
    show cc0_transform_3 (crd a t) d * S256x512.size d + 1 * (ix2 y0 y1 d).val = _
    rw [place3]
    fin_cases d
    · show (crd a t 1).val * 256 + 1 * y0.val = (crd a t 1).val * 256 + y0.val
      omega
    · show (crd a t 0).val * 512 + 1 * y1.val = (crd a t 0).val * 512 + y1.val
      omega
  rw [eo]
  have ed : ((crd a t 1).val * 256 + y0.val) / 256 = (crd a t 1).val := by omega
  unfold outAfter D
  by_cases hu : used (crd a t) (tab1 a)
  · have hn := (used_iff _ _).1 hu
    rw [← ed] at hn
    refine (congrFun (if_pos hu) _).trans (Eq.trans ?_ (if_pos hn).symm)
    have et : tile (crd a t) = ix1 ⟨((crd a t 1).val * 256 + y0.val) / 256, by omega⟩ := by
      refine funext fun d => Fin.ext ?_
      fin_cases d
      exact ed.symm
    have ee : (expert (tab0 a) ⟨((crd a t 1).val * 256 + y0.val) / 256, by omega⟩).val = (word a.1 (tile (crd a t))).toNat := by
      have hw := h (tile (crd a t))
      rw [et] at hw ⊢
      exact Nat.mod_eq_of_lt hw
    have eg : (∑ k : Fin 2048, xblk a m c t (ix2 y0 k) * gblk a m c t (ix3 0 k y1))
        = dotRow (m ((c : Thread nD τ).loc main_arg0)) (m ((c : Thread nD τ).loc main_arg3)) ⟨(crd a t 1).val * 256 + y0, by omega⟩
            ⟨(crd a t 0).val * 512 + y1, by omega⟩ (expert (tab0 a) ⟨((crd a t 1).val * 256 + y0.val) / 256, by omega⟩) :=
      Finset.sum_congr rfl fun k _ => Ideal.mul_congr (xblk_read a m c t y0 k _) (gblk_read a m c t k y1 _ ee _)
    have eu : (∑ k : Fin 2048, xblk a m c t (ix2 y0 k) * ublk a m c t (ix3 0 k y1))
        = dotRow (m ((c : Thread nD τ).loc main_arg0)) (m ((c : Thread nD τ).loc main_arg3)) ⟨(crd a t 1).val * 256 + y0, by omega⟩
            ⟨7168 + ((crd a t 0).val * 512 + y1), by omega⟩ (expert (tab0 a) ⟨((crd a t 1).val * 256 + y0.val) / 256, by omega⟩) := by
      have ej : (⟨7168 + ((crd a t 0).val * 512 + y1.val), by omega⟩ : Fin 14336) = ⟨((crd a t 0).val + 14) * 512 + y1.val, by omega⟩ :=
        Fin.ext (by show 7168 + ((crd a t 0).val * 512 + y1.val) = ((crd a t 0).val + 14) * 512 + y1.val; omega)
      rw [ej]
      exact Finset.sum_congr rfl fun k _ => Ideal.mul_congr (xblk_read a m c t y0 k _) (ublk_read a m c t k y1 _ ee _)
    refine (pay_read _ _ _ _ _).trans ?_
    rw [eg, eu]
    rfl
  · have hn : ¬ inUse (tab1 a (ix1 0)) (((crd a t 1).val * 256 + y0.val) / 256) := by
      rw [ed]; exact fun x => hu ((used_iff _ _).2 x)
    refine (congrFun (if_neg hu) _).trans (Eq.trans ?_ (if_neg hn).symm)
    exact zero_read _

/-- The contents of the tables that are zero everywhere. -/
def zeroTables : (pcfg0 (F := Ideal)).Adm :=
  ⟨fun j => match j with | ⟨0, _⟩ => (fun _ => 0#32 : S136.Idx → BitVec 32) | ⟨1, _⟩ => (fun _ => 0#32 : S1.Idx → BitVec 32), ok_of_lt _ fun _ => (by decide : (0#32).toNat < 8)⟩

/-- The output blocks cover the result array, whatever the tables hold. -/
theorem covers : ((cfgA a).win (3 : Fin 4)).Covers :=
  (by decide +kernel : ((cfgA zeroTables).win (3 : Fin 4)).Covers)

/-- The result array after the run is `D` of the arguments. -/
theorem final (c : Dev nD) (h : ∀ x, (word a.1 x).toNat < 8) :
    (dats a m 0 c).arrAt (3 : Fin 4) (cfgA a).N
      = D (m ((c : Thread nD τ).loc main_arg0)) (tab0 a) (tab1 a) (m ((c : Thread nD τ).loc main_arg3)) := by
  refine (dats a m 0 c).arrAt_eq_of_covers (3 : Fin 4) _ (covers a) fun t _ y => ?_
  exact point a m c h t y

end Kernel

/-- The precondition, read at an entry of the table: it is below eight. -/
theorem lt_of_pre {F : FTy → Type} [FloatOps F] (x0 : FVec F Cert.Pre_tables_up.S34816x2048 .bf16)
    (x1 : IVec Cert.Pre_tables_up.S136 32) (x2 : IVec Cert.Pre_tables_up.S1 32)
    (x3 : FVec F Cert.Pre_tables_up.S8x2048x14336 .f32)
    (h : Cert.Pre_tables_up.fn (F := F) x0 x1 x2 x3 = fun _ => 1#1) (i : Cert.Pre_tables_up.S136.Idx) : (x1 i).toNat < 8 := by
  have h1 := congrFun h ix0
  unfold Cert.Pre_tables_up.fn at h1
  haveI : Subsingleton Cert.Pre_tables_up.S_.Idx := ⟨fun a b => funext fun k => k.elim0⟩
  have hand : ∀ p q : BitVec 1, IntOp.andi p q = 1#1 → p = 1#1 ∧ q = 1#1 := by decide
  obtain ⟨ha, hb⟩ := hand _ _ h1
  exact word_lt (Host.reduce_andi_all _ _ _ _ _ ha i) (Host.reduce_andi_all _ _ _ _ _ hb i)

/-- `Cert.quiescent_ExpertUpRefIdeal`: the reference's run read at its arguments; it declares no semaphore. -/
theorem frame_ref : Cert.quiescent_ExpertUpRefIdeal := fun m g _ =>
  (θ_run Cert.ExpertUpRefIdeal.defs _ _).mono (fun r h => ⟨fun c => (h c).2, sem_eq_zero_of_no_sems (by decide) r.2⟩)
    (Cert.ExpertUpRefIdeal.Value.run m g)

/-- `Cert.quiescent_ExpertUp`: the kernel as compiled leaves its arguments as they were. -/
theorem frame : Cert.quiescent_ExpertUp := fun m g hpre =>
  have h : ∀ c x, _ := fun c x => lt_of_pre _ _ _ _ (hpre c) x
  (θ_run _ _ _).mono (fun _ r => ⟨fun c => (r.1 c).1, r.2⟩)
    (Cert.ExpertUp.Walk.run_frame (Cert.ExpertUp.Walk.admOf m h) m g (Cert.ExpertUp.Walk.admOf_eq m h))

/-- `Cert.quiescent_ExpertUpIdeal`: so does the idealized kernel. -/
theorem frame_ideal : Cert.quiescent_ExpertUpIdeal := fun m g hpre =>
  have h : ∀ c x, _ := fun c x => lt_of_pre _ _ _ _ (hpre c) x
  (θ_run _ _ _).mono (fun _ r => ⟨fun c => (r.1 c).1, r.2⟩)
    (Cert.ExpertUpIdeal.Walk.run_frame (Cert.ExpertUpIdeal.Walk.admOf m h) m g (Cert.ExpertUpIdeal.Walk.admOf_eq m h))

/-- The algebraic claim: the kernel's result array and the reference's result are one function of equal arguments. -/
theorem agree : Cert.algebraic_ExpertUpIdeal_ExpertUpRefIdeal := by
  intro m g m' g' hpre hargs
  have h : ∀ (c : Dev Cert.ExpertUpIdeal.nD) x, (Cert.ExpertUpIdeal.Walk.word (F := Ideal)
      (fun j => m ((c : Thread Cert.ExpertUpIdeal.nD Cert.ExpertUpIdeal.τ).loc (Cert.ExpertUpIdeal.pre0.ref j))) x).toNat < 8 :=
    fun c x => lt_of_pre _ _ _ _ (hpre c) x
  refine ⟨fun c => (Cert.ExpertUpIdeal.Walk.dats (Cert.ExpertUpIdeal.Walk.admOf m h) m 0 c).arrAt (3 : Fin 4)
    (Cert.ExpertUpIdeal.Walk.cfgA (Cert.ExpertUpIdeal.Walk.admOf m h)).N, ?_, ?_⟩
  · refine (θ_run _ _ _).mono (fun _ r c => ⟨(r.1 c).2, (r.1 c).1⟩)
      (Cert.ExpertUpIdeal.Walk.run_frame (Cert.ExpertUpIdeal.Walk.admOf m h) m g (Cert.ExpertUpIdeal.Walk.admOf_eq m h))
  refine (θ_run _ _ _).mono (fun r hr c => ?_) (Cert.ExpertUpRefIdeal.Value.run m' g')
  obtain ⟨h0, h1, h2, h3, h4⟩ := hr c
  refine ⟨?_, h1, h2, h3, h4⟩
  obtain ⟨a0, a1, a2, a3⟩ := hargs c
  rw [h0, Cert.ExpertUpRefIdeal.Read.val_main_v101_eq, a0, a1, a2, a3]
  refine (ref_eq _ _ _ _ (fun x => h c x)).trans (Eq.trans ?_ (final (Cert.ExpertUpIdeal.Walk.admOf m h) m c (h 0)).symm)
  obtain rfl : c = 0 := Subsingleton.elim _ _
  rfl

end Cert.Proof.UpClaim

end
-- ==== Proof.DenseMath.lean ====
module

public import Idealize.ShloMosaic.Lib.VecWindow
public import Idealize.ShloMosaic.Lib.Pipeline.ValueKit

/-! What the dense products share: a buffer read whole, and an induction along the row tiles of one column of blocks. -/

@[expose] public section

noncomputable section

namespace Cert.Proof.DenseMath

open Idealize.ShloMosaic

/-- A whole buffer holding `x`, read whole, gives `x`. -/
theorem readAt_whole {sig : RefSig} {Val : EltTy → Type} [∀ e, Nonempty (Val e)] {sp : Space} {s : Shape} {e : EltTy} (a : Memref sig .tc sp s e) (h : a.IsWhole) (x : s.Idx → Val e)
    {off : Fin s.rank → ℕ} (inb : ∀ d, off d + s.size d ≤ s.size d) :
    View.readAt Val a.view (Rect.unit off s.size inb).toLoadRect (h.unread x) = x :=
  (View.readAt_full _ _ _).trans (h.read_unread x)

/-- A value that is renewed at the first row tile of each column and kept at the others is, at every position, the one
renewed from that position's own block, when the block is the same along a column. -/
theorem carried {A : Type} {N K : ℕ} (s w : (n : ℕ) → n < N → A) (h0 : ∀ n hn, n % K = 0 → s n hn = w n hn)
    (h1 : ∀ n hn, ¬ n % K = 0 → s n hn = s (n - 1) (lt_of_le_of_lt (Nat.sub_le _ _) hn))
    (hw : ∀ n hn, ¬ n % K = 0 → w n hn = w (n - 1) (lt_of_le_of_lt (Nat.sub_le _ _) hn)) : ∀ n hn, s n hn = w n hn := by
  intro n
  induction n with
  | zero => exact fun hn => h0 0 hn (Nat.zero_mod _)
  | succ n ih =>
    intro hn
    by_cases h : (n + 1) % K = 0
    · exact h0 _ hn h
    · exact (h1 _ hn h).trans ((ih _).trans (hw _ hn h).symm)

/-- What a kernel stores that multiplies each row tile with its column's weight block, converted at the column's first row tile
and kept for the others: the product with the point's own block, converted. Here `o` is what the point leaves, its output and
the kept block. -/
theorem streamed {A B C W : Type} {N K : ℕ} (o : (n : ℕ) → n < N → C × A) (x : (n : ℕ) → n < N → B) (w : (n : ℕ) → n < N → W)
    (conv : W → A) (mul : B → A → C) (first : ∀ n hn, n % K = 0 → o n hn = (mul (x n hn) (conv (w n hn)), conv (w n hn)))
    (later : ∀ n hn, ¬ n % K = 0 → o n hn = (mul (x n hn) (o (n - 1) (lt_of_le_of_lt (Nat.sub_le _ _) hn)).2, (o (n - 1) (lt_of_le_of_lt (Nat.sub_le _ _) hn)).2))
    (same : ∀ n hn, ¬ n % K = 0 → w n hn = w (n - 1) (lt_of_le_of_lt (Nat.sub_le _ _) hn)) (n : ℕ) (hn : n < N) :
    (o n hn).1 = mul (x n hn) (conv (w n hn)) := by
  by_cases h : n % K = 0
  · rw [first n hn h]
  · rw [later n hn h, same n hn h]
    exact congrArg (mul (x n hn)) (carried (K := K) (fun n hn => (o n hn).2) (fun n hn => conv (w n hn))
      (fun n hn h => (congrArg Prod.snd (first n hn h) : _)) (fun n hn h => (congrArg Prod.snd (later n hn h) : _))
      (fun n hn h => congrArg conv (same n hn h)) _ _)

/-- An index of a matrix at place `p` of blocks of sizes `s`, offset `y`, by its row and column. -/
theorem block_ix {a b : ℕ} (i : (⟨2, ![a, b]⟩ : Shape).Idx) (p s y : Fin 2 → ℕ) {r : Fin a} {c : Fin b}
    (h : ∀ d, (i d).val = p d * s d + 1 * y d) (hr : p 0 * s 0 + y 0 = r.val) (hc : p 1 * s 1 + y 1 = c.val) : i = ix2 r c := by
  refine funext fun d => Fin.ext ?_
  have e := h d
  fin_cases d
  · exact e.trans (by rw [one_mul]; exact hr)
  · exact e.trans (by rw [one_mul]; exact hc)

/-- A matrix product's entry: the row times the column. -/
def rowCol {a k b : ℕ} (X : (⟨2, ![a, k]⟩ : Shape).Idx → EReal) (W : (⟨2, ![k, b]⟩ : Shape).Idx → EReal)
    (o : (⟨2, ![a, b]⟩ : Shape).Idx) : EReal := ∑ i : Fin k, X (ix2 (o 0) i) * W (ix2 i (o 1))

/-- What point `n` stores, entry by entry, is the matrix product at the block's place, when the blocks it reads are the row tile
`I n` of `X` and the column tile `J n` of `W`, the column tile is the previous point's unless `n` begins a column, and the
body's product is, entry by entry, the row times the column. -/
theorem tiled {A : Type} {N K a k b ta tb : ℕ} {X : (⟨2, ![a, k]⟩ : Shape).Idx → EReal} {W : (⟨2, ![k, b]⟩ : Shape).Idx → EReal}
    {o : (n : ℕ) → n < N → ((⟨2, ![ta, tb]⟩ : Shape).Idx → EReal) × A} {x : (n : ℕ) → n < N → (⟨2, ![ta, k]⟩ : Shape).Idx → EReal}
    {w : (n : ℕ) → n < N → (⟨2, ![k, tb]⟩ : Shape).Idx → EReal} {conv : ((⟨2, ![k, tb]⟩ : Shape).Idx → EReal) → A}
    {mul : ((⟨2, ![ta, k]⟩ : Shape).Idx → EReal) → A → (⟨2, ![ta, tb]⟩ : Shape).Idx → EReal} {I J : (n : ℕ) → n < N → ℕ}
    (pay : ∀ x w r j, mul x (conv w) (ix2 r j) = ∑ i : Fin k, x (ix2 r i) * w (ix2 i j))
    (first : ∀ n hn, n % K = 0 → o n hn = (mul (x n hn) (conv (w n hn)), conv (w n hn)))
    (later : ∀ n hn, ¬ n % K = 0 → o n hn = (mul (x n hn) (o (n - 1) (lt_of_le_of_lt (Nat.sub_le _ _) hn)).2, (o (n - 1) (lt_of_le_of_lt (Nat.sub_le _ _) hn)).2))
    (rows : ∀ n hn r i (R : Fin a), I n hn * ta + r.val = R.val → x n hn (ix2 r i) = X (ix2 R i))
    (cols : ∀ n hn i j (C : Fin b), J n hn * tb + j.val = C.val → w n hn (ix2 i j) = W (ix2 i C))
    (fits : ∀ n hn, J n hn * tb + tb ≤ b)
    (column : ∀ n hn, ¬ n % K = 0 → J (n - 1) (lt_of_le_of_lt (Nat.sub_le _ _) hn) = J n hn)
    (n : ℕ) (hn : n < N) (r : Fin ta) (j : Fin tb) (R : Fin a) (C : Fin b) (hR : I n hn * ta + r.val = R.val)
    (hC : J n hn * tb + j.val = C.val) : (o n hn).1 (ix2 r j) = rowCol X W (ix2 R C) := by
  rw [streamed (K := K) o x w conv mul first later ?_ n hn]
  · exact (pay _ _ _ _).trans (Finset.sum_congr rfl fun i _ => Ideal.mul_congr (rows n hn r i R hR) (cols n hn i j C hC))
  · intro n hn h
    funext y
    obtain ⟨y0, y1, rfl⟩ : ∃ (i : Fin k) (j : Fin tb), y = ix2 i j := ⟨y 0, y 1, funext fun d => by fin_cases d <;> rfl⟩
    have hf := fits n hn
    have e := column n hn h
    exact (cols n hn y0 y1 ⟨J n hn * tb + y1, by omega⟩ rfl).trans (cols _ _ y0 y1 _ (by rw [e])).symm

/-- The number of a row tile's column does not change inside the column. -/
theorem div_pred {n K : ℕ} (h : ¬ n % K = 0) : (n - 1) / K = n / K := by
  have hd := Nat.div_add_mod n K
  rcases Nat.eq_zero_or_pos K with rfl | hK
  · simp
  have hm := Nat.mod_lt n hK
  refine Nat.div_eq_of_lt_le ?_ ?_
  · rw [Nat.mul_comm]; omega
  · rw [Nat.add_mul, Nat.mul_comm, one_mul]; omega

end Cert.Proof.DenseMath

end
-- ==== Proof.InClaim.lean ====
/- The gated delta rule's projection: the result array and the reference's result are one function of the arguments. -/
module

public import proofs.«01_k».proof.Defs
public import proofs.«01_k».proof.Proof.Gen.GdnIn.Frame
public import proofs.«01_k».proof.Proof.Gen.GdnInIdeal.Frame
public import proofs.«01_k».proof.Proof.Gen.GdnInRefIdeal.Run
public import proofs.«01_k».proof.Proof.Gen.GdnInRefIdeal.Read
public import proofs.«01_k».proof.Proof.DenseMath
public import Idealize.ShloMosaic.Lib.Quiescent

@[expose] public section

set_option maxRecDepth 16384

noncomputable section

namespace Cert.Proof.InClaim

open Idealize.ShloMosaic Idealize.ShloMosaic.TcCoe Idealize.SL.Sem
open Cert.Proof.DenseMath

/-- The result array as one function of the arguments: each row times each of the first 12288 columns. -/
def D (x0 : FVec Ideal Cert.GdnInRefIdeal.S17408x2048 .bf16) (x1 : FVec Ideal Cert.GdnInRefIdeal.S2048x12416 .f32)
    (o : Cert.GdnInRefIdeal.S17408x12288.Idx) : EReal :=
  ∑ k : Fin 2048, x0 (ix2 (o 0) k) * x1 (ix2 k ⟨(o 1).val, lt_trans (o 1).isLt (by decide)⟩)

section Reference

open Cert.GdnInRefIdeal Cert.GdnInRefIdeal.Read

/-- The reference's result is `D`. -/
theorem ref_eq (x0 : FVec Ideal S17408x2048 .bf16) (x1 : FVec Ideal S2048x12416 .f32) : val_main_v3 (F := Ideal) x0 x1 = D x0 x1 := by
  funext o
  idx_vars o
  unfold D
  pointwise [val_main_v3, val_main_v2, val_main_v1, val_main_v0]

end Reference

section Kernel

open Cert.GdnInIdeal Cert.GdnInIdeal.Gen

/-- What the body stores at the first row tile of a column: the product with the block it has just converted. -/
theorem out_first (c : Dev nD) (i : grid0.Coords) (a2 : Memref sig .tc .vmem S1024x2048 .bf16) (h2 : a2.IsWhole)
    (a3 : Memref sig .tc .vmem S2048x1024 .f32) (h3 : a3.IsWhole) (a4 : Memref sig .tc .vmem S1024x1024 .bf16) (h4 : a4.IsWhole)
    (a5 : Memref sig .tc .vmem S2048x1024 .bf16) (h5 : a5.IsWhole) (hc : cond0_0 i) (x0 : Vec Ideal S1024x2048 .bf16) (x1 : Vec Ideal S2048x1024 .f32) :
    out0_A_2 c i a2 h2 a3 h3 a4 h4 a5 h5 hc x0 x1 = k0_pay2 x0 (k0_pay1 x1) := by
  unfold out0_A_2 kernelRun0_A
  dsimp only
  refine (View.read_writes_full _ _ _ _ _).trans ?_
  exact congrArg₂ k0_pay2 (readAt_whole _ h2 x0 _) ((View.readCov_full _ _ _ _ _).trans (congrArg k0_pay1 (readAt_whole _ h3 x1 _)))

/-- What it leaves there in the scratch buffer: the converted block. -/
theorem scratch_first (c : Dev nD) (i : grid0.Coords) (a2 : Memref sig .tc .vmem S1024x2048 .bf16) (h2 : a2.IsWhole)
    (a3 : Memref sig .tc .vmem S2048x1024 .f32) (h3 : a3.IsWhole) (a4 : Memref sig .tc .vmem S1024x1024 .bf16) (h4 : a4.IsWhole)
    (a5 : Memref sig .tc .vmem S2048x1024 .bf16) (h5 : a5.IsWhole) (hc : cond0_0 i) (x0 : Vec Ideal S1024x2048 .bf16) (x1 : Vec Ideal S2048x1024 .f32) :
    sout0_A_0 c i a2 h2 a3 h3 a4 h4 a5 h5 hc x0 x1 = k0_pay1 x1 := by
  unfold sout0_A_0 kernelRun0_A
  dsimp only
  exact (View.read_writes_full _ _ _ _ _).trans (congrArg k0_pay1 (readAt_whole _ h3 x1 _))

/-- What the body stores at a later row tile: the product with what the scratch buffer holds. -/
theorem out_later (c : Dev nD) (i : grid0.Coords) (a2 : Memref sig .tc .vmem S1024x2048 .bf16) (h2 : a2.IsWhole)
    (a3 : Memref sig .tc .vmem S2048x1024 .f32) (h3 : a3.IsWhole) (a4 : Memref sig .tc .vmem S1024x1024 .bf16) (h4 : a4.IsWhole)
    (a5 : Memref sig .tc .vmem S2048x1024 .bf16) (h5 : a5.IsWhole) (hc : ¬ cond0_0 i) (x0 : Vec Ideal S1024x2048 .bf16) (x1 : Vec Ideal S2048x1024 .f32)
    (xs : Vec Ideal S2048x1024 .bf16) :
    out0_B_2 c i a2 h2 a3 h3 a4 h4 a5 h5 hc x0 x1 xs = k0_pay2 x0 xs := by
  unfold out0_B_2 kernelRun0_B
  dsimp only
  exact (View.read_writes_full _ _ _ _ _).trans (congrArg₂ k0_pay2 (readAt_whole _ h2 x0 _) (readAt_whole _ h5 xs _))

variable (m : (ℓ : Loc nD τ sig) → Buf (Elt Ideal) ℓ)

/-- The coordinates of a point: the column of blocks, then the row tile. -/
theorem crd_val : ∀ t : Fin grid0.N, (grid0.coords t 0).val = t.val / 17 ∧ (grid0.coords t 1).val = t.val % 17 := by decide +kernel
/-- The places of the three windows' blocks. -/
theorem place0 : ∀ i : grid0.Coords, cc0_transform_0 i = ![(i 1).val, 0] := by decide +kernel
theorem place1 : ∀ i : grid0.Coords, cc0_transform_1 i = ![0, (i 0).val] := by decide +kernel
theorem place2 : ∀ i : grid0.Coords, cc0_transform_2 i = ![(i 1).val, (i 0).val] := by decide +kernel

/-- An entry of the rows' block. -/
theorem rows_read (c : Dev nD) (t : Fin cfg0.N) (r : Fin 1024) (k : Fin 2048) (hr : (grid0.coords t 1).val * 1024 + r.val < 17408) :
    (iblk m c 0 t : Vec Ideal S1024x2048 .bf16) (ix2 r k) = m ((c : Thread nD τ).loc main_arg0) (ix2 ⟨(grid0.coords t 1).val * 1024 + r, hr⟩ k) := by
  refine congrArg (m ((c : Thread nD τ).loc main_arg0)) (funext fun d => Fin.ext ?_)
  show cc0_transform_0 (grid0.coords t) d * S1024x2048.size d + 1 * (ix2 r k d).val = _
  rw [place0]
  fin_cases d
  · show (grid0.coords t 1).val * 1024 + 1 * r.val = (grid0.coords t 1).val * 1024 + r.val
    omega
  · show 0 * 2048 + 1 * k.val = k.val
    omega

/-- An entry of the weights' block. -/
theorem cols_read (c : Dev nD) (t : Fin cfg0.N) (k : Fin 2048) (j : Fin 1024) (hj : (grid0.coords t 0).val * 1024 + j.val < 12416) :
    (X0_1 m c t : Vec Ideal S2048x1024 .f32) (ix2 k j) = m ((c : Thread nD τ).loc main_arg1) (ix2 k ⟨(grid0.coords t 0).val * 1024 + j, hj⟩) := by
  refine (dif_pos (moved0_1 t (ix2 k j))).trans ?_
  refine congrArg (m ((c : Thread nD τ).loc main_arg1)) (funext fun d => Fin.ext ?_)
  show cc0_transform_1 (grid0.coords t) d * S2048x1024.size d + 1 * (ix2 k j d).val = _
  rw [place1]
  fin_cases d
  · show 0 * 2048 + 1 * k.val = k.val
    omega
  · show (grid0.coords t 0).val * 1024 + 1 * j.val = (grid0.coords t 0).val * 1024 + j.val
    omega

/-- Along a column of blocks the weights' block stays the same. -/
theorem cols_prev (c : Dev nD) (n : ℕ) (hn : n < cfg0.N) (h : ¬ n % 17 = 0) :
    (X0_1 m c ⟨n, hn⟩ : Vec Ideal S2048x1024 .f32) = X0_1 m c ⟨n - 1, lt_of_le_of_lt (Nat.sub_le _ _) hn⟩ := by
  funext y
  idx_vars y
  have e : (grid0.coords ⟨n, hn⟩ 0).val = (grid0.coords ⟨n - 1, lt_of_le_of_lt (Nat.sub_le _ _) hn⟩ 0).val := by
    refine (crd_val ⟨n, hn⟩).1.trans (Eq.trans ?_ (crd_val ⟨n - 1, _⟩).1.symm)
    show n / 17 = (n - 1) / 17
    omega
  have h0 : (grid0.coords ⟨n, hn⟩ 0).val < 12 := (grid0.coords ⟨n, hn⟩ 0).isLt
  rw [cols_read m c ⟨n, hn⟩ y0 y1 (by omega), cols_read m c ⟨n - 1, _⟩ y0 y1 (by omega)]
  exact congrArg (m ((c : Thread nD τ).loc main_arg1)) (congrArg (ix2 y0) (Fin.ext (by show _ * 1024 + y1.val = _ * 1024 + y1.val; rw [e])))

/-- The first row tile of a column: what the buffers hold after the point. -/
theorem step_first (c : Dev nD) (t : Fin cfg0.N) (h : t.val % 17 = 0) :
    outsAt0 m c t.val t.isLt = (k0_pay2 (iblk m c 0 t) (k0_pay1 (X0_1 m c t)), k0_pay1 (X0_1 m c t)) := by
  rw [outsAt0_A m c t h, out_first, scratch_first]

/-- A later row tile: what the buffers hold after the point. -/
theorem step_later (c : Dev nD) (t : Fin cfg0.N) (h : ¬ t.val % 17 = 0) :
    outsAt0 m c t.val t.isLt
      = (k0_pay2 (iblk m c 0 t) (outsAt0 m c (t.val - 1) (lt_of_le_of_lt (Nat.sub_le _ _) t.isLt)).2,
          (outsAt0 m c (t.val - 1) (lt_of_le_of_lt (Nat.sub_le _ _) t.isLt)).2) := by
  rw [outsAt0_B m c t h, out_later]
  rfl

/-- The scratch buffer after a point: the point's weight block, converted. -/
theorem scratch_eq (c : Dev nD) : ∀ n hn, (outsAt0 m c n hn).2 = k0_pay1 (X0_1 m c ⟨n, hn⟩) :=
  carried (K := 17) (fun n hn => (outsAt0 m c n hn).2) (fun n hn => k0_pay1 (X0_1 m c ⟨n, hn⟩))
    (fun n hn h => congrArg Prod.snd (step_first m c ⟨n, hn⟩ h)) (fun n hn h => (congrArg Prod.snd (step_later m c ⟨n, hn⟩ h) : _))
    (fun n hn h => congrArg k0_pay1 (cols_prev m c n hn h))

/-- The output's buffer after a point: the product of the point's rows with its converted block. -/
theorem out_eq (c : Dev nD) (t : Fin cfg0.N) : (outsAt0 m c t.val t.isLt).1 = k0_pay2 (iblk m c 0 t) (k0_pay1 (X0_1 m c t)) := by
  by_cases h : t.val % 17 = 0
  · rw [step_first m c t h]
  · rw [step_later m c t h, scratch_eq, cols_prev m c t.val t.isLt h]

/-- What a point stores, entry by entry. -/
theorem pay_read (x : FVec Ideal S1024x2048 .bf16) (w : FVec Ideal S2048x1024 .f32) (r : Fin 1024) (j : Fin 1024) :
    k0_pay2 (F := Ideal) x (k0_pay1 (F := Ideal) w) (ix2 r j) = ∑ k : Fin 2048, x (ix2 r k) * w (ix2 k j) := by
  pointwise [k0_pay2, k0_pay1]

/-- What point `t` stores is `D` of the arguments at the place of its block. -/
theorem point (c : Dev nD) (t : Fin cfg0.N) (y : S1024x1024.Idx) :
    (outsAt0 m c t.val t.isLt).1 y
      = D (m ((c : Thread nD τ).loc main_arg0)) (m ((c : Thread nD τ).loc main_arg1)) (((cfg0.win 2).blk t).view.emb y) := by
  idx_vars y
  have h0 : (grid0.coords t 0).val < 12 := (grid0.coords t 0).isLt
  have h1 : (grid0.coords t 1).val < 17 := (grid0.coords t 1).isLt
  have eo : ((cfg0.win 2).blk t).view.emb (ix2 y0 y1)
      = ix2 (⟨(grid0.coords t 1).val * 1024 + y0, by omega⟩ : Fin 17408) (⟨(grid0.coords t 0).val * 1024 + y1, by omega⟩ : Fin 12288) := by
    refine funext fun d => Fin.ext ?_
    show cc0_transform_2 (grid0.coords t) d * S1024x1024.size d + 1 * (ix2 y0 y1 d).val = _
    rw [place2]
    fin_cases d
    · show (grid0.coords t 1).val * 1024 + 1 * y0.val = (grid0.coords t 1).val * 1024 + y0.val
      omega
    · show (grid0.coords t 0).val * 1024 + 1 * y1.val = (grid0.coords t 0).val * 1024 + y1.val
      omega
  rw [eo, out_eq]
  refine (pay_read _ _ _ _).trans ?_
  exact Finset.sum_congr rfl fun k _ => Ideal.mul_congr (rows_read m c t y0 k _) (cols_read m c t k y1 _)

/-- The output blocks cover the result array. -/
theorem covers : (cfg0.win 2).Covers := by decide +kernel

/-- The result array after the run is `D` of the arguments. -/
theorem final (c : Dev nD) :
    (dats m 0 c).arrAt 2 cfg0.N = D (m ((c : Thread nD τ).loc main_arg0)) (m ((c : Thread nD τ).loc main_arg1)) :=
  (dats m 0 c).arrAt_eq_of_covers 2 _ covers fun t _ y => point m c t y

end Kernel

/-- `Cert.quiescent_GdnInRefIdeal`: the reference's run read at its arguments; it declares no semaphore. -/
theorem frame_ref : Cert.quiescent_GdnInRefIdeal := fun m g _ =>
  (θ_run Cert.GdnInRefIdeal.defs _ _).mono (fun r h => ⟨fun c => (h c).2, sem_eq_zero_of_no_sems (by decide) r.2⟩)
    (Cert.GdnInRefIdeal.Value.run m g)

/-- The algebraic claim: the kernel's result array and the reference's result are one function of equal arguments. -/
theorem agree : Cert.algebraic_GdnInIdeal_GdnInRefIdeal := by
  intro m g m' g' _ hargs
  refine ⟨fun c => (Cert.GdnInIdeal.Gen.dats m 0 c).arrAt 2 Cert.GdnInIdeal.cfg0.N, ?_, ?_⟩
  · exact (θ_run _ _ _).mono (fun r h c => ⟨(h.1 c).1 2, h.2 c⟩) (θ_run_and (Cert.GdnInIdeal.Gen.run_main m g) (Cert.GdnInIdeal.Gen.unchanged m g))
  refine (θ_run _ _ _).mono (fun r hr c => ?_) (Cert.GdnInRefIdeal.Value.run m' g')
  obtain ⟨h0, h1, h2⟩ := hr c
  refine ⟨?_, h1, h2⟩
  obtain ⟨a0, a1⟩ := hargs c
  rw [h0, Cert.GdnInRefIdeal.Read.val_main_v3_eq, a0, a1]
  exact (ref_eq _ _).trans (final m c).symm

end Cert.Proof.InClaim

end
-- ==== Proof.FfnClaim.lean ====
/- The dense feed-forward's gate and up projections: the result array and the reference's result are one function of the
   arguments. -/
module

public import proofs.«01_k».proof.Defs
public import proofs.«01_k».proof.Proof.Gen.FfnUp.Frame
public import proofs.«01_k».proof.Proof.Gen.FfnUpIdeal.Frame
public import proofs.«01_k».proof.Proof.Gen.FfnUpRefIdeal.Run
public import proofs.«01_k».proof.Proof.Gen.FfnUpRefIdeal.Read
public import proofs.«01_k».proof.Proof.DenseMath
public import Idealize.ShloMosaic.Lib.Quiescent

@[expose] public section

set_option maxRecDepth 16384

noncomputable section

namespace Cert.Proof.FfnClaim

open Idealize.ShloMosaic Idealize.ShloMosaic.TcCoe Idealize.SL.Sem
open Cert.Proof.DenseMath

/-- The product of row `r` with column `j` of the weights. -/
def dotRow (x0 : FVec Ideal Cert.FfnUpRefIdeal.S17408x2048 .bf16) (x1 : FVec Ideal Cert.FfnUpRefIdeal.S2048x11264 .f32)
    (r : Fin 17408) (j : Fin 11264) : EReal :=
  ∑ k : Fin 2048, x0 (ix2 r k) * x1 (ix2 k j)

/-- The result array as one function of the arguments: the gate column's product through the sigmoid unit, times the up column's. -/
def D (x0 : FVec Ideal Cert.FfnUpRefIdeal.S17408x2048 .bf16) (x1 : FVec Ideal Cert.FfnUpRefIdeal.S2048x11264 .f32)
    (o : Cert.FfnUpRefIdeal.S17408x5632.Idx) : EReal :=
  dotRow x0 x1 (o 0) ⟨(o 1).val, lt_trans (o 1).isLt (by decide)⟩
    * Ideal.logistic (dotRow x0 x1 (o 0) ⟨(o 1).val, lt_trans (o 1).isLt (by decide)⟩)
    * dotRow x0 x1 (o 0) ⟨5632 + (o 1).val, Nat.add_lt_add_left (o 1).isLt 5632⟩

section Reference

open Cert.FfnUpRefIdeal Cert.FfnUpRefIdeal.Read

/-- The reference's result is `D`. -/
theorem ref_eq (x0 : FVec Ideal S17408x2048 .bf16) (x1 : FVec Ideal S2048x11264 .f32) : val_main_v6 (F := Ideal) x0 x1 = D x0 x1 := by
  funext o
  idx_vars o
  unfold D dotRow Ideal.logistic
  pointwise [val_main_v6, val_main_v5, val_main_v4, val_main_call0_v5, val_main_call0_v4, val_main_call0_cst_0, val_main_call0_v3,
    val_main_call0_v2, val_main_call0_cst, val_main_call0_v1, val_main_call0_v0, val_main_v3, val_main_v2, val_main_v1, val_main_v0]

end Reference

section Kernel

open Cert.FfnUpIdeal Cert.FfnUpIdeal.Gen

section Body

variable (c : Dev nD) (i : grid0.Coords) (a2 : Memref sig .tc .vmem S1024x2048 .bf16) (h2 : a2.IsWhole)
  (a3 : Memref sig .tc .vmem S2048x512 .f32) (h3 : a3.IsWhole) (a4 : Memref sig .tc .vmem S2048x512 .f32) (h4 : a4.IsWhole)
  (a5 : Memref sig .tc .vmem S1024x512 .bf16) (h5 : a5.IsWhole) (a6 : Memref sig .tc .vmem S2048x512 .bf16) (h6 : a6.IsWhole)
  (a7 : Memref sig .tc .vmem S2048x512 .bf16) (h7 : a7.IsWhole) (x0 : Vec Ideal S1024x2048 .bf16) (x1 x2 : Vec Ideal S2048x512 .f32)

/-- The gated product is one function of its three blocks. -/
theorem gated_congr {x x' : Vec Ideal S1024x2048 .bf16} {g g' u u' : Vec Ideal S2048x512 .bf16} (hx : x = x') (hg : g = g') (hu : u = u') :
    k0_pay3 x g u = k0_pay3 x' g' u' := by
  rw [hx, hg, hu]

/-- What the body stores at the first row tile of a column: the gated product with the blocks it has just converted. -/
theorem out_first (hc : cond0_0 i) :
    out0_A_3 c i a2 h2 a3 h3 a4 h4 a5 h5 a6 h6 a7 h7 hc x0 x1 x2 = k0_pay3 x0 (k0_pay1 x1) (k0_pay2 x2) := by
  unfold out0_A_3 kernelRun0_A
  dsimp only
  refine (View.read_writes_full _ _ _ _ _).trans ?_
  exact gated_congr (readAt_whole _ h2 x0 _) ((View.readCov_full _ _ _ _ _).trans (congrArg k0_pay1 (readAt_whole _ h3 x1 _)))
    ((View.readCov_full _ _ _ _ _).trans (congrArg k0_pay2 (readAt_whole _ h4 x2 _)))

/-- What it leaves there in the gate's scratch buffer: the converted block. -/
theorem gate_first (hc : cond0_0 i) : sout0_A_0 c i a2 h2 a3 h3 a4 h4 a5 h5 a6 h6 a7 h7 hc x0 x1 x2 = k0_pay1 x1 := by
  unfold sout0_A_0 kernelRun0_A
  dsimp only
  exact (View.read_writes_full _ _ _ _ _).trans (congrArg k0_pay1 (readAt_whole _ h3 x1 _))

/-- What it leaves there in the up projection's scratch buffer. -/
theorem up_first (hc : cond0_0 i) : sout0_A_1 c i a2 h2 a3 h3 a4 h4 a5 h5 a6 h6 a7 h7 hc x0 x1 x2 = k0_pay2 x2 := by
  unfold sout0_A_1 kernelRun0_A
  dsimp only
  exact (View.read_writes_full _ _ _ _ _).trans (congrArg k0_pay2 (readAt_whole _ h4 x2 _))

/-- What the body stores at a later row tile: the gated product with what the scratch buffers hold. -/
theorem out_later (hc : ¬ cond0_0 i) (g u : Vec Ideal S2048x512 .bf16) :
    out0_B_3 c i a2 h2 a3 h3 a4 h4 a5 h5 a6 h6 a7 h7 hc x0 x1 x2 g u = k0_pay3 x0 g u := by
  unfold out0_B_3 kernelRun0_B
  dsimp only
  exact (View.read_writes_full _ _ _ _ _).trans (gated_congr (readAt_whole _ h2 x0 _) (readAt_whole _ h6 g _) (readAt_whole _ h7 u _))

end Body

variable (m : (ℓ : Loc nD τ sig) → Buf (Elt Ideal) ℓ)

/-- The coordinates of a point: the column of blocks, then the row tile. -/
theorem crd_val : ∀ t : Fin grid0.N, (grid0.coords t 0).val = t.val / 17 ∧ (grid0.coords t 1).val = t.val % 17 := by decide +kernel
/-- The places of the four windows' blocks: the up weights' lie eleven column blocks further than the gate's. -/
theorem place0 : ∀ i : grid0.Coords, cc0_transform_0 i = ![(i 1).val, 0] := by decide +kernel
theorem place1 : ∀ i : grid0.Coords, cc0_transform_1 i = ![0, (i 0).val] := by decide +kernel
theorem place2 : ∀ i : grid0.Coords, cc0_transform_2 i = ![0, (i 0).val + 11] := by decide +kernel
theorem place3 : ∀ i : grid0.Coords, cc0_transform_3 i = ![(i 1).val, (i 0).val] := by decide +kernel

/-- The rows' block at a point. -/
abbrev xblk (c : Dev nD) (t : Fin cfg0.N) : Vec Ideal S1024x2048 .bf16 := iblk m c 0 t
/-- The gate weights' block at a point. -/
abbrev gblk (c : Dev nD) (t : Fin cfg0.N) : Vec Ideal S2048x512 .f32 := iblk m c 1 t
/-- The up weights' block at a point. -/
abbrev ublk (c : Dev nD) (t : Fin cfg0.N) : Vec Ideal S2048x512 .f32 := iblk m c 2 t

/-- An entry of the rows' block. -/
theorem rows_read (c : Dev nD) (t : Fin cfg0.N) (r : Fin 1024) (k : Fin 2048) (hr : (grid0.coords t 1).val * 1024 + r.val < 17408) :
    xblk m c t (ix2 r k) = m ((c : Thread nD τ).loc main_arg0) (ix2 ⟨(grid0.coords t 1).val * 1024 + r, hr⟩ k) := by
  refine congrArg (m ((c : Thread nD τ).loc main_arg0)) (funext fun d => Fin.ext ?_)
  show cc0_transform_0 (grid0.coords t) d * S1024x2048.size d + 1 * (ix2 r k d).val = _
  rw [place0]
  fin_cases d
  · show (grid0.coords t 1).val * 1024 + 1 * r.val = (grid0.coords t 1).val * 1024 + r.val
    omega
  · show 0 * 2048 + 1 * k.val = k.val
    omega

/-- An entry of the gate weights' block. -/
theorem gate_read (c : Dev nD) (t : Fin cfg0.N) (k : Fin 2048) (j : Fin 512) (hj : (grid0.coords t 0).val * 512 + j.val < 11264) :
    gblk m c t (ix2 k j) = m ((c : Thread nD τ).loc main_arg1) (ix2 k ⟨(grid0.coords t 0).val * 512 + j, hj⟩) := by
  refine congrArg (m ((c : Thread nD τ).loc main_arg1)) (funext fun d => Fin.ext ?_)
  show cc0_transform_1 (grid0.coords t) d * S2048x512.size d + 1 * (ix2 k j d).val = _
  rw [place1]
  fin_cases d
  · show 0 * 2048 + 1 * k.val = k.val
    omega
  · show (grid0.coords t 0).val * 512 + 1 * j.val = (grid0.coords t 0).val * 512 + j.val
    omega

/-- An entry of the up weights' block. -/
theorem up_read (c : Dev nD) (t : Fin cfg0.N) (k : Fin 2048) (j : Fin 512) (hj : ((grid0.coords t 0).val + 11) * 512 + j.val < 11264) :
    ublk m c t (ix2 k j) = m ((c : Thread nD τ).loc main_arg1) (ix2 k ⟨((grid0.coords t 0).val + 11) * 512 + j, hj⟩) := by
  refine congrArg (m ((c : Thread nD τ).loc main_arg1)) (funext fun d => Fin.ext ?_)
  show cc0_transform_2 (grid0.coords t) d * S2048x512.size d + 1 * (ix2 k j d).val = _
  rw [place2]
  fin_cases d
  · show 0 * 2048 + 1 * k.val = k.val
    omega
  · show ((grid0.coords t 0).val + 11) * 512 + 1 * j.val = ((grid0.coords t 0).val + 11) * 512 + j.val
    omega

/-- Along a column of blocks both weight blocks stay the same. -/
theorem cols_prev (c : Dev nD) (n : ℕ) (hn : n < cfg0.N) (h : ¬ n % 17 = 0) :
    gblk m c ⟨n, hn⟩ = gblk m c ⟨n - 1, lt_of_le_of_lt (Nat.sub_le _ _) hn⟩
      ∧ ublk m c ⟨n, hn⟩ = ublk m c ⟨n - 1, lt_of_le_of_lt (Nat.sub_le _ _) hn⟩ := by
  have e : (grid0.coords ⟨n, hn⟩ 0).val = (grid0.coords ⟨n - 1, lt_of_le_of_lt (Nat.sub_le _ _) hn⟩ 0).val := by
    refine (crd_val ⟨n, hn⟩).1.trans (Eq.trans ?_ (crd_val ⟨n - 1, _⟩).1.symm)
    show n / 17 = (n - 1) / 17
    omega
  have h0 : (grid0.coords ⟨n, hn⟩ 0).val < 11 := (grid0.coords ⟨n, hn⟩ 0).isLt
  constructor <;> funext y <;> idx_vars y
  · rw [gate_read m c ⟨n, hn⟩ y0 y1 (by omega), gate_read m c ⟨n - 1, _⟩ y0 y1 (by omega)]
    exact congrArg (m ((c : Thread nD τ).loc main_arg1)) (congrArg (ix2 y0) (Fin.ext (by show _ * 512 + y1.val = _ * 512 + y1.val; rw [e])))
  · rw [up_read m c ⟨n, hn⟩ y0 y1 (by omega), up_read m c ⟨n - 1, _⟩ y0 y1 (by omega)]
    exact congrArg (m ((c : Thread nD τ).loc main_arg1)) (congrArg (ix2 y0) (Fin.ext (by show _ * 512 + y1.val = _ * 512 + y1.val; rw [e])))

/-- The two converted weight blocks of a point. -/
abbrev conv (c : Dev nD) (t : Fin cfg0.N) : Vec Ideal S2048x512 .bf16 × Vec Ideal S2048x512 .bf16 := (k0_pay1 (gblk m c t), k0_pay2 (ublk m c t))

/-- The first row tile of a column: what the buffers hold after the point. -/
theorem step_first (c : Dev nD) (t : Fin cfg0.N) (h : t.val % 17 = 0) :
    outsAt0 m c t.val t.isLt = (k0_pay3 (iblk m c 0 t) (conv m c t).1 (conv m c t).2, conv m c t) := by
  rw [outsAt0_A m c t h, out_first, gate_first, up_first]

/-- A later row tile: what the buffers hold after the point. -/
theorem step_later (c : Dev nD) (t : Fin cfg0.N) (h : ¬ t.val % 17 = 0) :
    outsAt0 m c t.val t.isLt
      = (k0_pay3 (iblk m c 0 t) (outsAt0 m c (t.val - 1) (lt_of_le_of_lt (Nat.sub_le _ _) t.isLt)).2.1
            (outsAt0 m c (t.val - 1) (lt_of_le_of_lt (Nat.sub_le _ _) t.isLt)).2.2,
          (outsAt0 m c (t.val - 1) (lt_of_le_of_lt (Nat.sub_le _ _) t.isLt)).2) := by
  rw [outsAt0_B m c t h, out_later]
  rfl

/-- Along a column of blocks the converted blocks stay the same. -/
theorem conv_prev (c : Dev nD) (n : ℕ) (hn : n < cfg0.N) (h : ¬ n % 17 = 0) :
    conv m c ⟨n, hn⟩ = conv m c ⟨n - 1, lt_of_le_of_lt (Nat.sub_le _ _) hn⟩ := by
  unfold conv
  rw [(cols_prev m c n hn h).1, (cols_prev m c n hn h).2]

/-- The scratch buffers after a point: the point's weight blocks, converted. -/
theorem scratch_eq (c : Dev nD) : ∀ n hn, (outsAt0 m c n hn).2 = conv m c ⟨n, hn⟩ :=
  carried (K := 17) (fun n hn => (outsAt0 m c n hn).2) (fun n hn => conv m c ⟨n, hn⟩)
    (fun n hn h => congrArg Prod.snd (step_first m c ⟨n, hn⟩ h)) (fun n hn h => (congrArg Prod.snd (step_later m c ⟨n, hn⟩ h) : _))
    (fun n hn h => conv_prev m c n hn h)

/-- The output's buffer after a point: the gated product of the point's rows with its converted blocks. -/
theorem out_eq (c : Dev nD) (t : Fin cfg0.N) :
    (outsAt0 m c t.val t.isLt).1 = k0_pay3 (iblk m c 0 t) (conv m c t).1 (conv m c t).2 := by
  by_cases h : t.val % 17 = 0
  · rw [step_first m c t h]
  · rw [step_later m c t h, scratch_eq, conv_prev m c t.val t.isLt h]

/-- What a point stores, entry by entry. -/
theorem pay_read (x : FVec Ideal S1024x2048 .bf16) (wg wu : FVec Ideal S2048x512 .f32) (r : Fin 1024) (j : Fin 512) :
    k0_pay3 (F := Ideal) x (k0_pay1 (F := Ideal) wg) (k0_pay2 (F := Ideal) wu) (ix2 r j)
      = (∑ k : Fin 2048, x (ix2 r k) * wg (ix2 k j)) * Ideal.logistic (∑ k : Fin 2048, x (ix2 r k) * wg (ix2 k j))
        * ∑ k : Fin 2048, x (ix2 r k) * wu (ix2 k j) := by
  pointwise [k0_pay3, k0_pay2, k0_pay1]

/-- What point `t` stores is `D` of the arguments at the place of its block. -/
theorem point (c : Dev nD) (t : Fin cfg0.N) (y : S1024x512.Idx) :
    (outsAt0 m c t.val t.isLt).1 y
      = D (m ((c : Thread nD τ).loc main_arg0)) (m ((c : Thread nD τ).loc main_arg1)) (((cfg0.win 3).blk t).view.emb y) := by
  idx_vars y
  have h0 : (grid0.coords t 0).val < 11 := (grid0.coords t 0).isLt
  have h1 : (grid0.coords t 1).val < 17 := (grid0.coords t 1).isLt
  have eo : ((cfg0.win 3).blk t).view.emb (ix2 y0 y1)
      = ix2 (⟨(grid0.coords t 1).val * 1024 + y0, by omega⟩ : Fin 17408) (⟨(grid0.coords t 0).val * 512 + y1, by omega⟩ : Fin 5632) := by
    refine funext fun d => Fin.ext ?_
    show cc0_transform_3 (grid0.coords t) d * S1024x512.size d + 1 * (ix2 y0 y1 d).val = _
    rw [place3]
    fin_cases d
    · show (grid0.coords t 1).val * 1024 + 1 * y0.val = (grid0.coords t 1).val * 1024 + y0.val
      omega
    · show (grid0.coords t 0).val * 512 + 1 * y1.val = (grid0.coords t 0).val * 512 + y1.val
      omega
  have eg : (∑ k : Fin 2048, xblk m c t (ix2 y0 k) * gblk m c t (ix2 k y1))
      = dotRow (m ((c : Thread nD τ).loc main_arg0)) (m ((c : Thread nD τ).loc main_arg1)) ⟨(grid0.coords t 1).val * 1024 + y0, by omega⟩
          ⟨(grid0.coords t 0).val * 512 + y1, by omega⟩ :=
    Finset.sum_congr rfl fun k _ => Ideal.mul_congr (rows_read m c t y0 k _) (gate_read m c t k y1 _)
  have eu : (∑ k : Fin 2048, xblk m c t (ix2 y0 k) * ublk m c t (ix2 k y1))
      = dotRow (m ((c : Thread nD τ).loc main_arg0)) (m ((c : Thread nD τ).loc main_arg1)) ⟨(grid0.coords t 1).val * 1024 + y0, by omega⟩
          ⟨5632 + ((grid0.coords t 0).val * 512 + y1), by omega⟩ := by
    have ej : (⟨5632 + ((grid0.coords t 0).val * 512 + y1.val), by omega⟩ : Fin 11264) = ⟨((grid0.coords t 0).val + 11) * 512 + y1.val, by omega⟩ :=
      Fin.ext (by show 5632 + ((grid0.coords t 0).val * 512 + y1.val) = ((grid0.coords t 0).val + 11) * 512 + y1.val; omega)
    rw [ej]
    exact Finset.sum_congr rfl fun k _ => Ideal.mul_congr (rows_read m c t y0 k _) (up_read m c t k y1 _)
  rw [eo, out_eq]
  refine (pay_read _ _ _ _ _).trans ?_
  rw [eg, eu]
  rfl

/-- The output blocks cover the result array. -/
theorem covers : (cfg0.win 3).Covers := by decide +kernel

/-- The result array after the run is `D` of the arguments. -/
theorem final (c : Dev nD) :
    (dats m 0 c).arrAt 3 cfg0.N = D (m ((c : Thread nD τ).loc main_arg0)) (m ((c : Thread nD τ).loc main_arg1)) :=
  (dats m 0 c).arrAt_eq_of_covers 3 _ covers fun t _ y => point m c t y

end Kernel

/-- `Cert.quiescent_FfnUpRefIdeal`: the reference's run read at its arguments; it declares no semaphore. -/
theorem frame_ref : Cert.quiescent_FfnUpRefIdeal := fun m g _ =>
  (θ_run Cert.FfnUpRefIdeal.defs _ _).mono (fun r h => ⟨fun c => (h c).2, sem_eq_zero_of_no_sems (by decide) r.2⟩)
    (Cert.FfnUpRefIdeal.Value.run m g)

/-- The algebraic claim: the kernel's result array and the reference's result are one function of equal arguments. -/
theorem agree : Cert.algebraic_FfnUpIdeal_FfnUpRefIdeal := by
  intro m g m' g' _ hargs
  refine ⟨fun c => (Cert.FfnUpIdeal.Gen.dats m 0 c).arrAt 3 Cert.FfnUpIdeal.cfg0.N, ?_, ?_⟩
  · exact (θ_run _ _ _).mono (fun r h c => ⟨(h.1 c).1 3, h.2 c⟩) (θ_run_and (Cert.FfnUpIdeal.Gen.run_main m g) (Cert.FfnUpIdeal.Gen.unchanged m g))
  refine (θ_run _ _ _).mono (fun r hr c => ?_) (Cert.FfnUpRefIdeal.Value.run m' g')
  obtain ⟨h0, h1, h2⟩ := hr c
  refine ⟨?_, h1, h2⟩
  obtain ⟨a0, a1⟩ := hargs c
  rw [h0, Cert.FfnUpRefIdeal.Read.val_main_v6_eq, a0, a1]
  exact (ref_eq _ _).trans (final m c).symm

end Cert.Proof.FfnClaim

end
-- ==== Proof.FdClaim.lean ====
/- The dense feed-forward's down projection: the result array and the reference's result are one function of the arguments. -/
module

public import proofs.«01_k».proof.Defs
public import proofs.«01_k».proof.Proof.Gen.FfnDown.Frame
public import proofs.«01_k».proof.Proof.Gen.FfnDownIdeal.Frame
public import proofs.«01_k».proof.Proof.Gen.FfnDownRefIdeal.Run
public import proofs.«01_k».proof.Proof.Gen.FfnDownRefIdeal.Read
public import proofs.«01_k».proof.Proof.DenseMath
public import Idealize.ShloMosaic.Lib.Quiescent

@[expose] public section

set_option maxRecDepth 16384

noncomputable section

namespace Cert.Proof.FdClaim

open Idealize.ShloMosaic Idealize.ShloMosaic.TcCoe Idealize.SL.Sem
open Cert.Proof.DenseMath

section Reference

open Cert.FfnDownRefIdeal Cert.FfnDownRefIdeal.Read

/-- The reference's result is, entry by entry, the row times the column. -/
theorem ref_eq (x0 : FVec Ideal S17408x5632 .bf16) (x1 : FVec Ideal S5632x2048 .f32) : val_main_v1 (F := Ideal) x0 x1 = rowCol x0 x1 := by
  funext o
  idx_vars o
  unfold rowCol
  pointwise [val_main_v1, val_main_v0]

end Reference

section Kernel

open Cert.FfnDownIdeal Cert.FfnDownIdeal.Gen

variable (m : (ℓ : Loc nD τ sig) → Buf (Elt Ideal) ℓ)

/-- The rows' block at a point. -/
abbrev xblk (c : Dev nD) (t : Fin cfg0.N) : Vec Ideal S512x5632 .bf16 := iblk m c 0 t
/-- The weights' block at a point. -/
abbrev wblk (c : Dev nD) (t : Fin cfg0.N) : Vec Ideal S5632x512 .f32 := iblk m c 1 t

/-- The first row tile of a column: the body converts the weights' block, keeps it, and multiplies with it. -/
theorem step_first (c : Dev nD) (t : Fin cfg0.N) (h : t.val % 34 = 0) :
    outsAt0 m c t.val t.isLt = (k0_pay2 (xblk m c t) (k0_pay1 (wblk m c t)), k0_pay1 (wblk m c t)) := by
  rw [outsAt0_A m c t h]
  unfold out0_A_2 sout0_A_0 kernelRun0_A
  dsimp only
  exact congrArg₂ Prod.mk
    ((View.read_writes_full _ _ _ _ _).trans (congrArg₂ k0_pay2 (readAt_whole _ _ (xblk m c t) _)
      ((View.readCov_full _ _ _ _ _).trans (congrArg k0_pay1 (readAt_whole _ _ (wblk m c t) _)))))
    ((View.read_writes_full _ _ _ _ _).trans (congrArg k0_pay1 (readAt_whole _ _ (wblk m c t) _)))

/-- A later row tile: the body multiplies with the block it kept. -/
theorem step_later (c : Dev nD) (t : Fin cfg0.N) (h : ¬ t.val % 34 = 0) :
    outsAt0 m c t.val t.isLt
      = (k0_pay2 (xblk m c t) (outsAt0 m c (t.val - 1) (lt_of_le_of_lt (Nat.sub_le _ _) t.isLt)).2,
          (outsAt0 m c (t.val - 1) (lt_of_le_of_lt (Nat.sub_le _ _) t.isLt)).2) := by
  rw [outsAt0_B m c t h]
  generalize (outsAt0 m c (t.val - 1) (lt_of_le_of_lt (Nat.sub_le _ _) t.isLt)).2 = xs
  unfold out0_B_2 sout0_B_0 kernelRun0_B
  dsimp only
  exact congrArg₂ Prod.mk
    ((View.read_writes_full _ _ _ _ _).trans (congrArg₂ k0_pay2 (readAt_whole _ _ (xblk m c t) _) (readAt_whole _ _ xs _))) rfl

/-- A point's column of blocks. -/
theorem column : ∀ t : Fin grid0.N, (grid0.coords t 0).val = t.val / 34 := by decide +kernel
/-- The places of the three windows' blocks. -/
theorem place0 : ∀ i : grid0.Coords, cc0_transform_0 i = ![(i 1).val, 0] := by decide +kernel
theorem place1 : ∀ i : grid0.Coords, cc0_transform_1 i = ![0, (i 0).val] := by decide +kernel
theorem place2 : ∀ i : grid0.Coords, cc0_transform_2 i = ![(i 1).val, (i 0).val] := by decide +kernel

/-- An entry of the rows' block. -/
theorem rows_read (c : Dev nD) (t : Fin cfg0.N) (r : Fin 512) (k : Fin 5632) (R : Fin 17408) (hR : (grid0.coords t 1).val * 512 + r.val = R.val) :
    xblk m c t (ix2 r k) = m ((c : Thread nD τ).loc main_arg0) (ix2 R k) :=
  congrArg (m ((c : Thread nD τ).loc main_arg0)) (block_ix _ (cc0_transform_0 (grid0.coords t)) S512x5632.size (fun d => (ix2 r k d).val) (fun _ => rfl)
    (by rw [place0]; exact hR) (by rw [place0]; exact Nat.zero_add k.val))

/-- An entry of the weights' block. -/
theorem cols_read (c : Dev nD) (t : Fin cfg0.N) (k : Fin 5632) (j : Fin 512) (J : Fin 2048) (hJ : (grid0.coords t 0).val * 512 + j.val = J.val) :
    wblk m c t (ix2 k j) = m ((c : Thread nD τ).loc main_arg1) (ix2 k J) :=
  congrArg (m ((c : Thread nD τ).loc main_arg1)) (block_ix _ (cc0_transform_1 (grid0.coords t)) S5632x512.size (fun d => (ix2 k j d).val) (fun _ => rfl)
    (by rw [place1]; exact Nat.zero_add k.val) (by rw [place1]; exact hJ))

/-- What a point stores, entry by entry. -/
theorem pay_read (x : FVec Ideal S512x5632 .bf16) (w : FVec Ideal S5632x512 .f32) (r : Fin 512) (j : Fin 512) :
    k0_pay2 (F := Ideal) x (k0_pay1 (F := Ideal) w) (ix2 r j) = ∑ k : Fin 5632, x (ix2 r k) * w (ix2 k j) := by
  pointwise [k0_pay2, k0_pay1]

/-- What point `t` stores is the product of the arguments at the place of its block. -/
theorem point (c : Dev nD) (t : Fin cfg0.N) (y : S512x512.Idx) :
    (outsAt0 m c t.val t.isLt).1 y
      = rowCol (m ((c : Thread nD τ).loc main_arg0)) (m ((c : Thread nD τ).loc main_arg1)) (((cfg0.win 2).blk t).view.emb y) := by
  idx_vars y
  have h0 : (grid0.coords t 0).val < 4 := (grid0.coords t 0).isLt
  have h1 : (grid0.coords t 1).val < 34 := (grid0.coords t 1).isLt
  have eo : ((cfg0.win 2).blk t).view.emb (ix2 y0 y1)
      = ix2 (⟨(grid0.coords t 1).val * 512 + y0, by omega⟩ : Fin 17408) (⟨(grid0.coords t 0).val * 512 + y1, by omega⟩ : Fin 2048) :=
    block_ix _ (cc0_transform_2 (grid0.coords t)) S512x512.size (fun d => (ix2 y0 y1 d).val) (fun _ => rfl) (by rw [place2]; rfl)
      (by rw [place2]; rfl)
  rw [eo]
  refine tiled (K := 34) (I := fun n hn => (grid0.coords ⟨n, hn⟩ 1).val) (J := fun n hn => (grid0.coords ⟨n, hn⟩ 0).val) pay_read
    (fun n hn => step_first m c ⟨n, hn⟩) (fun n hn => step_later m c ⟨n, hn⟩) (fun n hn => rows_read m c ⟨n, hn⟩)
    (fun n hn => cols_read m c ⟨n, hn⟩) (fun n hn => ?_)
    (fun n hn h => (column ⟨n - 1, _⟩).trans ((div_pred h).trans (column ⟨n, hn⟩).symm)) t.val t.isLt y0 y1 _ _ rfl rfl
  have h : (grid0.coords ⟨n, hn⟩ 0).val < 4 := (grid0.coords ⟨n, hn⟩ 0).isLt
  omega

/-- The output blocks cover the result array. -/
theorem covers : (cfg0.win 2).Covers := by decide +kernel

/-- The result array after the run is the product of the arguments. -/
theorem final (c : Dev nD) :
    (dats m 0 c).arrAt 2 cfg0.N = rowCol (m ((c : Thread nD τ).loc main_arg0)) (m ((c : Thread nD τ).loc main_arg1)) :=
  (dats m 0 c).arrAt_eq_of_covers 2 _ covers fun t _ y => point m c t y

end Kernel

/-- `Cert.quiescent_FfnDownRefIdeal`: the reference's run read at its arguments; it declares no semaphore. -/
theorem frame_ref : Cert.quiescent_FfnDownRefIdeal := fun m g _ =>
  (θ_run Cert.FfnDownRefIdeal.defs _ _).mono (fun r h => ⟨fun c => (h c).2, sem_eq_zero_of_no_sems (by decide) r.2⟩)
    (Cert.FfnDownRefIdeal.Value.run m g)

/-- The algebraic claim: the kernel's result array and the reference's result are one function of equal arguments. -/
theorem agree : Cert.algebraic_FfnDownIdeal_FfnDownRefIdeal := by
  intro m g m' g' _ hargs
  refine ⟨fun c => (Cert.FfnDownIdeal.Gen.dats m 0 c).arrAt 2 Cert.FfnDownIdeal.cfg0.N, ?_, ?_⟩
  · exact (θ_run _ _ _).mono (fun r h c => ⟨(h.1 c).1 2, h.2 c⟩) (θ_run_and (Cert.FfnDownIdeal.Gen.run_main m g) (Cert.FfnDownIdeal.Gen.unchanged m g))
  refine (θ_run _ _ _).mono (fun r hr c => ?_) (Cert.FfnDownRefIdeal.Value.run m' g')
  obtain ⟨h0, h1, h2⟩ := hr c
  refine ⟨?_, h1, h2⟩
  obtain ⟨a0, a1⟩ := hargs c
  rw [h0, Cert.FfnDownRefIdeal.Read.val_main_v1_eq, a0, a1]
  exact (ref_eq _ _).trans (final m c).symm

end Cert.Proof.FdClaim

end
-- ==== Proof.GoClaim.lean ====
/- The gated delta rule's output projection: the result array and the reference's result are one function of the arguments. -/
module

public import proofs.«01_k».proof.Defs
public import proofs.«01_k».proof.Proof.Gen.GdnOut.Frame
public import proofs.«01_k».proof.Proof.Gen.GdnOutIdeal.Frame
public import proofs.«01_k».proof.Proof.Gen.GdnOutRefIdeal.Run
public import proofs.«01_k».proof.Proof.Gen.GdnOutRefIdeal.Read
public import proofs.«01_k».proof.Proof.DenseMath
public import Idealize.ShloMosaic.Lib.Quiescent

@[expose] public section

set_option maxRecDepth 16384

noncomputable section

namespace Cert.Proof.GoClaim

open Idealize.ShloMosaic Idealize.ShloMosaic.TcCoe Idealize.SL.Sem
open Cert.Proof.DenseMath

section Reference

open Cert.GdnOutRefIdeal Cert.GdnOutRefIdeal.Read

/-- The reference's result is, entry by entry, the row times the column. -/
theorem ref_eq (x0 : FVec Ideal S17408x4096 .bf16) (x1 : FVec Ideal S4096x2048 .f32) : val_main_v1 (F := Ideal) x0 x1 = rowCol x0 x1 := by
  funext o
  idx_vars o
  unfold rowCol
  pointwise [val_main_v1, val_main_v0]

end Reference

section Kernel

open Cert.GdnOutIdeal Cert.GdnOutIdeal.Gen

variable (m : (ℓ : Loc nD τ sig) → Buf (Elt Ideal) ℓ)

/-- The rows' block at a point. -/
abbrev xblk (c : Dev nD) (t : Fin cfg0.N) : Vec Ideal S1024x4096 .bf16 := iblk m c 0 t
/-- The weights' block at a point. -/
abbrev wblk (c : Dev nD) (t : Fin cfg0.N) : Vec Ideal S4096x512 .f32 := iblk m c 1 t

/-- The first row tile of a column: the body converts the weights' block, keeps it, and multiplies with it. -/
theorem step_first (c : Dev nD) (t : Fin cfg0.N) (h : t.val % 17 = 0) :
    outsAt0 m c t.val t.isLt = (k0_pay2 (xblk m c t) (k0_pay1 (wblk m c t)), k0_pay1 (wblk m c t)) := by
  rw [outsAt0_A m c t h]
  unfold out0_A_2 sout0_A_0 kernelRun0_A
  dsimp only
  exact congrArg₂ Prod.mk
    ((View.read_writes_full _ _ _ _ _).trans (congrArg₂ k0_pay2 (readAt_whole _ _ (xblk m c t) _)
      ((View.readCov_full _ _ _ _ _).trans (congrArg k0_pay1 (readAt_whole _ _ (wblk m c t) _)))))
    ((View.read_writes_full _ _ _ _ _).trans (congrArg k0_pay1 (readAt_whole _ _ (wblk m c t) _)))

/-- A later row tile: the body multiplies with the block it kept. -/
theorem step_later (c : Dev nD) (t : Fin cfg0.N) (h : ¬ t.val % 17 = 0) :
    outsAt0 m c t.val t.isLt
      = (k0_pay2 (xblk m c t) (outsAt0 m c (t.val - 1) (lt_of_le_of_lt (Nat.sub_le _ _) t.isLt)).2,
          (outsAt0 m c (t.val - 1) (lt_of_le_of_lt (Nat.sub_le _ _) t.isLt)).2) := by
  rw [outsAt0_B m c t h]
  generalize (outsAt0 m c (t.val - 1) (lt_of_le_of_lt (Nat.sub_le _ _) t.isLt)).2 = xs
  unfold out0_B_2 sout0_B_0 kernelRun0_B
  dsimp only
  exact congrArg₂ Prod.mk
    ((View.read_writes_full _ _ _ _ _).trans (congrArg₂ k0_pay2 (readAt_whole _ _ (xblk m c t) _) (readAt_whole _ _ xs _))) rfl

/-- A point's column of blocks. -/
theorem column : ∀ t : Fin grid0.N, (grid0.coords t 0).val = t.val / 17 := by decide +kernel
/-- The places of the three windows' blocks. -/
theorem place0 : ∀ i : grid0.Coords, cc0_transform_0 i = ![(i 1).val, 0] := by decide +kernel
theorem place1 : ∀ i : grid0.Coords, cc0_transform_1 i = ![0, (i 0).val] := by decide +kernel
theorem place2 : ∀ i : grid0.Coords, cc0_transform_2 i = ![(i 1).val, (i 0).val] := by decide +kernel

/-- An entry of the rows' block. -/
theorem rows_read (c : Dev nD) (t : Fin cfg0.N) (r : Fin 1024) (k : Fin 4096) (R : Fin 17408) (hR : (grid0.coords t 1).val * 1024 + r.val = R.val) :
    xblk m c t (ix2 r k) = m ((c : Thread nD τ).loc main_arg0) (ix2 R k) :=
  congrArg (m ((c : Thread nD τ).loc main_arg0)) (block_ix _ (cc0_transform_0 (grid0.coords t)) S1024x4096.size (fun d => (ix2 r k d).val) (fun _ => rfl)
    (by rw [place0]; exact hR) (by rw [place0]; exact Nat.zero_add k.val))

/-- An entry of the weights' block. -/
theorem cols_read (c : Dev nD) (t : Fin cfg0.N) (k : Fin 4096) (j : Fin 512) (J : Fin 2048) (hJ : (grid0.coords t 0).val * 512 + j.val = J.val) :
    wblk m c t (ix2 k j) = m ((c : Thread nD τ).loc main_arg1) (ix2 k J) :=
  congrArg (m ((c : Thread nD τ).loc main_arg1)) (block_ix _ (cc0_transform_1 (grid0.coords t)) S4096x512.size (fun d => (ix2 k j d).val) (fun _ => rfl)
    (by rw [place1]; exact Nat.zero_add k.val) (by rw [place1]; exact hJ))

/-- What a point stores, entry by entry. -/
theorem pay_read (x : FVec Ideal S1024x4096 .bf16) (w : FVec Ideal S4096x512 .f32) (r : Fin 1024) (j : Fin 512) :
    k0_pay2 (F := Ideal) x (k0_pay1 (F := Ideal) w) (ix2 r j) = ∑ k : Fin 4096, x (ix2 r k) * w (ix2 k j) := by
  pointwise [k0_pay2, k0_pay1]

/-- What point `t` stores is the product of the arguments at the place of its block. -/
theorem point (c : Dev nD) (t : Fin cfg0.N) (y : S1024x512.Idx) :
    (outsAt0 m c t.val t.isLt).1 y
      = rowCol (m ((c : Thread nD τ).loc main_arg0)) (m ((c : Thread nD τ).loc main_arg1)) (((cfg0.win 2).blk t).view.emb y) := by
  idx_vars y
  have h0 : (grid0.coords t 0).val < 4 := (grid0.coords t 0).isLt
  have h1 : (grid0.coords t 1).val < 17 := (grid0.coords t 1).isLt
  have eo : ((cfg0.win 2).blk t).view.emb (ix2 y0 y1)
      = ix2 (⟨(grid0.coords t 1).val * 1024 + y0, by omega⟩ : Fin 17408) (⟨(grid0.coords t 0).val * 512 + y1, by omega⟩ : Fin 2048) :=
    block_ix _ (cc0_transform_2 (grid0.coords t)) S1024x512.size (fun d => (ix2 y0 y1 d).val) (fun _ => rfl) (by rw [place2]; rfl)
      (by rw [place2]; rfl)
  rw [eo]
  refine tiled (K := 17) (I := fun n hn => (grid0.coords ⟨n, hn⟩ 1).val) (J := fun n hn => (grid0.coords ⟨n, hn⟩ 0).val) pay_read
    (fun n hn => step_first m c ⟨n, hn⟩) (fun n hn => step_later m c ⟨n, hn⟩) (fun n hn => rows_read m c ⟨n, hn⟩)
    (fun n hn => cols_read m c ⟨n, hn⟩) (fun n hn => ?_)
    (fun n hn h => (column ⟨n - 1, _⟩).trans ((div_pred h).trans (column ⟨n, hn⟩).symm)) t.val t.isLt y0 y1 _ _ rfl rfl
  have h : (grid0.coords ⟨n, hn⟩ 0).val < 4 := (grid0.coords ⟨n, hn⟩ 0).isLt
  omega

/-- The output blocks cover the result array. -/
theorem covers : (cfg0.win 2).Covers := by decide +kernel

/-- The result array after the run is the product of the arguments. -/
theorem final (c : Dev nD) :
    (dats m 0 c).arrAt 2 cfg0.N = rowCol (m ((c : Thread nD τ).loc main_arg0)) (m ((c : Thread nD τ).loc main_arg1)) :=
  (dats m 0 c).arrAt_eq_of_covers 2 _ covers fun t _ y => point m c t y

end Kernel

/-- `Cert.quiescent_GdnOutRefIdeal`: the reference's run read at its arguments; it declares no semaphore. -/
theorem frame_ref : Cert.quiescent_GdnOutRefIdeal := fun m g _ =>
  (θ_run Cert.GdnOutRefIdeal.defs _ _).mono (fun r h => ⟨fun c => (h c).2, sem_eq_zero_of_no_sems (by decide) r.2⟩)
    (Cert.GdnOutRefIdeal.Value.run m g)

/-- The algebraic claim: the kernel's result array and the reference's result are one function of equal arguments. -/
theorem agree : Cert.algebraic_GdnOutIdeal_GdnOutRefIdeal := by
  intro m g m' g' _ hargs
  refine ⟨fun c => (Cert.GdnOutIdeal.Gen.dats m 0 c).arrAt 2 Cert.GdnOutIdeal.cfg0.N, ?_, ?_⟩
  · exact (θ_run _ _ _).mono (fun r h c => ⟨(h.1 c).1 2, h.2 c⟩) (θ_run_and (Cert.GdnOutIdeal.Gen.run_main m g) (Cert.GdnOutIdeal.Gen.unchanged m g))
  refine (θ_run _ _ _).mono (fun r hr c => ?_) (Cert.GdnOutRefIdeal.Value.run m' g')
  obtain ⟨h0, h1, h2⟩ := hr c
  refine ⟨?_, h1, h2⟩
  obtain ⟨a0, a1⟩ := hargs c
  rw [h0, Cert.GdnOutRefIdeal.Read.val_main_v1_eq, a0, a1]
  exact (ref_eq _ _).trans (final m c).symm

end Cert.Proof.GoClaim

end
-- ==== Proof.DiClaim.lean ====
/- The differential attention's input projection: the result array and the reference's result are one function of the arguments. -/
module

public import proofs.«01_k».proof.Defs
public import proofs.«01_k».proof.Proof.Gen.DiffIn.Frame
public import proofs.«01_k».proof.Proof.Gen.DiffInIdeal.Frame
public import proofs.«01_k».proof.Proof.Gen.DiffInRefIdeal.Run
public import proofs.«01_k».proof.Proof.Gen.DiffInRefIdeal.Read
public import proofs.«01_k».proof.Proof.DenseMath
public import Idealize.ShloMosaic.Lib.Quiescent

@[expose] public section

set_option maxRecDepth 16384

noncomputable section

namespace Cert.Proof.DiClaim

open Idealize.ShloMosaic Idealize.ShloMosaic.TcCoe Idealize.SL.Sem
open Cert.Proof.DenseMath

section Reference

open Cert.DiffInRefIdeal Cert.DiffInRefIdeal.Read

/-- The reference's result is, entry by entry, the row times the column. -/
theorem ref_eq (x0 : FVec Ideal S17408x2048 .bf16) (x1 : FVec Ideal S2048x6144 .f32) : val_main_v2 (F := Ideal) x0 x1 = rowCol x0 x1 := by
  funext o
  idx_vars o
  unfold rowCol
  pointwise [val_main_v2, val_main_v1, val_main_v0]

end Reference

section Kernel

open Cert.DiffInIdeal Cert.DiffInIdeal.Gen

variable (m : (ℓ : Loc nD τ sig) → Buf (Elt Ideal) ℓ)

/-- The rows' block at a point. -/
abbrev xblk (c : Dev nD) (t : Fin cfg0.N) : Vec Ideal S1024x2048 .bf16 := iblk m c 0 t
/-- The weights' block at a point. -/
abbrev wblk (c : Dev nD) (t : Fin cfg0.N) : Vec Ideal S2048x1024 .f32 := iblk m c 1 t

/-- The first row tile of a column: the body converts the weights' block, keeps it, and multiplies with it. -/
theorem step_first (c : Dev nD) (t : Fin cfg0.N) (h : t.val % 17 = 0) :
    outsAt0 m c t.val t.isLt = (k0_pay2 (xblk m c t) (k0_pay1 (wblk m c t)), k0_pay1 (wblk m c t)) := by
  rw [outsAt0_A m c t h]
  unfold out0_A_2 sout0_A_0 kernelRun0_A
  dsimp only
  exact congrArg₂ Prod.mk
    ((View.read_writes_full _ _ _ _ _).trans (congrArg₂ k0_pay2 (readAt_whole _ _ (xblk m c t) _)
      ((View.readCov_full _ _ _ _ _).trans (congrArg k0_pay1 (readAt_whole _ _ (wblk m c t) _)))))
    ((View.read_writes_full _ _ _ _ _).trans (congrArg k0_pay1 (readAt_whole _ _ (wblk m c t) _)))

/-- A later row tile: the body multiplies with the block it kept. -/
theorem step_later (c : Dev nD) (t : Fin cfg0.N) (h : ¬ t.val % 17 = 0) :
    outsAt0 m c t.val t.isLt
      = (k0_pay2 (xblk m c t) (outsAt0 m c (t.val - 1) (lt_of_le_of_lt (Nat.sub_le _ _) t.isLt)).2,
          (outsAt0 m c (t.val - 1) (lt_of_le_of_lt (Nat.sub_le _ _) t.isLt)).2) := by
  rw [outsAt0_B m c t h]
  generalize (outsAt0 m c (t.val - 1) (lt_of_le_of_lt (Nat.sub_le _ _) t.isLt)).2 = xs
  unfold out0_B_2 sout0_B_0 kernelRun0_B
  dsimp only
  exact congrArg₂ Prod.mk
    ((View.read_writes_full _ _ _ _ _).trans (congrArg₂ k0_pay2 (readAt_whole _ _ (xblk m c t) _) (readAt_whole _ _ xs _))) rfl

/-- A point's column of blocks. -/
theorem column : ∀ t : Fin grid0.N, (grid0.coords t 0).val = t.val / 17 := by decide +kernel
/-- The places of the three windows' blocks. -/
theorem place0 : ∀ i : grid0.Coords, cc0_transform_0 i = ![(i 1).val, 0] := by decide +kernel
theorem place1 : ∀ i : grid0.Coords, cc0_transform_1 i = ![0, (i 0).val] := by decide +kernel
theorem place2 : ∀ i : grid0.Coords, cc0_transform_2 i = ![(i 1).val, (i 0).val] := by decide +kernel

/-- An entry of the rows' block. -/
theorem rows_read (c : Dev nD) (t : Fin cfg0.N) (r : Fin 1024) (k : Fin 2048) (R : Fin 17408) (hR : (grid0.coords t 1).val * 1024 + r.val = R.val) :
    xblk m c t (ix2 r k) = m ((c : Thread nD τ).loc main_arg0) (ix2 R k) :=
  congrArg (m ((c : Thread nD τ).loc main_arg0)) (block_ix _ (cc0_transform_0 (grid0.coords t)) S1024x2048.size (fun d => (ix2 r k d).val) (fun _ => rfl)
    (by rw [place0]; exact hR) (by rw [place0]; exact Nat.zero_add k.val))

/-- An entry of the weights' block. -/
theorem cols_read (c : Dev nD) (t : Fin cfg0.N) (k : Fin 2048) (j : Fin 1024) (J : Fin 6144) (hJ : (grid0.coords t 0).val * 1024 + j.val = J.val) :
    wblk m c t (ix2 k j) = m ((c : Thread nD τ).loc main_arg1) (ix2 k J) :=
  congrArg (m ((c : Thread nD τ).loc main_arg1)) (block_ix _ (cc0_transform_1 (grid0.coords t)) S2048x1024.size (fun d => (ix2 k j d).val) (fun _ => rfl)
    (by rw [place1]; exact Nat.zero_add k.val) (by rw [place1]; exact hJ))

/-- What a point stores, entry by entry. -/
theorem pay_read (x : FVec Ideal S1024x2048 .bf16) (w : FVec Ideal S2048x1024 .f32) (r : Fin 1024) (j : Fin 1024) :
    k0_pay2 (F := Ideal) x (k0_pay1 (F := Ideal) w) (ix2 r j) = ∑ k : Fin 2048, x (ix2 r k) * w (ix2 k j) := by
  pointwise [k0_pay2, k0_pay1]

/-- What point `t` stores is the product of the arguments at the place of its block. -/
theorem point (c : Dev nD) (t : Fin cfg0.N) (y : S1024x1024.Idx) :
    (outsAt0 m c t.val t.isLt).1 y
      = rowCol (m ((c : Thread nD τ).loc main_arg0)) (m ((c : Thread nD τ).loc main_arg1)) (((cfg0.win 2).blk t).view.emb y) := by
  idx_vars y
  have h0 : (grid0.coords t 0).val < 6 := (grid0.coords t 0).isLt
  have h1 : (grid0.coords t 1).val < 17 := (grid0.coords t 1).isLt
  have eo : ((cfg0.win 2).blk t).view.emb (ix2 y0 y1)
      = ix2 (⟨(grid0.coords t 1).val * 1024 + y0, by omega⟩ : Fin 17408) (⟨(grid0.coords t 0).val * 1024 + y1, by omega⟩ : Fin 6144) :=
    block_ix _ (cc0_transform_2 (grid0.coords t)) S1024x1024.size (fun d => (ix2 y0 y1 d).val) (fun _ => rfl) (by rw [place2]; rfl)
      (by rw [place2]; rfl)
  rw [eo]
  refine tiled (K := 17) (I := fun n hn => (grid0.coords ⟨n, hn⟩ 1).val) (J := fun n hn => (grid0.coords ⟨n, hn⟩ 0).val) pay_read
    (fun n hn => step_first m c ⟨n, hn⟩) (fun n hn => step_later m c ⟨n, hn⟩) (fun n hn => rows_read m c ⟨n, hn⟩)
    (fun n hn => cols_read m c ⟨n, hn⟩) (fun n hn => ?_)
    (fun n hn h => (column ⟨n - 1, _⟩).trans ((div_pred h).trans (column ⟨n, hn⟩).symm)) t.val t.isLt y0 y1 _ _ rfl rfl
  have h : (grid0.coords ⟨n, hn⟩ 0).val < 6 := (grid0.coords ⟨n, hn⟩ 0).isLt
  omega

/-- The output blocks cover the result array. -/
theorem covers : (cfg0.win 2).Covers := by decide +kernel

/-- The result array after the run is the product of the arguments. -/
theorem final (c : Dev nD) :
    (dats m 0 c).arrAt 2 cfg0.N = rowCol (m ((c : Thread nD τ).loc main_arg0)) (m ((c : Thread nD τ).loc main_arg1)) :=
  (dats m 0 c).arrAt_eq_of_covers 2 _ covers fun t _ y => point m c t y

end Kernel

/-- `Cert.quiescent_DiffInRefIdeal`: the reference's run read at its arguments; it declares no semaphore. -/
theorem frame_ref : Cert.quiescent_DiffInRefIdeal := fun m g _ =>
  (θ_run Cert.DiffInRefIdeal.defs _ _).mono (fun r h => ⟨fun c => (h c).2, sem_eq_zero_of_no_sems (by decide) r.2⟩)
    (Cert.DiffInRefIdeal.Value.run m g)

/-- The algebraic claim: the kernel's result array and the reference's result are one function of equal arguments. -/
theorem agree : Cert.algebraic_DiffInIdeal_DiffInRefIdeal := by
  intro m g m' g' _ hargs
  refine ⟨fun c => (Cert.DiffInIdeal.Gen.dats m 0 c).arrAt 2 Cert.DiffInIdeal.cfg0.N, ?_, ?_⟩
  · exact (θ_run _ _ _).mono (fun r h c => ⟨(h.1 c).1 2, h.2 c⟩) (θ_run_and (Cert.DiffInIdeal.Gen.run_main m g) (Cert.DiffInIdeal.Gen.unchanged m g))
  refine (θ_run _ _ _).mono (fun r hr c => ?_) (Cert.DiffInRefIdeal.Value.run m' g')
  obtain ⟨h0, h1, h2⟩ := hr c
  refine ⟨?_, h1, h2⟩
  obtain ⟨a0, a1⟩ := hargs c
  rw [h0, Cert.DiffInRefIdeal.Read.val_main_v2_eq, a0, a1]
  exact (ref_eq _ _).trans (final m c).symm

end Cert.Proof.DiClaim

end
-- ==== Proof.DoClaim.lean ====
/- The differential attention's output projection: the result array and the reference's result are one function of the arguments. -/
module

public import proofs.«01_k».proof.Defs
public import proofs.«01_k».proof.Proof.Gen.DiffOut.Frame
public import proofs.«01_k».proof.Proof.Gen.DiffOutIdeal.Frame
public import proofs.«01_k».proof.Proof.Gen.DiffOutRefIdeal.Run
public import proofs.«01_k».proof.Proof.Gen.DiffOutRefIdeal.Read
public import proofs.«01_k».proof.Proof.DenseMath
public import Idealize.ShloMosaic.Lib.Quiescent

@[expose] public section

set_option maxRecDepth 16384

noncomputable section

namespace Cert.Proof.DoClaim

open Idealize.ShloMosaic Idealize.ShloMosaic.TcCoe Idealize.SL.Sem
open Cert.Proof.DenseMath

section Reference

open Cert.DiffOutRefIdeal Cert.DiffOutRefIdeal.Read

/-- The reference's result is, entry by entry, the row times the column. -/
theorem ref_eq (x0 : FVec Ideal S16384x2048 .bf16) (x1 : FVec Ideal S2048x2048 .f32) : val_main_v1 (F := Ideal) x0 x1 = rowCol x0 x1 := by
  funext o
  idx_vars o
  unfold rowCol
  pointwise [val_main_v1, val_main_v0]

end Reference

section Kernel

open Cert.DiffOutIdeal Cert.DiffOutIdeal.Gen

variable (m : (ℓ : Loc nD τ sig) → Buf (Elt Ideal) ℓ)

/-- The rows' block at a point. -/
abbrev xblk (c : Dev nD) (t : Fin cfg0.N) : Vec Ideal S1024x2048 .bf16 := iblk m c 0 t
/-- The weights' block at a point. -/
abbrev wblk (c : Dev nD) (t : Fin cfg0.N) : Vec Ideal S2048x1024 .f32 := iblk m c 1 t

/-- The first row tile of a column: the body converts the weights' block, keeps it, and multiplies with it. -/
theorem step_first (c : Dev nD) (t : Fin cfg0.N) (h : t.val % 16 = 0) :
    outsAt0 m c t.val t.isLt = (k0_pay2 (xblk m c t) (k0_pay1 (wblk m c t)), k0_pay1 (wblk m c t)) := by
  rw [outsAt0_A m c t h]
  unfold out0_A_2 sout0_A_0 kernelRun0_A
  dsimp only
  exact congrArg₂ Prod.mk
    ((View.read_writes_full _ _ _ _ _).trans (congrArg₂ k0_pay2 (readAt_whole _ _ (xblk m c t) _)
      ((View.readCov_full _ _ _ _ _).trans (congrArg k0_pay1 (readAt_whole _ _ (wblk m c t) _)))))
    ((View.read_writes_full _ _ _ _ _).trans (congrArg k0_pay1 (readAt_whole _ _ (wblk m c t) _)))

/-- A later row tile: the body multiplies with the block it kept. -/
theorem step_later (c : Dev nD) (t : Fin cfg0.N) (h : ¬ t.val % 16 = 0) :
    outsAt0 m c t.val t.isLt
      = (k0_pay2 (xblk m c t) (outsAt0 m c (t.val - 1) (lt_of_le_of_lt (Nat.sub_le _ _) t.isLt)).2,
          (outsAt0 m c (t.val - 1) (lt_of_le_of_lt (Nat.sub_le _ _) t.isLt)).2) := by
  rw [outsAt0_B m c t h]
  generalize (outsAt0 m c (t.val - 1) (lt_of_le_of_lt (Nat.sub_le _ _) t.isLt)).2 = xs
  unfold out0_B_2 sout0_B_0 kernelRun0_B
  dsimp only
  exact congrArg₂ Prod.mk
    ((View.read_writes_full _ _ _ _ _).trans (congrArg₂ k0_pay2 (readAt_whole _ _ (xblk m c t) _) (readAt_whole _ _ xs _))) rfl

/-- A point's column of blocks. -/
theorem column : ∀ t : Fin grid0.N, (grid0.coords t 0).val = t.val / 16 := by decide +kernel
/-- The places of the three windows' blocks. -/
theorem place0 : ∀ i : grid0.Coords, cc0_transform_0 i = ![(i 1).val, 0] := by decide +kernel
theorem place1 : ∀ i : grid0.Coords, cc0_transform_1 i = ![0, (i 0).val] := by decide +kernel
theorem place2 : ∀ i : grid0.Coords, cc0_transform_2 i = ![(i 1).val, (i 0).val] := by decide +kernel

/-- An entry of the rows' block. -/
theorem rows_read (c : Dev nD) (t : Fin cfg0.N) (r : Fin 1024) (k : Fin 2048) (R : Fin 16384) (hR : (grid0.coords t 1).val * 1024 + r.val = R.val) :
    xblk m c t (ix2 r k) = m ((c : Thread nD τ).loc main_arg0) (ix2 R k) :=
  congrArg (m ((c : Thread nD τ).loc main_arg0)) (block_ix _ (cc0_transform_0 (grid0.coords t)) S1024x2048.size (fun d => (ix2 r k d).val) (fun _ => rfl)
    (by rw [place0]; exact hR) (by rw [place0]; exact Nat.zero_add k.val))

/-- An entry of the weights' block. -/
theorem cols_read (c : Dev nD) (t : Fin cfg0.N) (k : Fin 2048) (j : Fin 1024) (J : Fin 2048) (hJ : (grid0.coords t 0).val * 1024 + j.val = J.val) :
    wblk m c t (ix2 k j) = m ((c : Thread nD τ).loc main_arg1) (ix2 k J) :=
  congrArg (m ((c : Thread nD τ).loc main_arg1)) (block_ix _ (cc0_transform_1 (grid0.coords t)) S2048x1024.size (fun d => (ix2 k j d).val) (fun _ => rfl)
    (by rw [place1]; exact Nat.zero_add k.val) (by rw [place1]; exact hJ))

/-- What a point stores, entry by entry. -/
theorem pay_read (x : FVec Ideal S1024x2048 .bf16) (w : FVec Ideal S2048x1024 .f32) (r : Fin 1024) (j : Fin 1024) :
    k0_pay2 (F := Ideal) x (k0_pay1 (F := Ideal) w) (ix2 r j) = ∑ k : Fin 2048, x (ix2 r k) * w (ix2 k j) := by
  pointwise [k0_pay2, k0_pay1]

/-- What point `t` stores is the product of the arguments at the place of its block. -/
theorem point (c : Dev nD) (t : Fin cfg0.N) (y : S1024x1024.Idx) :
    (outsAt0 m c t.val t.isLt).1 y
      = rowCol (m ((c : Thread nD τ).loc main_arg0)) (m ((c : Thread nD τ).loc main_arg1)) (((cfg0.win 2).blk t).view.emb y) := by
  idx_vars y
  have h0 : (grid0.coords t 0).val < 2 := (grid0.coords t 0).isLt
  have h1 : (grid0.coords t 1).val < 16 := (grid0.coords t 1).isLt
  have eo : ((cfg0.win 2).blk t).view.emb (ix2 y0 y1)
      = ix2 (⟨(grid0.coords t 1).val * 1024 + y0, by omega⟩ : Fin 16384) (⟨(grid0.coords t 0).val * 1024 + y1, by omega⟩ : Fin 2048) :=
    block_ix _ (cc0_transform_2 (grid0.coords t)) S1024x1024.size (fun d => (ix2 y0 y1 d).val) (fun _ => rfl) (by rw [place2]; rfl)
      (by rw [place2]; rfl)
  rw [eo]
  refine tiled (K := 16) (I := fun n hn => (grid0.coords ⟨n, hn⟩ 1).val) (J := fun n hn => (grid0.coords ⟨n, hn⟩ 0).val) pay_read
    (fun n hn => step_first m c ⟨n, hn⟩) (fun n hn => step_later m c ⟨n, hn⟩) (fun n hn => rows_read m c ⟨n, hn⟩)
    (fun n hn => cols_read m c ⟨n, hn⟩) (fun n hn => ?_)
    (fun n hn h => (column ⟨n - 1, _⟩).trans ((div_pred h).trans (column ⟨n, hn⟩).symm)) t.val t.isLt y0 y1 _ _ rfl rfl
  have h : (grid0.coords ⟨n, hn⟩ 0).val < 2 := (grid0.coords ⟨n, hn⟩ 0).isLt
  omega

/-- The output blocks cover the result array. -/
theorem covers : (cfg0.win 2).Covers := by decide +kernel

/-- The result array after the run is the product of the arguments. -/
theorem final (c : Dev nD) :
    (dats m 0 c).arrAt 2 cfg0.N = rowCol (m ((c : Thread nD τ).loc main_arg0)) (m ((c : Thread nD τ).loc main_arg1)) :=
  (dats m 0 c).arrAt_eq_of_covers 2 _ covers fun t _ y => point m c t y

end Kernel

/-- `Cert.quiescent_DiffOutRefIdeal`: the reference's run read at its arguments; it declares no semaphore. -/
theorem frame_ref : Cert.quiescent_DiffOutRefIdeal := fun m g _ =>
  (θ_run Cert.DiffOutRefIdeal.defs _ _).mono (fun r h => ⟨fun c => (h c).2, sem_eq_zero_of_no_sems (by decide) r.2⟩)
    (Cert.DiffOutRefIdeal.Value.run m g)

/-- The algebraic claim: the kernel's result array and the reference's result are one function of equal arguments. -/
theorem agree : Cert.algebraic_DiffOutIdeal_DiffOutRefIdeal := by
  intro m g m' g' _ hargs
  refine ⟨fun c => (Cert.DiffOutIdeal.Gen.dats m 0 c).arrAt 2 Cert.DiffOutIdeal.cfg0.N, ?_, ?_⟩
  · exact (θ_run _ _ _).mono (fun r h c => ⟨(h.1 c).1 2, h.2 c⟩) (θ_run_and (Cert.DiffOutIdeal.Gen.run_main m g) (Cert.DiffOutIdeal.Gen.unchanged m g))
  refine (θ_run _ _ _).mono (fun r hr c => ?_) (Cert.DiffOutRefIdeal.Value.run m' g')
  obtain ⟨h0, h1, h2⟩ := hr c
  refine ⟨?_, h1, h2⟩
  obtain ⟨a0, a1⟩ := hargs c
  rw [h0, Cert.DiffOutRefIdeal.Read.val_main_v1_eq, a0, a1]
  exact (ref_eq _ _).trans (final m c).symm

end Cert.Proof.DoClaim

end
-- ==== Proof.NormClaim.lean ====
/- The gated delta rule's norm and output gate: the result array and the reference's result are one function of the arguments. -/
module

public import proofs.«01_k».proof.Defs
public import proofs.«01_k».proof.Proof.Gen.NormGate.Frame
public import proofs.«01_k».proof.Proof.Gen.NormGateIdeal.Frame
public import proofs.«01_k».proof.Proof.Gen.NormGateRefIdeal.Run
public import proofs.«01_k».proof.Proof.Gen.NormGateRefIdeal.Read
public import Idealize.ShloMosaic.Lib.Pointwise
public import Idealize.ShloMosaic.Lib.Pipeline.ValueKit
public import Idealize.ShloMosaic.PureOps.Ideal
public import Idealize.ShloMosaic.Lib.Quiescent

@[expose] public section

set_option maxRecDepth 16384

noncomputable section

namespace Cert.Proof.NormClaim

open Idealize.ShloMosaic Idealize.ShloMosaic.TcCoe Idealize.SL.Sem

/-- One head's row, divided by its root mean square, scaled by the norm's weight and gated by the SiLU of `z`. -/
def gated (s w z : Fin 128 → EReal) (c : Fin 128) : EReal :=
  s c * Ideal.rsqrt (Ideal.div (∑ l, s l * s l) (Ideal.ofBits .f32 0x43000000#32) + Ideal.ofBits .f32 0x358637BD#32) * w c
    * (z c * Ideal.logistic (z c))

/-- The result array as one function of the arguments: column `h * 128 + c` is head `h`'s lane `c`. -/
def D (x0 : FVec Ideal Cert.NormGateIdeal.S2x17408x4096 .bf16) (x1 : FVec Ideal Cert.NormGateIdeal.S17408x12288 .bf16)
    (x2 : FVec Ideal Cert.NormGateIdeal.S128 .f32) (r : Fin 17408) (h : Fin 32) (c : Fin 128) : EReal :=
  gated (fun l => x0 (ix3 0 r ⟨h * 128 + l, by omega⟩) + x0 (ix3 1 r ⟨h * 128 + l, by omega⟩)) (fun l => x2 (ix1 l))
    (fun l => x1 (ix2 r ⟨8192 + (h * 128 + l), by omega⟩)) c

/-- `D` at an index of the result array. -/
def Dix (x0 : FVec Ideal Cert.NormGateIdeal.S2x17408x4096 .bf16) (x1 : FVec Ideal Cert.NormGateIdeal.S17408x12288 .bf16)
    (x2 : FVec Ideal Cert.NormGateIdeal.S128 .f32) (o : Cert.NormGateIdeal.S17408x4096.Idx) : EReal :=
  D x0 x1 x2 (o 0) ⟨(o 1).val / 128, by have := (o 1).isLt; simp at this; omega⟩ ⟨(o 1).val % 128, by omega⟩

section Reference

open Cert.NormGateRefIdeal Cert.NormGateRefIdeal.Read

/-- The reference's value by head and lane. -/
theorem head_read (x0 : FVec Ideal S2x17408x4096 .bf16) (x1 : FVec Ideal S17408x12288 .bf16) (x2 : FVec Ideal S128 .f32)
    (r : Fin 17408) (h : Fin 32) (c : Fin 128) : val_main_v25 (F := Ideal) x0 x1 x2 (ix3 r h c) = D x0 x1 x2 r h c := by
  unfold D gated Ideal.logistic
  pointwise [val_main_v25, val_main_v24, val_main_call0_v5, val_main_call0_v4, val_main_call0_cst_0, val_main_call0_v3, val_main_call0_v2,
    val_main_call0_cst, val_main_call0_v1, val_main_call0_v0, val_main_v23, val_main_v22, val_main_v21, val_main_v20, val_main_v19,
    val_main_v18, val_main_v17, val_main_v16, val_main_cst_1, val_main_v15, val_main_v14, val_main_cst_0, val_main_v13, val_main_v12,
    val_main_cst, val_main_v11, val_main_v10, val_main_v9, val_main_v8, val_main_v7, val_main_v6, val_main_v5, val_main_v4, val_main_v3,
    val_main_v2, val_main_v1, val_main_v0]

/-- The reference's result is `Dix`. -/
theorem ref_eq (x0 : FVec Ideal S2x17408x4096 .bf16) (x1 : FVec Ideal S17408x12288 .bf16) (x2 : FVec Ideal S128 .f32) :
    val_main_v27 (F := Ideal) x0 x1 x2 = Dix x0 x1 x2 := by
  funext o
  idx_vars o
  have e : idx_main_v26 (ix2 o0 o1) = ix3 o0 (⟨o1.val / 128, by omega⟩ : Fin 32) (⟨o1.val % 128, by omega⟩ : Fin 128) := by
    idx_ext <;> simp <;> omega
  rw [val_main_v27_apply, val_main_v26_apply, e, head_read]
  rfl

end Reference

section Kernel

open Cert.NormGateIdeal Cert.NormGateIdeal.Gen

/-- A point's value at lane `c` of head `g` of its block. -/
def headOf (x0 x1 : FVec Ideal S1x256x512 .bf16) (x2 : FVec Ideal S256x512 .bf16) (x3 : FVec Ideal S1x128 .f32)
    (r : Fin 256) (g : Fin 4) (c : Fin 128) : EReal :=
  gated (fun l => x0 (ix3 0 r ⟨g * 128 + l, by omega⟩) + x1 (ix3 0 r ⟨g * 128 + l, by omega⟩)) (fun l => x3 (ix2 0 l))
    (fun l => x2 (ix2 r ⟨g * 128 + l, by omega⟩)) c

/-- The first head's stored values. -/
theorem pay_read0 (x0 x1 : FVec Ideal S1x256x512 .bf16) (x2 : FVec Ideal S256x512 .bf16) (x3 : FVec Ideal S1x128 .f32) (r : Fin 256) (c : Fin 128) :
    k0_pay4 (F := Ideal) x0 x1 x2 x3 (ix2 r c) = headOf x0 x1 x2 x3 r 0 c := by
  unfold headOf gated
  pointwise [k0_pay4, k0_pay3, k0_pay2, k0_pay1]

/-- The second head's stored values. -/
theorem pay_read1 (x0 x1 : FVec Ideal S1x256x512 .bf16) (x2 : FVec Ideal S256x512 .bf16) (x3 : FVec Ideal S1x128 .f32) (r : Fin 256) (c : Fin 128) :
    k0_pay7 (F := Ideal) (k0_pay2 x2) (k0_pay3 x3) (k0_pay5 x0 x1) (k0_pay6 x0 x1) (ix2 r c) = headOf x0 x1 x2 x3 r 1 c := by
  unfold headOf gated
  pointwise [k0_pay7, k0_pay6, k0_pay5, k0_pay3, k0_pay2, k0_pay1]

/-- The third head's stored values. -/
theorem pay_read2 (x0 x1 : FVec Ideal S1x256x512 .bf16) (x2 : FVec Ideal S256x512 .bf16) (x3 : FVec Ideal S1x128 .f32) (r : Fin 256) (c : Fin 128) :
    k0_pay8 (F := Ideal) (k0_pay1 x0 x1) (k0_pay2 x2) (k0_pay3 x3) (ix2 r c) = headOf x0 x1 x2 x3 r 2 c := by
  unfold headOf gated
  pointwise [k0_pay8, k0_pay3, k0_pay2, k0_pay1]

/-- The fourth head's stored values. -/
theorem pay_read3 (x0 x1 : FVec Ideal S1x256x512 .bf16) (x2 : FVec Ideal S256x512 .bf16) (x3 : FVec Ideal S1x128 .f32) (r : Fin 256) (c : Fin 128) :
    k0_pay9 (F := Ideal) (k0_pay1 x0 x1) (k0_pay2 x2) (k0_pay3 x3) (ix2 r c) = headOf x0 x1 x2 x3 r 3 c := by
  unfold headOf gated
  pointwise [k0_pay9, k0_pay3, k0_pay2, k0_pay1]

/-- Four stores of 128 columns each, read back: column `g * 128 + c` holds the `g`th store's column `c`. -/
theorem stores_read (p0 p1 p2 p3 : FVec Ideal S256x128 .bf16) (r : Fin 256) (g : Fin 4) (c : Fin 128) :
    View.canon (Val := Elt Ideal) (s := S256x512) (e := .bf16) [⟨r0_6, p3⟩, ⟨r0_5, p2⟩, ⟨r0_4, p1⟩, ⟨r0_3, p0⟩] (ix2 r ⟨g * 128 + c, by omega⟩)
      = ![p0, p1, p2, p3] g (ix2 r c) := by
  have e3 : r0_3.emb (ix2 r c : S256x128.Idx) = ix2 r ⟨(0 : Fin 4) * 128 + c, by omega⟩ := by
    funext a; apply Fin.ext; fin_cases a
    · show 0 + 1 * r.val = r.val; omega
    · show 0 + 1 * c.val = 0 * 128 + c.val; omega
  have e4 : r0_4.emb (ix2 r c : S256x128.Idx) = ix2 r ⟨(1 : Fin 4) * 128 + c, by omega⟩ := by
    funext a; apply Fin.ext; fin_cases a
    · show 0 + 1 * r.val = r.val; omega
    · show 128 + 1 * c.val = 1 * 128 + c.val; omega
  have e5 : r0_5.emb (ix2 r c : S256x128.Idx) = ix2 r ⟨(2 : Fin 4) * 128 + c, by omega⟩ := by
    funext a; apply Fin.ext; fin_cases a
    · show 0 + 1 * r.val = r.val; omega
    · show 256 + 1 * c.val = 2 * 128 + c.val; omega
  have e6 : r0_6.emb (ix2 r c : S256x128.Idx) = ix2 r ⟨(3 : Fin 4) * 128 + c, by omega⟩ := by
    funext a; apply Fin.ext; fin_cases a
    · show 0 + 1 * r.val = r.val; omega
    · show 384 + 1 * c.val = 3 * 128 + c.val; omega
  have n6 : ∀ g : Fin 4, g.val < 3 → (ix2 r ⟨g * 128 + c, by omega⟩ : S256x512.Idx) ∉ r0_6.set := fun g hg hm => by
    have h : 384 ≤ g.val * 128 + c.val := (Rect.mem_set_unit.mp hm (1 : Fin 2)).1
    omega
  have n5 : ∀ g : Fin 4, g.val < 2 → (ix2 r ⟨g * 128 + c, by omega⟩ : S256x512.Idx) ∉ r0_5.set := fun g hg hm => by
    have h : 256 ≤ g.val * 128 + c.val := (Rect.mem_set_unit.mp hm (1 : Fin 2)).1
    omega
  have n4 : ∀ g : Fin 4, g.val < 1 → (ix2 r ⟨g * 128 + c, by omega⟩ : S256x512.Idx) ∉ r0_4.set := fun g hg hm => by
    have h : 128 ≤ g.val * 128 + c.val := (Rect.mem_set_unit.mp hm (1 : Fin 2)).1
    omega
  have s6 : ∀ y L, y ∉ r0_6.set → View.canon (Val := Elt Ideal) (s := S256x512) (e := .bf16) (⟨r0_6, p3⟩ :: L) y = View.canon L y :=
    fun y L h => View.canon_cons_of_not_mem ⟨r0_6, p3⟩ L h
  have s5 : ∀ y L, y ∉ r0_5.set → View.canon (Val := Elt Ideal) (s := S256x512) (e := .bf16) (⟨r0_5, p2⟩ :: L) y = View.canon L y :=
    fun y L h => View.canon_cons_of_not_mem ⟨r0_5, p2⟩ L h
  have s4 : ∀ y L, y ∉ r0_4.set → View.canon (Val := Elt Ideal) (s := S256x512) (e := .bf16) (⟨r0_4, p1⟩ :: L) y = View.canon L y :=
    fun y L h => View.canon_cons_of_not_mem ⟨r0_4, p1⟩ L h
  obtain rfl | rfl | rfl | rfl : g = 0 ∨ g = 1 ∨ g = 2 ∨ g = 3 := by omega
  · rw [s6 _ _ (n6 0 (by decide)), s5 _ _ (n5 0 (by decide)), s4 _ _ (n4 0 (by decide))]
    rw [← e3]; exact View.canon_cons_emb (Val := Elt Ideal) (s := S256x512) (e := .bf16) r0_3 p0 _ (ix2 r c : S256x128.Idx)
  · rw [s6 _ _ (n6 1 (by decide)), s5 _ _ (n5 1 (by decide))]
    rw [← e4]; exact View.canon_cons_emb (Val := Elt Ideal) (s := S256x512) (e := .bf16) r0_4 p1 _ (ix2 r c : S256x128.Idx)
  · rw [s6 _ _ (n6 2 (by decide))]
    rw [← e5]; exact View.canon_cons_emb (Val := Elt Ideal) (s := S256x512) (e := .bf16) r0_5 p2 _ (ix2 r c : S256x128.Idx)
  · rw [← e6]; exact View.canon_cons_emb (Val := Elt Ideal) (s := S256x512) (e := .bf16) r0_6 p3 _ (ix2 r c : S256x128.Idx)

/-- What a point leaves in its output block, head by head. -/
theorem block_read (x0 x1 : FVec Ideal S1x256x512 .bf16) (x2 : FVec Ideal S256x512 .bf16) (x3 : FVec Ideal S1x128 .f32)
    (r : Fin 256) (g : Fin 4) (c : Fin 128) :
    out0_4 (F := Ideal) x0 x1 x2 x3 (ix2 r ⟨g * 128 + c, by omega⟩) = headOf x0 x1 x2 x3 r g c := by
  have l0 : View.ld (Val := Elt Ideal) (e' := .bf16) x0 r0_0 = x0 := View.ld_unit_lit (Val := Elt Ideal) (e := .bf16) (S := S1x256x512) inb_S1x256x512_S1x256x512_0_0_0 x0 (by decide)
  have l1 : View.ld (Val := Elt Ideal) (e' := .bf16) x1 r0_0 = x1 := View.ld_unit_lit (Val := Elt Ideal) (e := .bf16) (S := S1x256x512) inb_S1x256x512_S1x256x512_0_0_0 x1 (by decide)
  have l2 : View.ld (Val := Elt Ideal) (e' := .bf16) x2 r0_1 = x2 := View.ld_unit_lit (Val := Elt Ideal) (e := .bf16) (S := S256x512) inb_S256x512_S256x512_0_0 x2 (by decide)
  have l3 : View.ld (Val := Elt Ideal) (e' := .f32) x3 r0_2 = x3 := View.ld_unit_lit (Val := Elt Ideal) (e := .f32) (S := S1x128) inb_S1x128_S1x128_0_0 x3 (by decide)
  unfold out0_4 k0_pay12 k0_pay11 k0_pay10
  rw [l0, l1, l2, l3, stores_read]
  fin_cases g
  · exact pay_read0 x0 x1 x2 x3 r c
  · exact pay_read1 x0 x1 x2 x3 r c
  · exact pay_read2 x0 x1 x2 x3 r c
  · exact pay_read3 x0 x1 x2 x3 r c

/-- The block indices of the windows at a grid point. -/
theorem idx_val : ∀ t : Fin cfg0.N,
    win0_0.index t = ![0, t.val / 8, t.val % 8] ∧ win0_1.index t = ![1, t.val / 8, t.val % 8]
    ∧ win0_2.index t = ![t.val / 8, 16 + t.val % 8] ∧ win0_3.index t = ![0, 0] ∧ win0_4.index t = ![t.val / 8, t.val % 8] :=
  (by decide +kernel : ∀ t : Fin grid0.N, _)

variable (m : (ℓ : Loc nD τ sig) → Buf (Elt Ideal) ℓ)

/-- What point `t` stores, at an index of its block, is `Dix` of the arguments at that index of the result. -/
theorem point (c : Dev nD) (t : Fin cfg0.N) (y : S256x512.Idx) :
    out0_4 (F := Ideal) (iblk m c 0 t) (iblk m c 1 t) (iblk m c 2 t) (iblk m c 3 t) y
      = Dix (m ((c : Thread nD τ).loc main_arg0)) (m ((c : Thread nD τ).loc main_arg1)) (m ((c : Thread nD τ).loc main_arg2))
          (((cfg0.win 4).blk t).view.emb y) := by
  obtain ⟨e0, e1, e2, e3, e4⟩ := idx_val t
  have hb : t.val < 544 := t.isLt
  obtain ⟨r, g, l, rfl⟩ : ∃ (r : Fin 256) (g : Fin 4) (l : Fin 128), y = ix2 r ⟨g * 128 + l, by omega⟩ := by
    idx_vars y
    exact ⟨y0, ⟨y1.val / 128, by omega⟩, ⟨y1.val % 128, by omega⟩, by idx_ext <;> simp <;> omega⟩
  rw [block_read]
  have eo : ((cfg0.win 4).blk t).view.emb (ix2 r ⟨g * 128 + l, by omega⟩)
      = ix2 ⟨t.val / 8 * 256 + r, by omega⟩ ⟨t.val % 8 * 512 + (g * 128 + l), by omega⟩ := by
    blk_ext [e4]
  rw [eo]
  have hh : (t.val % 8 * 512 + (g.val * 128 + l.val)) / 128 = t.val % 8 * 4 + g.val := by omega
  have hl : (t.val % 8 * 512 + (g.val * 128 + l.val)) % 128 = l.val := by omega
  have key : Dix (m ((c : Thread nD τ).loc main_arg0)) (m ((c : Thread nD τ).loc main_arg1)) (m ((c : Thread nD τ).loc main_arg2))
      (ix2 ⟨t.val / 8 * 256 + r, by omega⟩ ⟨t.val % 8 * 512 + (g * 128 + l), by omega⟩)
      = D (m ((c : Thread nD τ).loc main_arg0)) (m ((c : Thread nD τ).loc main_arg1)) (m ((c : Thread nD τ).loc main_arg2))
          ⟨t.val / 8 * 256 + r, by omega⟩ ⟨t.val % 8 * 4 + g, by omega⟩ l :=
    congrArg₂ (D _ _ _ _) (Fin.ext hh) (Fin.ext hl)
  rw [key]
  unfold headOf D
  congr 1
  · funext k
    refine congrArg₂ (· + ·) ?_ ?_
    · have h : (iblk m c 0 t : Vec Ideal S1x256x512 .bf16) (ix3 0 r ⟨g * 128 + k, by omega⟩)
          = m ((c : Thread nD τ).loc main_arg0) (ix3 0 ⟨t.val / 8 * 256 + r, by omega⟩ ⟨(t.val % 8 * 4 + g) * 128 + k, by omega⟩) := by
        blk_ext! [iblk, V, e0]
      exact h
    · have h : (iblk m c 1 t : Vec Ideal S1x256x512 .bf16) (ix3 0 r ⟨g * 128 + k, by omega⟩)
          = m ((c : Thread nD τ).loc main_arg0) (ix3 1 ⟨t.val / 8 * 256 + r, by omega⟩ ⟨(t.val % 8 * 4 + g) * 128 + k, by omega⟩) := by
        blk_ext! [iblk, V, e1]
      exact h
  · funext k
    have h : (iblk m c 3 t : Vec Ideal S1x128 .f32) (ix2 0 k) = m ((c : Thread nD τ).loc main_arg2) (ix1 k) := by
      blk_ext! [iblk, V, e3]
    exact h
  · funext k
    have h : (iblk m c 2 t : Vec Ideal S256x512 .bf16) (ix2 r ⟨g * 128 + k, by omega⟩)
        = m ((c : Thread nD τ).loc main_arg1) (ix2 ⟨t.val / 8 * 256 + r, by omega⟩ ⟨8192 + ((t.val % 8 * 4 + g) * 128 + k), by omega⟩) := by
      blk_ext! [iblk, V, e2]
    exact h

/-- The output blocks cover the result array. -/
theorem covers : (cfg0.win 4).Covers := by decide +kernel

/-- The result array after the run is `Dix` of the arguments. -/
theorem final (c : Dev nD) :
    (dats m 0 c).arrAt 4 cfg0.N
      = Dix (m ((c : Thread nD τ).loc main_arg0)) (m ((c : Thread nD τ).loc main_arg1)) (m ((c : Thread nD τ).loc main_arg2)) := by
  refine (dats m 0 c).arrAt_eq_of_covers 4 _ covers fun t _ y => ?_
  exact (congrFun (after0_4 m c t) y).trans (point m c t y)

end Kernel

/-- `Cert.quiescent_NormGateRefIdeal`: the reference's run read at its arguments; it declares no semaphore. -/
theorem frame_ref : Cert.quiescent_NormGateRefIdeal := fun m g _ =>
  (θ_run Cert.NormGateRefIdeal.defs _ _).mono (fun r h => ⟨fun c => (h c).2, sem_eq_zero_of_no_sems (by decide) r.2⟩)
    (Cert.NormGateRefIdeal.Value.run m g)

/-- The algebraic claim: the kernel's result array and the reference's result are one function of equal arguments. -/
theorem agree : Cert.algebraic_NormGateIdeal_NormGateRefIdeal := by
  intro m g m' g' _ hargs
  refine ⟨fun c => (Cert.NormGateIdeal.Gen.dats m 0 c).arrAt 4 Cert.NormGateIdeal.cfg0.N, ?_, ?_⟩
  · exact (θ_run _ _ _).mono (fun r h c => ⟨(h.1 c).1 4, h.2 c⟩)
      (θ_run_and (Cert.NormGateIdeal.Gen.run_main m g) (Cert.NormGateIdeal.Gen.unchanged m g))
  refine (θ_run _ _ _).mono (fun r hr c => ?_) (Cert.NormGateRefIdeal.Value.run m' g')
  obtain ⟨h0, h1, h2, h3⟩ := hr c
  refine ⟨?_, h1, h2, h3⟩
  obtain ⟨a0, a1, a2⟩ := hargs c
  rw [h0, Cert.NormGateRefIdeal.Read.val_main_v27_eq, a0, a1, a2]
  exact (ref_eq _ _ _).trans (final m c).symm

end Cert.Proof.NormClaim

end
-- ==== Proof.ModClaim.lean ====
/- The first layer's modulation of the rows: the result array and the reference's result are one function of the arguments. -/
module

public import proofs.«01_k».proof.Defs
public import proofs.«01_k».proof.Proof.Gen.Modulate.Frame
public import proofs.«01_k».proof.Proof.Gen.ModulateIdeal.Frame
public import proofs.«01_k».proof.Proof.Gen.ModulateRefIdeal.Run
public import proofs.«01_k».proof.Proof.Gen.ModulateRefIdeal.Read
public import Idealize.ShloMosaic.Lib.Pointwise
public import Idealize.ShloMosaic.Lib.Pipeline.ValueKit
public import Idealize.ShloMosaic.PureOps.Ideal
public import Idealize.ShloMosaic.Lib.Quiescent

@[expose] public section

set_option maxRecDepth 16384

noncomputable section

namespace Cert.Proof.ModClaim

open Idealize.ShloMosaic Idealize.ShloMosaic.TcCoe Idealize.SL.Sem

/-- The modulation's row for token `t` of batch `b`: the last for a context token, the batch's own for a latent one. -/
def which (b : Fin 4) (t : Fin 4352) : Fin 5 := if t.val < 256 then 4 else ⟨b.val, by omega⟩

/-- One row's modulation: entry times one plus the scale, plus the shift. -/
def D (x : (⟨2, ![17408, 2048]⟩ : Shape).Idx → EReal) (w : (⟨3, ![5, 6, 2048]⟩ : Shape).Idx → EReal) (o : (⟨2, ![17408, 2048]⟩ : Shape).Idx) : EReal :=
  x o * (Ideal.ofBits .f32 0x3F800000#32 + w (ix3 (which ⟨(o 0).val / 4352, by have := (o 0).isLt; simp at this; omega⟩ ⟨(o 0).val % 4352, by omega⟩) 1 (o 1)))
    + w (ix3 (which ⟨(o 0).val / 4352, by have := (o 0).isLt; simp at this; omega⟩ ⟨(o 0).val % 4352, by omega⟩) 0 (o 1))

section Reference

open Cert.ModulateRefIdeal Cert.ModulateRefIdeal.Read

/-- The reference's value by batch, token and column. -/
theorem token_read (x : FVec Ideal S17408x2048 .f32) (w : FVec Ideal S5x6x2048 .f32) (b : Fin 4) (t : Fin 4352) (c : Fin 2048) :
    val_main_v27 (F := Ideal) x w (ix3 b t c)
      = x (ix2 ⟨b * 4352 + t, by omega⟩ c) * (Ideal.ofBits .f32 0x3F800000#32 + w (ix3 (which b t) 1 c)) + w (ix3 (which b t) 0 c) := by
  pointwise [val_main_v27, val_main_v26, val_main_v25, val_main_v24, val_main_v23, val_main_v22, val_main_v21, val_main_v20, val_main_v19,
    val_main_v18, val_main_cst_0, val_main_v17, val_main_v16, val_main_v15, val_main_v14, val_main_v13, val_main_v12, val_main_v11,
    val_main_v10, val_main_v9, val_main_v8, val_main_v7, val_main_v6, val_main_v5, val_main_v4, val_main_cst, val_main_v3, val_main_v2,
    val_main_v1, val_main_v0]
  unfold which
  by_cases h : t.val < 256
  · rw [dif_pos h, if_pos h]
  · have e : 256 + (t.val - 256) = t.val := by omega
    rw [dif_neg h, if_neg h]
    simp only [e]

/-- The reference's result is `D`. -/
theorem ref_eq (x : FVec Ideal S17408x2048 .f32) (w : FVec Ideal S5x6x2048 .f32) : val_main_v29 (F := Ideal) x w = D x w := by
  funext o
  idx_vars o
  have e : idx_main_v28 (ix2 o0 o1) = ix3 (⟨o0.val / 4352, by omega⟩ : Fin 4) (⟨o0.val % 4352, by omega⟩ : Fin 4352) o1 := by
    idx_ext <;> simp <;> omega
  rw [val_main_v29_apply, val_main_v28_apply, e, token_read]
  unfold D
  refine congrArg₂ (· + ·) (Ideal.mul_congr (congrArg x ?_) rfl) rfl
  idx_ext <;> simp <;> omega

end Reference

section Kernel

open Cert.ModulateIdeal Cert.ModulateIdeal.Gen

/-- What a point stores, entry by entry. -/
theorem pay_read (x : FVec Ideal S256x2048 .f32) (w : FVec Ideal S1x6x2048 .f32) (r : Fin 256) (c : Fin 2048) :
    k0_pay1 (F := Ideal) w x (ix2 r c) = x (ix2 r c) * (Ideal.ofBits .f32 0x3F800000#32 + w (ix3 0 1 c)) + w (ix3 0 0 c) := by
  pointwise [k0_pay1]

/-- The block indices of the windows at a grid point. -/
theorem idx_val : ∀ t : Fin cfg0.N,
    win0_0.index t = ![t.val, 0] ∧ win0_1.index t = ![if t.val % 17 = 0 then 4 else t.val / 17, 0, 0] ∧ win0_2.index t = ![t.val, 0] :=
  (by decide +kernel : ∀ t : Fin grid0.N, _)

variable (m : (ℓ : Loc nD τ sig) → Buf (Elt Ideal) ℓ)

/-- What point `t` stores, at an index of its block, is `D` of the arguments at that index of the result. -/
theorem point (c : Dev nD) (t : Fin cfg0.N) (y : S256x2048.Idx) :
    k0_pay1 (F := Ideal) (iblk m c 1 t) (iblk m c 0 t) y
      = D (m ((c : Thread nD τ).loc main_arg0)) (m ((c : Thread nD τ).loc main_arg1)) (((cfg0.win 2).blk t).view.emb y) := by
  obtain ⟨e0, e1, e2⟩ := idx_val t
  have hb : t.val < 68 := t.isLt
  idx_vars y
  rw [pay_read]
  have eo : ((cfg0.win 2).blk t).view.emb (ix2 y0 y1) = ix2 ⟨t.val * 256 + y0, by omega⟩ y1 := by
    blk_ext [e2]
  rw [eo]
  have hw : ∀ k : Fin 6, (iblk m c 1 t : Vec Ideal S1x6x2048 .f32) (ix3 0 k y1)
      = m ((c : Thread nD τ).loc main_arg1)
          (ix3 (which ⟨(t.val * 256 + y0.val) / 4352, by omega⟩ ⟨(t.val * 256 + y0.val) % 4352, by omega⟩) k y1) := fun k => by
    have hd : (which ⟨(t.val * 256 + y0.val) / 4352, by omega⟩ ⟨(t.val * 256 + y0.val) % 4352, by omega⟩).val
        = if t.val % 17 = 0 then 4 else t.val / 17 := by
      unfold which
      dsimp only
      split <;> split <;> first | rfl | (exfalso; omega) | (dsimp only; omega)
    generalize which _ _ = q at hd
    blk_ext! [iblk, V, e1, hd]
  have hx : (iblk m c 0 t : Vec Ideal S256x2048 .f32) (ix2 y0 y1) = m ((c : Thread nD τ).loc main_arg0) (ix2 ⟨t.val * 256 + y0, by omega⟩ y1) := by
    blk_ext! [iblk, V, e0]
  unfold D
  exact congrArg₂ (· + ·) (Ideal.mul_congr hx (congrArg _ (hw 1))) (hw 0)

/-- The output blocks cover the result array. -/
theorem covers : (cfg0.win 2).Covers := by decide +kernel

/-- The result array after the run is `D` of the arguments. -/
theorem final (c : Dev nD) :
    (dats m 0 c).arrAt 2 cfg0.N = D (m ((c : Thread nD τ).loc main_arg0)) (m ((c : Thread nD τ).loc main_arg1)) := by
  refine (dats m 0 c).arrAt_eq_of_covers 2 _ covers fun t _ y => ?_
  blk_simp
  rw [after0_2]
  frame_out
  exact point m c t y

end Kernel

/-- `Cert.quiescent_ModulateRefIdeal`: the reference's run read at its arguments; it declares no semaphore. -/
theorem frame_ref : Cert.quiescent_ModulateRefIdeal := fun m g _ =>
  (θ_run Cert.ModulateRefIdeal.defs _ _).mono (fun r h => ⟨fun c => (h c).2, sem_eq_zero_of_no_sems (by decide) r.2⟩)
    (Cert.ModulateRefIdeal.Value.run m g)

/-- The algebraic claim: the kernel's result array and the reference's result are one function of equal arguments. -/
theorem agree : Cert.algebraic_ModulateIdeal_ModulateRefIdeal := by
  intro m g m' g' _ hargs
  refine ⟨fun c => (Cert.ModulateIdeal.Gen.dats m 0 c).arrAt 2 Cert.ModulateIdeal.cfg0.N, ?_, ?_⟩
  · exact (θ_run _ _ _).mono (fun r h c => ⟨(h.1 c).1 2, h.2 c⟩)
      (θ_run_and (Cert.ModulateIdeal.Gen.run_main m g) (Cert.ModulateIdeal.Gen.unchanged m g))
  refine (θ_run _ _ _).mono (fun r hr c => ?_) (Cert.ModulateRefIdeal.Value.run m' g')
  obtain ⟨h0, h1, h2⟩ := hr c
  refine ⟨?_, h1, h2⟩
  obtain ⟨a0, a1⟩ := hargs c
  rw [h0, Cert.ModulateRefIdeal.Read.val_main_v29_eq, a0, a1]
  exact (ref_eq _ _).trans (final m c).symm

end Cert.Proof.ModClaim

end
-- ==== Proof.ResClaim.lean ====
/- The first residual layer norm with the feed-forward's modulation: the two result arrays and the reference's two results are the same functions
   of the arguments. -/
module

public import proofs.«01_k».proof.Defs
public import proofs.«01_k».proof.Proof.Gen.ResLn.Frame
public import proofs.«01_k».proof.Proof.Gen.ResLnIdeal.Frame
public import proofs.«01_k».proof.Proof.Gen.ResLnRefIdeal.Run
public import proofs.«01_k».proof.Proof.Gen.ResLnRefIdeal.Read
public import proofs.«01_k».proof.Proof.ModClaim

@[expose] public section

set_option maxRecDepth 16384

noncomputable section

namespace Cert.Proof.ResClaim

open Idealize.ShloMosaic Idealize.ShloMosaic.TcCoe Idealize.SL.Sem
open Cert.Proof.ModClaim (which)

/-- A row's mean. -/
def mean (t : Fin 2048 → EReal) : EReal := Ideal.div (∑ l, t l) (Ideal.ofBits .f32 0x45000000#32)

/-- A row's layer norm. -/
def lnorm (t w b : Fin 2048 → EReal) (c : Fin 2048) : EReal :=
  (t c - mean t) * Ideal.rsqrt (mean (fun l => (t l - mean t) * (t l - mean t)) + Ideal.ofBits .f32 0x3727C5AC#32) * w c + b c

/-- The residual sum's row: the stream's row, scaled, plus the gated mixer's row. -/
def resid (x y g : Fin 2048 → EReal) (c : Fin 2048) : EReal := Ideal.ofBits .f32 0x3FB504F3#32 * x c + g c * y c

/-- The new stream's row. -/
def stream (x y g w b : Fin 2048 → EReal) (c : Fin 2048) : EReal := lnorm (resid x y g) w b c

/-- The next mixer's row: the new stream's, modulated. -/
def shifted (v s h : EReal) : EReal := v * (Ideal.ofBits .f32 0x3F800000#32 + s) + h

/-- A row of a two-dimensional array. -/
abbrev row (x : (⟨2, ![17408, 2048]⟩ : Shape).Idx → EReal) (r : Fin 17408) : Fin 2048 → EReal := fun l => x (ix2 r l)

/-- The modulation of a row: part `k` of the row its token is modulated by. -/
def part (m : (⟨3, ![5, 6, 2048]⟩ : Shape).Idx → EReal) (r : Fin 17408) (k : Fin 6) : Fin 2048 → EReal := fun l =>
  m (ix3 (which ⟨r.val / 4352, by omega⟩ ⟨r.val % 4352, by omega⟩) k l)

/-- The first result: the new stream. -/
def Dx (x y : (⟨2, ![17408, 2048]⟩ : Shape).Idx → EReal) (m : (⟨3, ![5, 6, 2048]⟩ : Shape).Idx → EReal) (w b : (⟨1, ![2048]⟩ : Shape).Idx → EReal)
    (o : (⟨2, ![17408, 2048]⟩ : Shape).Idx) : EReal :=
  stream (row x (o 0)) (row y (o 0)) (part m (o 0) 2) (fun l => w (ix1 l)) (fun l => b (ix1 l)) (o 1)

/-- The second result: the next mixer's rows. -/
def Dh (x y : (⟨2, ![17408, 2048]⟩ : Shape).Idx → EReal) (m : (⟨3, ![5, 6, 2048]⟩ : Shape).Idx → EReal) (w b : (⟨1, ![2048]⟩ : Shape).Idx → EReal)
    (o : (⟨2, ![17408, 2048]⟩ : Shape).Idx) : EReal :=
  shifted (Dx x y m w b o) (part m (o 0) 4 (o 1)) (part m (o 0) 3 (o 1))

section Reference

open Cert.ResLnRefIdeal Cert.ResLnRefIdeal.Read

/-- The rows' modulation as the reference lays it out. -/
theorem mod_read (x2 : FVec Ideal S5x6x2048 .f32) (b : Fin 4) (k : Fin 6) (t : Fin 4352) (c : Fin 2048) :
    val_main_v9 (F := Ideal) x2 (ix4 b k t c) = x2 (ix3 (which b t) k c) := by
  pointwise [val_main_v9, val_main_v8, val_main_v7, val_main_v6, val_main_v5, val_main_v4, val_main_v3, val_main_v2]
  unfold which
  by_cases h : t.val < 256
  · rw [dif_pos h, if_pos h]
  · rw [dif_neg h, if_neg h]

/-- The gate's part of the modulation, by batch, token and column. -/
theorem gate_read (x2 : FVec Ideal S5x6x2048 .f32) (b : Fin 4) (t : Fin 4352) (c : Fin 2048) :
    val_main_v13 (F := Ideal) x2 (ix3 b t c) = x2 (ix3 (which b t) 2 c) := by
  have e : idx_main_v12 (idx_main_v13 (ix3 b t c)) = ix4 b 2 t c := by
    idx_ext <;> simp <;> omega
  rw [val_main_v13_apply, val_main_v12_apply, e, mod_read]

/-- The scale's part of the modulation, by batch, token and column. -/
theorem scale_read (x2 : FVec Ideal S5x6x2048 .f32) (b : Fin 4) (t : Fin 4352) (c : Fin 2048) :
    val_main_v41 (F := Ideal) x2 (ix3 b t c) = x2 (ix3 (which b t) 4 c) := by
  have e : idx_main_v40 (idx_main_v41 (ix3 b t c)) = ix4 b 4 t c := by
    idx_ext <;> simp <;> omega
  rw [val_main_v41_apply, val_main_v40_apply, e, mod_read]

/-- The shift's part of the modulation, by batch, token and column. -/
theorem shift_read (x2 : FVec Ideal S5x6x2048 .f32) (b : Fin 4) (t : Fin 4352) (c : Fin 2048) :
    val_main_v46 (F := Ideal) x2 (ix3 b t c) = x2 (ix3 (which b t) 3 c) := by
  have e : idx_main_v45 (idx_main_v46 (ix3 b t c)) = ix4 b 3 t c := by
    idx_ext <;> simp <;> omega
  rw [val_main_v46_apply, val_main_v45_apply, e, mod_read]

/-- The residual sum. -/
theorem resid_read (x0 x1 : FVec Ideal S17408x2048 .f32) (x2 : FVec Ideal S5x6x2048 .f32) (b : Fin 4) (t : Fin 4352) (c : Fin 2048) :
    val_main_v15 (F := Ideal) x0 x1 x2 (ix3 b t c)
      = resid (row x0 ⟨b * 4352 + t, by omega⟩) (row x1 ⟨b * 4352 + t, by omega⟩) (fun l => x2 (ix3 (which b t) 2 l)) c := by
  have e0 : idx_main_v0 (ix3 b t c) = ix2 (⟨b * 4352 + t, by omega⟩ : Fin 17408) c := by
    idx_ext <;> simp <;> omega
  have e1 : idx_main_v1 (ix3 b t c) = ix2 (⟨b * 4352 + t, by omega⟩ : Fin 17408) c := by
    idx_ext <;> simp <;> omega
  rw [val_main_v15_apply, val_main_v14_apply, val_main_v11_apply, gate_read, val_main_v10_apply, val_main_v1_apply, val_main_v0_apply, e0, e1]
  rfl

/-- The new stream, by batch, token and column. -/
theorem stream_read (x0 x1 : FVec Ideal S17408x2048 .f32) (x2 : FVec Ideal S5x6x2048 .f32) (x3 x4 : FVec Ideal S2048 .f32)
    (b : Fin 4) (t : Fin 4352) (c : Fin 2048) :
    val_main_v39 (F := Ideal) x0 x1 x2 x3 x4 (ix3 b t c)
      = stream (row x0 ⟨b * 4352 + t, by omega⟩) (row x1 ⟨b * 4352 + t, by omega⟩) (fun l => x2 (ix3 (which b t) 2 l))
          (fun l => x3 (ix1 l)) (fun l => x4 (ix1 l)) c := by
  have h : (fun l => val_main_v15 (F := Ideal) x0 x1 x2 (ix3 b t l))
      = resid (row x0 ⟨b * 4352 + t, by omega⟩) (row x1 ⟨b * 4352 + t, by omega⟩) (fun l => x2 (ix3 (which b t) 2 l)) :=
    funext fun l => resid_read x0 x1 x2 b t l
  unfold stream
  rw [← h]
  unfold lnorm mean
  pointwise [val_main_v39, val_main_v38, val_main_v37, val_main_v36, val_main_v35, val_main_v34, val_main_v33, val_main_v32, val_main_v31,
    val_main_v30, val_main_v29, val_main_cst_4, val_main_v28, val_main_v27, val_main_v26, val_main_v25, val_main_cst_3, val_main_v24,
    val_main_v23, val_main_cst_2, val_main_v22, val_main_v21, val_main_v20, val_main_v19, val_main_v18, val_main_cst_1, val_main_v17,
    val_main_v16, val_main_cst_0]

/-- The next mixer's rows, by batch, token and column. -/
theorem shifted_read (x0 x1 : FVec Ideal S17408x2048 .f32) (x2 : FVec Ideal S5x6x2048 .f32) (x3 x4 : FVec Ideal S2048 .f32)
    (b : Fin 4) (t : Fin 4352) (c : Fin 2048) :
    val_main_v47 (F := Ideal) x0 x1 x2 x3 x4 (ix3 b t c)
      = shifted (val_main_v39 (F := Ideal) x0 x1 x2 x3 x4 (ix3 b t c)) (x2 (ix3 (which b t) 4 c)) (x2 (ix3 (which b t) 3 c)) := by
  rw [val_main_v47_apply, val_main_v44_apply, val_main_v43_apply, scale_read, shift_read, val_main_v42_apply]
  generalize val_main_v39 (F := Ideal) x0 x1 x2 x3 x4 (ix3 b t c) = v
  rfl

/-- The row of the array a batch's token is. -/
theorem row_of (r : Fin 17408) : (⟨(⟨r.val / 4352, by omega⟩ : Fin 4) * 4352 + (⟨r.val % 4352, by omega⟩ : Fin 4352), by omega⟩ : Fin 17408) = r :=
  Fin.ext (by show r.val / 4352 * 4352 + r.val % 4352 = r.val; omega)

/-- The reference's first result is `Dx`. -/
theorem ref_x (x0 x1 : FVec Ideal S17408x2048 .f32) (x2 : FVec Ideal S5x6x2048 .f32) (x3 x4 : FVec Ideal S2048 .f32) :
    val_main_v48 (F := Ideal) x0 x1 x2 x3 x4 = Dx x0 x1 x2 x3 x4 := by
  funext o
  idx_vars o
  have e : idx_main_v48 (ix2 o0 o1) = ix3 (⟨o0.val / 4352, by omega⟩ : Fin 4) (⟨o0.val % 4352, by omega⟩ : Fin 4352) o1 := by
    idx_ext <;> simp <;> omega
  rw [val_main_v48_apply, e, stream_read, row_of]
  rfl

/-- The reference's second result is `Dh`. -/
theorem ref_h (x0 x1 : FVec Ideal S17408x2048 .f32) (x2 : FVec Ideal S5x6x2048 .f32) (x3 x4 : FVec Ideal S2048 .f32) :
    val_main_v50 (F := Ideal) x0 x1 x2 x3 x4 = Dh x0 x1 x2 x3 x4 := by
  funext o
  idx_vars o
  have e : idx_main_v49 (ix2 o0 o1) = ix3 (⟨o0.val / 4352, by omega⟩ : Fin 4) (⟨o0.val % 4352, by omega⟩ : Fin 4352) o1 := by
    idx_ext <;> simp <;> omega
  rw [val_main_v50_apply, val_main_v49_apply, e, shifted_read, stream_read, row_of]
  rfl

end Reference

section Kernel

open Cert.ResLnIdeal Cert.ResLnIdeal.Gen

/-- What a point stores of the new stream, entry by entry. -/
theorem pay_read_x (x y : FVec Ideal S256x2048 .f32) (g : FVec Ideal S1x6x2048 .f32) (w b : FVec Ideal S1x2048 .f32) (r : Fin 256) (c : Fin 2048) :
    k0_pay2 (F := Ideal) g x y w b (ix2 r c)
      = stream (fun l => x (ix2 r l)) (fun l => y (ix2 r l)) (fun l => g (ix3 0 2 l)) (fun l => w (ix2 0 l)) (fun l => b (ix2 0 l)) c := by
  unfold stream lnorm mean resid
  pointwise [k0_pay2]

/-- What a point stores of the next mixer's rows, entry by entry. -/
theorem pay_read_h (v : FVec Ideal S256x2048 .f32) (n : FVec Ideal S1x6x2048 .f32) (r : Fin 256) (c : Fin 2048) :
    k0_pay1 (F := Ideal) v n (ix2 r c) = shifted (v (ix2 r c)) (n (ix3 0 4 c)) (n (ix3 0 3 c)) := by
  unfold shifted
  pointwise [k0_pay1]

/-- The block indices of the windows at a grid point. -/
theorem idx_val : ∀ t : Fin cfg0.N,
    win0_0.index t = ![t.val, 0] ∧ win0_1.index t = ![t.val, 0] ∧ win0_2.index t = ![if t.val % 17 = 0 then 4 else t.val / 17, 0, 0]
    ∧ win0_3.index t = ![if t.val % 17 = 0 then 4 else t.val / 17, 0, 0] ∧ win0_4.index t = ![0, 0] ∧ win0_5.index t = ![0, 0]
    ∧ win0_6.index t = ![t.val, 0] ∧ win0_7.index t = ![t.val, 0] :=
  (by decide +kernel : ∀ t : Fin grid0.N, _)

variable (m : (ℓ : Loc nD τ sig) → Buf (Elt Ideal) ℓ)

/-- The row of the modulation array that point `t`'s rows use. -/
theorem which_val (t : Fin cfg0.N) (r : Fin 256) (h : t.val * 256 + r.val < 17408) :
    (which ⟨(t.val * 256 + r.val) / 4352, by omega⟩ ⟨(t.val * 256 + r.val) % 4352, by omega⟩).val
      = if t.val % 17 = 0 then 4 else t.val / 17 := by
  unfold which
  dsimp only
  split <;> split <;> first | rfl | (exfalso; omega) | (dsimp only; omega)

/-- What point `t` stores of the new stream, at an index of its block, is `Dx` of the arguments at that index of the result. -/
theorem point_x (c : Dev nD) (t : Fin cfg0.N) (r : Fin 256) (j : Fin 2048) (h : t.val * 256 + r.val < 17408) :
    k0_pay2 (F := Ideal) (iblk m c 2 t) (iblk m c 0 t) (iblk m c 1 t) (iblk m c 4 t) (iblk m c 5 t) (ix2 r j)
      = Dx (m ((c : Thread nD τ).loc main_arg0)) (m ((c : Thread nD τ).loc main_arg1)) (m ((c : Thread nD τ).loc main_arg2))
          (m ((c : Thread nD τ).loc main_arg3)) (m ((c : Thread nD τ).loc main_arg4)) (ix2 ⟨t.val * 256 + r, h⟩ j) := by
  obtain ⟨e0, e1, e2, -, e4, e5, -, -⟩ := idx_val t
  rw [pay_read_x]
  unfold Dx
  congr 1
  · funext l
    have h : (iblk m c 0 t : Vec Ideal S256x2048 .f32) (ix2 r l) = m ((c : Thread nD τ).loc main_arg0) (ix2 ⟨t.val * 256 + r, h⟩ l) := by
      blk_ext! [iblk, V, e0]
    exact h
  · funext l
    have h : (iblk m c 1 t : Vec Ideal S256x2048 .f32) (ix2 r l) = m ((c : Thread nD τ).loc main_arg1) (ix2 ⟨t.val * 256 + r, h⟩ l) := by
      blk_ext! [iblk, V, e1]
    exact h
  · funext l
    have hd := which_val t r h
    unfold part
    show (iblk m c 2 t : Vec Ideal S1x6x2048 .f32) (ix3 0 2 l) = m ((c : Thread nD τ).loc main_arg2)
      (ix3 (which ⟨(t.val * 256 + r.val) / 4352, _⟩ ⟨(t.val * 256 + r.val) % 4352, _⟩) 2 l)
    generalize which _ _ = q at hd ⊢
    blk_ext! [iblk, V, e2, hd]
  · funext l
    have h : (iblk m c 4 t : Vec Ideal S1x2048 .f32) (ix2 0 l) = m ((c : Thread nD τ).loc main_arg3) (ix1 l) := by
      blk_ext! [iblk, V, e4]
    exact h
  · funext l
    have h : (iblk m c 5 t : Vec Ideal S1x2048 .f32) (ix2 0 l) = m ((c : Thread nD τ).loc main_arg4) (ix1 l) := by
      blk_ext! [iblk, V, e5]
    exact h

/-- The modulation's parts as point `t` reads them for the next mixer. -/
theorem next_read (c : Dev nD) (t : Fin cfg0.N) (r : Fin 256) (j : Fin 2048) (h : t.val * 256 + r.val < 17408) (k : Fin 6) :
    (iblk m c 3 t : Vec Ideal S1x6x2048 .f32) (ix3 0 k j) = part (m ((c : Thread nD τ).loc main_arg2)) ⟨t.val * 256 + r, h⟩ k j := by
  obtain ⟨-, -, -, e3, -⟩ := idx_val t
  have hd := which_val t r h
  unfold part
  show (iblk m c 3 t : Vec Ideal S1x6x2048 .f32) (ix3 0 k j) = m ((c : Thread nD τ).loc main_arg2)
    (ix3 (which ⟨(t.val * 256 + r.val) / 4352, _⟩ ⟨(t.val * 256 + r.val) % 4352, _⟩) k j)
  generalize which _ _ = q at hd ⊢
  blk_ext! [iblk, V, e3, hd]

/-- The output blocks cover the first result array. -/
theorem covers_x : (cfg0.win 6).Covers := by decide +kernel

/-- The output blocks cover the second result array. -/
theorem covers_h : (cfg0.win 7).Covers := by decide +kernel

/-- The first result array after the run is `Dx` of the arguments. -/
theorem final_x (c : Dev nD) :
    (dats m 0 c).arrAt 6 cfg0.N = Dx (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ covers_x fun t _ y => ?_
  obtain ⟨-, -, -, -, -, -, e6, -⟩ := idx_val t
  have hb : t.val < 68 := t.isLt
  blk_simp
  rw [after0_6]
  frame_out
  obtain ⟨r, j, rfl⟩ : ∃ (r : Fin 256) (j : Fin 2048), y = ix2 r j := ⟨y 0, y 1, by funext a; fin_cases a <;> rfl⟩
  have eo : ((cfg0.win 6).blk t).view.emb (ix2 r j) = ix2 ⟨t.val * 256 + r, by omega⟩ j := by
    blk_ext [e6]
  exact (point_x m c t r j (by omega)).trans (congrArg _ eo.symm)

/-- The second result array after the run is `Dh` of the arguments. -/
theorem final_h (c : Dev nD) :
    (dats m 0 c).arrAt 7 cfg0.N = Dh (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 7 _ covers_h fun t _ y => ?_
  obtain ⟨-, -, -, -, -, -, -, e7⟩ := idx_val t
  have hb : t.val < 68 := t.isLt
  blk_simp
  rw [after0_7]
  frame_out
  obtain ⟨r, j, rfl⟩ : ∃ (r : Fin 256) (j : Fin 2048), y = ix2 r j := ⟨y 0, y 1, by funext a; fin_cases a <;> rfl⟩
  have eo : ((cfg0.win 7).blk t).view.emb (ix2 r j) = ix2 ⟨t.val * 256 + r, by omega⟩ j := by
    blk_ext [e7]
  refine Eq.trans ?_ (congrArg _ eo.symm)
  refine (pay_read_h _ _ r j).trans ?_
  unfold Dh
  rw [point_x m c t r j (by omega), next_read m c t r j (by omega), next_read m c t r j (by omega)]
  rfl

end Kernel

/-- `Cert.quiescent_ResLnRefIdeal`: the reference's run read at its arguments; it declares no semaphore. -/
theorem frame_ref : Cert.quiescent_ResLnRefIdeal := fun m g _ =>
  (θ_run Cert.ResLnRefIdeal.defs _ _).mono (fun r h => ⟨fun c => (h c).2.2, sem_eq_zero_of_no_sems (by decide) r.2⟩)
    (Cert.ResLnRefIdeal.Value.run m g)

/-- The algebraic claim: the kernel's result arrays and the reference's results are the same functions of equal arguments. -/
theorem agree : Cert.algebraic_ResLnIdeal_ResLnRefIdeal := by
  intro m g m' g' _ hargs
  refine ⟨fun c => (Cert.ResLnIdeal.Gen.dats m 0 c).arrAt 6 Cert.ResLnIdeal.cfg0.N,
    fun c => (Cert.ResLnIdeal.Gen.dats m 0 c).arrAt 7 Cert.ResLnIdeal.cfg0.N, ?_, ?_⟩
  · exact (θ_run _ _ _).mono (fun r h c => ⟨(h.1 c).1 6, (h.1 c).1 7, h.2 c⟩)
      (θ_run_and (Cert.ResLnIdeal.Gen.run_main m g) (Cert.ResLnIdeal.Gen.unchanged m g))
  refine (θ_run _ _ _).mono (fun r hr c => ?_) (Cert.ResLnRefIdeal.Value.run m' g')
  obtain ⟨h0, h1, h2⟩ := hr c
  obtain ⟨a0, a1, a2, a3, a4⟩ := hargs c
  refine ⟨?_, ?_, h2⟩
  · rw [h0, Cert.ResLnRefIdeal.Read.val_main_v48_eq, a0, a1, a2, a3, a4]
    exact (ref_x _ _ _ _ _).trans (final_x m c).symm
  · rw [h1, Cert.ResLnRefIdeal.Read.val_main_v50_eq, a0, a1, a2, a3, a4]
    exact (ref_h _ _ _ _ _).trans (final_h m c).symm

end Cert.Proof.ResClaim

end
-- ==== Proof.AdaClaim.lean ====
/- The layers' modulation: the result array and the reference's result are one function of the arguments. -/
module

public import proofs.«01_k».proof.Defs
public import proofs.«01_k».proof.Proof.Gen.Ada.Frame
public import proofs.«01_k».proof.Proof.Gen.AdaIdeal.Value
public import proofs.«01_k».proof.Proof.Gen.AdaRefIdeal.Run
public import proofs.«01_k».proof.Proof.Gen.AdaRefIdeal.Read
public import Idealize.ShloMosaic.Lib.Pointwise
public import Idealize.ShloMosaic.Lib.Pipeline.ValueKit
public import Idealize.ShloMosaic.PureOps.Ideal
public import Idealize.ShloMosaic.Lib.Quiescent

@[expose] public section

set_option maxRecDepth 16384

noncomputable section

namespace Cert.Proof.AdaClaim

open Idealize.ShloMosaic Idealize.ShloMosaic.TcCoe Idealize.SL.Sem

/-- One layer's modulation of one conditioning row: the row's SiLU times the weights' column, plus the bias. -/
def D (x0 : FVec Ideal Cert.AdaIdeal.S8x2048 .f32) (x1 : FVec Ideal Cert.AdaIdeal.S2x2048x12288 .f32)
    (x2 : FVec Ideal Cert.AdaIdeal.S2x12288 .f32) (o : Cert.AdaIdeal.S2x8x12288.Idx) : EReal :=
  (∑ k : Fin 2048, x0 (ix2 (o 1) k) * Ideal.logistic (x0 (ix2 (o 1) k)) * x1 (ix3 (o 0) k (o 2))) + x2 (ix2 (o 0) (o 2))

section Reference

open Cert.AdaRefIdeal Cert.AdaRefIdeal.Read

/-- The reference's result is `D`. -/
theorem ref_eq (x0 : FVec Ideal S8x2048 .f32) (x1 : FVec Ideal S2x2048x12288 .f32) (x2 : FVec Ideal S2x12288 .f32) :
    val_main_v20 (F := Ideal) x0 x1 x2 = D x0 x1 x2 := by
  funext o
  idx_vars o
  unfold D Ideal.logistic
  pointwise [val_main_v20, val_main_v19, val_main_v18, val_main_v17, val_main_v16, val_main_v15, val_main_v14, val_main_v13,
    val_main_v12, val_main_v11, val_main_v10, val_main_v9, val_main_call1_v5, val_main_call1_v4, val_main_call1_cst_0,
    val_main_call1_v3, val_main_call1_v2, val_main_call1_cst, val_main_call1_v1, val_main_call1_v0, val_main_v8, val_main_v7,
    val_main_v6, val_main_v5, val_main_v4, val_main_v3, val_main_v2, val_main_v1, val_main_v0, val_main_call0_v5,
    val_main_call0_v4, val_main_call0_cst_0, val_main_call0_v3, val_main_call0_v2, val_main_call0_cst, val_main_call0_v1,
    val_main_call0_v0]
  obtain rfl | rfl : o0 = 0 ∨ o0 = 1 := by omega
  · exact dif_pos (by decide)
  · exact dif_neg (by decide)

end Reference

section Kernel

open Cert.AdaIdeal Cert.AdaIdeal.Gen

/-- What a point stores, entry by entry. -/
theorem pay_read (x0 : FVec Ideal S8x2048 .f32) (x1 : FVec Ideal S1x2048x1024 .f32) (x2 : FVec Ideal S1x1x1024 .f32) (r : Fin 8) (j : Fin 1024) :
    k0_pay1 (F := Ideal) x0 x1 x2 (ix3 0 r j)
      = (∑ k : Fin 2048, x0 (ix2 r k) * Ideal.logistic (x0 (ix2 r k)) * x1 (ix3 0 k j)) + x2 (ix3 0 0 j) := by
  pointwise [k0_pay1]

/-- The block indices of the windows at a grid point. -/
theorem idx_val : ∀ t : Fin cfg0.N,
    win0_0.index t = ![0, 0] ∧ win0_1.index t = ![t.val / 12, 0, t.val % 12] ∧ win0_2.index t = ![t.val / 12, 0, t.val % 12]
    ∧ win0_3.index t = ![t.val / 12, 0, t.val % 12] :=
  (by decide +kernel : ∀ t : Fin grid0.N, _)

variable (m : (ℓ : Loc nD τ sig) → Buf (Elt Ideal) ℓ)

/-- What point `t` stores, at an index of its block, is `D` of the arguments at that index of the result. -/
theorem point (c : Dev nD) (t : Fin cfg0.N) (y : S1x8x1024.Idx) :
    k0_pay1 (F := Ideal) (iblk m c 0 t) (iblk m c 1 t) (iblk m c 2 t) y
      = D (m ((c : Thread nD τ).loc main_arg0)) (m ((c : Thread nD τ).loc main_arg1)) (m ((c : Thread nD τ).loc main_arg2))
          (((cfg0.win 3).blk t).view.emb y) := by
  obtain ⟨e0, e1, e2, e3⟩ := idx_val t
  have hb : t.val < 24 := t.isLt
  idx_vars y
  obtain rfl : y0 = 0 := Subsingleton.elim _ _
  rw [pay_read]
  have eo : ((cfg0.win 3).blk t).view.emb (ix3 0 y1 y2) = ix3 ⟨t.val / 12, by omega⟩ y1 ⟨t.val % 12 * 1024 + y2, by omega⟩ := by
    blk_ext [e3]
  rw [eo]
  unfold D
  refine congrArg₂ (· + ·) (Finset.sum_congr rfl fun k _ => ?_) ?_
  · have h0 : (iblk m c 0 t : Vec Ideal S8x2048 .f32) (ix2 y1 k) = m ((c : Thread nD τ).loc main_arg0) (ix2 y1 k) := by
      blk_ext! [iblk, V, e0]
    rw [h0]
    refine Ideal.mul_congr rfl ?_
    blk_ext! [iblk, V, e1]
  · blk_ext! [iblk, V, e2]

/-- The result array after the run is `D` of the arguments. -/
theorem final (c : Dev nD) :
    (dats m 0 c).arrAt 3 cfg0.N
      = D (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Kernel

/-- `Cert.quiescent_AdaRefIdeal`: the reference's run read at its arguments; it declares no semaphore. -/
theorem frame_ref : Cert.quiescent_AdaRefIdeal := fun m g _ =>
  (θ_run Cert.AdaRefIdeal.defs _ _).mono (fun r h => ⟨fun c => (h c).2, sem_eq_zero_of_no_sems (by decide) r.2⟩)
    (Cert.AdaRefIdeal.Value.run m g)

/-- The algebraic claim: the kernel's result array and the reference's result are one function of equal arguments. -/
theorem agree : Cert.algebraic_AdaIdeal_AdaRefIdeal := by
  intro m g m' g' _ hargs
  refine ⟨fun c => (Cert.AdaIdeal.Gen.dats m 0 c).arrAt 3 Cert.AdaIdeal.cfg0.N, Cert.AdaIdeal.Value.run_blocks m g, ?_⟩
  refine (θ_run _ _ _).mono (fun r hr c => ?_) (Cert.AdaRefIdeal.Value.run m' g')
  obtain ⟨h0, h1, h2, h3⟩ := hr c
  refine ⟨?_, h1, h2, h3⟩
  obtain ⟨a0, a1, a2⟩ := hargs c
  rw [h0, Cert.AdaRefIdeal.Read.val_main_v20_eq, a0, a1, a2]
  exact (ref_eq _ _ _).trans (final m c).symm

end Cert.Proof.AdaClaim

end
-- ==== Proof.AbClaim.lean ====
/- The projection to the gated delta rule's gates: the result array and the reference's result are one function of the arguments. -/
module

public import proofs.«01_k».proof.Defs
public import proofs.«01_k».proof.Proof.Gen.GdnAb.Frame
public import proofs.«01_k».proof.Proof.Gen.GdnAbIdeal.Frame
public import proofs.«01_k».proof.Proof.Gen.GdnAbRefIdeal.Run
public import proofs.«01_k».proof.Proof.Gen.GdnAbRefIdeal.Read
public import proofs.«01_k».proof.Proof.DenseMath
public import Idealize.ShloMosaic.Lib.Quiescent

@[expose] public section

set_option maxRecDepth 16384

noncomputable section

namespace Cert.Proof.AbClaim

open Idealize.ShloMosaic Idealize.ShloMosaic.TcCoe Idealize.SL.Sem
open Cert.Proof.DenseMath

/-- The result array as one function of the arguments: each row times each of the columns from 12288 on. -/
def D (x0 : FVec Ideal Cert.GdnAbRefIdeal.S17408x2048 .bf16) (x1 : FVec Ideal Cert.GdnAbRefIdeal.S2048x12416 .f32)
    (o : Cert.GdnAbRefIdeal.S17408x128.Idx) : EReal := rowCol x0 x1 (ix2 (o 0) ⟨12288 + (o 1).val, Nat.add_lt_add_left (o 1).isLt 12288⟩)

section Reference

open Cert.GdnAbRefIdeal Cert.GdnAbRefIdeal.Read

/-- The reference's result is `D`. -/
theorem ref_eq (x0 : FVec Ideal S17408x2048 .bf16) (x1 : FVec Ideal S2048x12416 .f32)
    : val_main_v2 (F := Ideal) x0 x1 = D x0 x1 := by
  funext o
  idx_vars o
  unfold D rowCol
  pointwise [val_main_v2, val_main_v1, val_main_v0]

end Reference

section Kernel

open Cert.GdnAbIdeal Cert.GdnAbIdeal.Gen

variable (m : (ℓ : Loc nD τ sig) → Buf (Elt Ideal) ℓ)

/-- The rows' block at a point. -/
abbrev xblk (c : Dev nD) (t : Fin cfg0.N) : Vec Ideal S1024x2048 .bf16 := iblk m c 0 t
/-- The weights' block at a point. -/
abbrev wblk (c : Dev nD) (t : Fin cfg0.N) : Vec Ideal S2048x128 .f32 := iblk m c 1 t

/-- The first row tile of a column: the body converts the weights' block, keeps it, and multiplies with it. -/
theorem step_first (c : Dev nD) (t : Fin cfg0.N) (h : t.val % 17 = 0) :
    outsAt0 m c t.val t.isLt = (k0_pay2 (xblk m c t) (k0_pay1 (wblk m c t)), k0_pay1 (wblk m c t)) := by
  rw [outsAt0_A m c t h]
  unfold out0_A_2 sout0_A_0 kernelRun0_A
  dsimp only
  exact congrArg₂ Prod.mk
    ((View.read_writes_full _ _ _ _ _).trans (congrArg₂ k0_pay2 (readAt_whole _ _ (xblk m c t) _)
      ((View.readCov_full _ _ _ _ _).trans (congrArg k0_pay1 (readAt_whole _ _ (wblk m c t) _)))))
    ((View.read_writes_full _ _ _ _ _).trans (congrArg k0_pay1 (readAt_whole _ _ (wblk m c t) _)))

/-- A later row tile: the body multiplies with the block it kept. -/
theorem step_later (c : Dev nD) (t : Fin cfg0.N) (h : ¬ t.val % 17 = 0) :
    outsAt0 m c t.val t.isLt
      = (k0_pay2 (xblk m c t) (outsAt0 m c (t.val - 1) (lt_of_le_of_lt (Nat.sub_le _ _) t.isLt)).2,
          (outsAt0 m c (t.val - 1) (lt_of_le_of_lt (Nat.sub_le _ _) t.isLt)).2) := by
  rw [outsAt0_B m c t h]
  generalize (outsAt0 m c (t.val - 1) (lt_of_le_of_lt (Nat.sub_le _ _) t.isLt)).2 = xs
  unfold out0_B_2 sout0_B_0 kernelRun0_B
  dsimp only
  exact congrArg₂ Prod.mk
    ((View.read_writes_full _ _ _ _ _).trans (congrArg₂ k0_pay2 (readAt_whole _ _ (xblk m c t) _) (readAt_whole _ _ xs _))) rfl

/-- A point's column of blocks. -/
theorem column : ∀ t : Fin grid0.N, (grid0.coords t 0).val = t.val / 17 := by decide +kernel
/-- The places of the three windows' blocks. -/
theorem place0 : ∀ i : grid0.Coords, cc0_transform_0 i = ![(i 1).val, 0] := by decide +kernel
theorem place1 : ∀ i : grid0.Coords, cc0_transform_1 i = ![0, (i 0).val + 96] := by decide +kernel
theorem place2 : ∀ i : grid0.Coords, cc0_transform_2 i = ![(i 1).val, (i 0).val] := by decide +kernel

/-- An entry of the rows' block. -/
theorem rows_read (c : Dev nD) (t : Fin cfg0.N) (r : Fin 1024) (k : Fin 2048) (R : Fin 17408) (hR : (grid0.coords t 1).val * 1024 + r.val = R.val) :
    xblk m c t (ix2 r k) = m ((c : Thread nD τ).loc main_arg0) (ix2 R k) :=
  congrArg (m ((c : Thread nD τ).loc main_arg0)) (block_ix _ (cc0_transform_0 (grid0.coords t)) S1024x2048.size (fun d => (ix2 r k d).val) (fun _ => rfl)
    (by rw [place0]; exact hR) (by rw [place0]; exact Nat.zero_add k.val))

/-- An entry of the weights' block. -/
theorem cols_read (c : Dev nD) (t : Fin cfg0.N) (k : Fin 2048) (j : Fin 128) (J : Fin 12416) (hJ : ((grid0.coords t 0).val + 96) * 128 + j.val = J.val) :
    wblk m c t (ix2 k j) = m ((c : Thread nD τ).loc main_arg1) (ix2 k J) :=
  congrArg (m ((c : Thread nD τ).loc main_arg1)) (block_ix _ (cc0_transform_1 (grid0.coords t)) S2048x128.size (fun d => (ix2 k j d).val) (fun _ => rfl)
    (by rw [place1]; exact Nat.zero_add k.val) (by rw [place1]; exact hJ))

/-- What a point stores, entry by entry. -/
theorem pay_read (x : FVec Ideal S1024x2048 .bf16) (w : FVec Ideal S2048x128 .f32) (r : Fin 1024) (j : Fin 128) :
    k0_pay2 (F := Ideal) x (k0_pay1 (F := Ideal) w) (ix2 r j) = ∑ k : Fin 2048, x (ix2 r k) * w (ix2 k j) := by
  pointwise [k0_pay2, k0_pay1]

/-- What point `t` stores is the product of the arguments at the place of its block. -/
theorem point (c : Dev nD) (t : Fin cfg0.N) (y : S1024x128.Idx) :
    (outsAt0 m c t.val t.isLt).1 y
      = D (m ((c : Thread nD τ).loc main_arg0)) (m ((c : Thread nD τ).loc main_arg1)) (((cfg0.win 2).blk t).view.emb y) := by
  idx_vars y
  have h0 : (grid0.coords t 0).val < 1 := (grid0.coords t 0).isLt
  have h1 : (grid0.coords t 1).val < 17 := (grid0.coords t 1).isLt
  have eo : ((cfg0.win 2).blk t).view.emb (ix2 y0 y1)
      = ix2 (⟨(grid0.coords t 1).val * 1024 + y0, by omega⟩ : Fin 17408) (⟨(grid0.coords t 0).val * 128 + y1, by omega⟩ : Fin 128) :=
    block_ix _ (cc0_transform_2 (grid0.coords t)) S1024x128.size (fun d => (ix2 y0 y1 d).val) (fun _ => rfl) (by rw [place2]; rfl)
      (by rw [place2]; rfl)
  rw [eo]
  refine tiled (K := 17) (I := fun n hn => (grid0.coords ⟨n, hn⟩ 1).val) (J := fun n hn => (grid0.coords ⟨n, hn⟩ 0).val + 96) pay_read
    (fun n hn => step_first m c ⟨n, hn⟩) (fun n hn => step_later m c ⟨n, hn⟩) (fun n hn => rows_read m c ⟨n, hn⟩)
    (fun n hn => cols_read m c ⟨n, hn⟩) (fun n hn => ?_)
    (fun n hn h => congrArg (· + 96) ((column ⟨n - 1, _⟩).trans ((div_pred h).trans (column ⟨n, hn⟩).symm))) t.val t.isLt y0 y1 _ _ rfl ?_
  · have h : (grid0.coords ⟨n, hn⟩ 0).val < 1 := (grid0.coords ⟨n, hn⟩ 0).isLt
    omega
  · show ((grid0.coords t 0).val + 96) * 128 + y1.val = 12288 + ((grid0.coords t 0).val * 128 + y1.val)
    omega

/-- The output blocks cover the result array. -/
theorem covers : (cfg0.win 2).Covers := by decide +kernel

/-- The result array after the run is the product of the arguments. -/
theorem final (c : Dev nD) :
    (dats m 0 c).arrAt 2 cfg0.N = D (m ((c : Thread nD τ).loc main_arg0)) (m ((c : Thread nD τ).loc main_arg1)) :=
  (dats m 0 c).arrAt_eq_of_covers 2 _ covers fun t _ y => point m c t y

end Kernel

/-- `Cert.quiescent_GdnAbRefIdeal`: the reference's run read at its arguments; it declares no semaphore. -/
theorem frame_ref : Cert.quiescent_GdnAbRefIdeal := fun m g _ =>
  (θ_run Cert.GdnAbRefIdeal.defs _ _).mono (fun r h => ⟨fun c => (h c).2, sem_eq_zero_of_no_sems (by decide) r.2⟩)
    (Cert.GdnAbRefIdeal.Value.run m g)

/-- The algebraic claim: the kernel's result array and the reference's result are one function of equal arguments. -/
theorem agree : Cert.algebraic_GdnAbIdeal_GdnAbRefIdeal := by
  intro m g m' g' _ hargs
  refine ⟨fun c => (Cert.GdnAbIdeal.Gen.dats m 0 c).arrAt 2 Cert.GdnAbIdeal.cfg0.N, ?_, ?_⟩
  · exact (θ_run _ _ _).mono (fun r h c => ⟨(h.1 c).1 2, h.2 c⟩) (θ_run_and (Cert.GdnAbIdeal.Gen.run_main m g) (Cert.GdnAbIdeal.Gen.unchanged m g))
  refine (θ_run _ _ _).mono (fun r hr c => ?_) (Cert.GdnAbRefIdeal.Value.run m' g')
  obtain ⟨h0, h1, h2⟩ := hr c
  refine ⟨?_, h1, h2⟩
  obtain ⟨a0, a1⟩ := hargs c
  rw [h0, Cert.GdnAbRefIdeal.Read.val_main_v2_eq, a0, a1]
  exact (ref_eq _ _).trans (final m c).symm

end Cert.Proof.AbClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.Gen.KernelIdeal.Value
public import proofs.«01_k».proof.Proof.Gen.ReferenceIdeal.Run
public import proofs.«01_k».proof.Proof.Gen.ReferenceIdeal.Read
public import proofs.«01_k».proof.Proof.AttnClaim
public import proofs.«01_k».proof.Proof.DownClaim
public import proofs.«01_k».proof.Proof.UpClaim
public import proofs.«01_k».proof.Proof.InClaim
public import proofs.«01_k».proof.Proof.FfnClaim
public import proofs.«01_k».proof.Proof.FdClaim
public import proofs.«01_k».proof.Proof.GoClaim
public import proofs.«01_k».proof.Proof.DiClaim
public import proofs.«01_k».proof.Proof.DoClaim
public import proofs.«01_k».proof.Proof.NormClaim
public import proofs.«01_k».proof.Proof.ResClaim
public import proofs.«01_k».proof.Proof.ModClaim
public import proofs.«01_k».proof.Proof.AdaClaim
public import proofs.«01_k».proof.Proof.AbClaim

public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.ExpertUp.Gen.facts, Cert.ExpertUpIdeal.Gen.facts, Cert.ExpertUpRefIdeal.Gen.facts,
  Cert.ExpertDown.Gen.facts, Cert.ExpertDownIdeal.Gen.facts, Cert.ExpertDownRefIdeal.Gen.facts,
  Cert.GdnIn.Gen.facts, Cert.GdnInIdeal.Gen.facts, Cert.GdnInRefIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.GdnOut.Gen.facts, Cert.GdnOutIdeal.Gen.facts, Cert.GdnOutRefIdeal.Gen.facts,
  Cert.DiffIn.Gen.facts, Cert.DiffInIdeal.Gen.facts, Cert.DiffInRefIdeal.Gen.facts,
  Cert.DiffOut.Gen.facts, Cert.DiffOutIdeal.Gen.facts, Cert.DiffOutRefIdeal.Gen.facts,
  Cert.GdnAb.Gen.facts, Cert.GdnAbIdeal.Gen.facts, Cert.GdnAbRefIdeal.Gen.facts,
  Cert.Ada.Gen.facts, Cert.AdaIdeal.Gen.facts, Cert.AdaRefIdeal.Gen.facts,
  Cert.NormGate.Gen.facts, Cert.NormGateIdeal.Gen.facts, Cert.NormGateRefIdeal.Gen.facts,
  Cert.ResLn.Gen.facts, Cert.ResLnIdeal.Gen.facts, Cert.ResLnRefIdeal.Gen.facts,
  Cert.Modulate.Gen.facts, Cert.ModulateIdeal.Gen.facts, Cert.ModulateRefIdeal.Gen.facts,
  Cert.Pre_finite_qk.Gen.facts, Cert.Pre_tables_up.Gen.facts, Cert.Pre_tables_down.Gen.facts,
  fun m g _ => Cert.Kernel.Gen.frame m g, fun m g _ => Cert.KernelIdeal.Gen.frame m g,
  fun m g _ => Cert.KernelIdeal.Gen.frame m g, AttnClaim.frame_ref, fun m g _ => AttnClaim.frame_ref m g trivial,
  UpClaim.frame, UpClaim.frame_ideal, UpClaim.frame_ref, fun m g _ => UpClaim.frame_ref m g trivial,
  DownClaim.frame, DownClaim.frame_ideal, DownClaim.frame_ref, fun m g _ => DownClaim.frame_ref m g trivial,
  fun m g _ => Cert.GdnIn.Gen.frame m g, fun m g _ => Cert.GdnInIdeal.Gen.frame m g, InClaim.frame_ref,
  fun m g _ => Cert.FfnUp.Gen.frame m g, fun m g _ => Cert.FfnUpIdeal.Gen.frame m g, FfnClaim.frame_ref,
  fun m g _ => Cert.FfnDown.Gen.frame m g, fun m g _ => Cert.FfnDownIdeal.Gen.frame m g, FdClaim.frame_ref,
  fun m g _ => Cert.GdnOut.Gen.frame m g, fun m g _ => Cert.GdnOutIdeal.Gen.frame m g, GoClaim.frame_ref,
  fun m g _ => Cert.DiffIn.Gen.frame m g, fun m g _ => Cert.DiffInIdeal.Gen.frame m g, DiClaim.frame_ref,
  fun m g _ => Cert.DiffOut.Gen.frame m g, fun m g _ => Cert.DiffOutIdeal.Gen.frame m g, DoClaim.frame_ref,
  fun m g _ => Cert.GdnAb.Gen.frame m g, fun m g _ => Cert.GdnAbIdeal.Gen.frame m g, AbClaim.frame_ref,
  fun m g _ => Cert.Ada.Gen.frame m g, fun m g _ => Cert.AdaIdeal.Gen.frame m g, AdaClaim.frame_ref,
  fun m g _ => Cert.NormGate.Gen.frame m g, fun m g _ => Cert.NormGateIdeal.Gen.frame m g, NormClaim.frame_ref,
  fun m g _ => Cert.ResLn.Gen.frame m g, fun m g _ => Cert.ResLnIdeal.Gen.frame m g, ResClaim.frame_ref,
  fun m g _ => Cert.Modulate.Gen.frame m g, fun m g _ => Cert.ModulateIdeal.Gen.frame m g, ModClaim.frame_ref,
  trivial, AttnClaim.agree, trivial, UpClaim.agree, trivial, DownClaim.agree,
  trivial, InClaim.agree, trivial, FfnClaim.agree, trivial, FdClaim.agree, trivial, GoClaim.agree,
  trivial, DiClaim.agree, trivial, DoClaim.agree, trivial, AbClaim.agree, trivial, AdaClaim.agree, trivial, NormClaim.agree,
  trivial, ResClaim.agree, trivial, ModClaim.agree⟩

end Cert.Proof

end
